-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v19) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v36) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v9)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v9) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S2x8192x14336 : Shape := ⟨3, ![2, 8192, 14336]⟩
abbrev S1x4x2048 : Shape := ⟨3, ![1, 4, 2048]⟩
abbrev S1x2048 : Shape := ⟨2, ![1, 2048]⟩
abbrev S1x2x8x256x256 : Shape := ⟨5, ![1, 2, 8, 256, 256]⟩
abbrev S1x2x2048 : Shape := ⟨3, ![1, 2, 2048]⟩
abbrev S4x2048 : Shape := ⟨2, ![4, 2048]⟩
abbrev S2048 : Shape := ⟨1, ![2048]⟩
abbrev S2x8x256x256 : Shape := ⟨4, ![2, 8, 256, 256]⟩
abbrev S2x2048 : Shape := ⟨2, ![2, 2048]⟩
abbrev S2x1x2048 : Shape := ⟨3, ![2, 1, 2048]⟩
abbrev S2x8192x2048 : Shape := ⟨3, ![2, 8192, 2048]⟩
abbrev S1x256x2048 : Shape := ⟨3, ![1, 256, 2048]⟩
abbrev S1x16x2048 : Shape := ⟨3, ![1, 16, 2048]⟩
abbrev S1x8x256x256 : Shape := ⟨4, ![1, 8, 256, 256]⟩
abbrev S1x1x2048 : Shape := ⟨3, ![1, 1, 2048]⟩
abbrev S288x2048 : Shape := ⟨2, ![288, 2048]⟩
abbrev S256x2048 : Shape := ⟨2, ![256, 2048]⟩
abbrev S16x2048 : Shape := ⟨2, ![16, 2048]⟩
abbrev S256x256 : Shape := ⟨2, ![256, 256]⟩
abbrev S1x1x256x256 : Shape := ⟨4, ![1, 1, 256, 256]⟩
abbrev S1x256 : Shape := ⟨2, ![1, 256]⟩

abbrev nBuf : Space → Nat
  | .hbm => 22
  | .vmem => 19
  | .smem => 0
  | _ => 0

abbrev bufTy : (tb : Table) → Fin (tcTables nBuf tb) → BufTy
  | .hbm, ⟨0, _⟩ => ⟨S2x8192x14336, .bf16⟩
  | .hbm, ⟨1, _⟩ => ⟨S1x4x2048, .f32⟩
  | .hbm, ⟨2, _⟩ => ⟨S1x2048, .f32⟩
  | .hbm, ⟨3, _⟩ => ⟨S1x2x8x256x256, .f32⟩
  | .hbm, ⟨4, _⟩ => ⟨S1x2x2048, .f32⟩
  | .hbm, ⟨5, _⟩ => ⟨S1x2x8x256x256, .f32⟩
  | .hbm, ⟨6, _⟩ => ⟨S1x2x2048, .f32⟩
  | .hbm, ⟨7, _⟩ => ⟨S1x2x2048, .f32⟩
  | .hbm, ⟨8, _⟩ => ⟨S4x2048, .f32⟩
  | .hbm, ⟨9, _⟩ => ⟨S2048, .f32⟩
  | .hbm, ⟨10, _⟩ => ⟨S2x8x256x256, .f32⟩
  | .hbm, ⟨11, _⟩ => ⟨S2x8x256x256, .bf16⟩
  | .hbm, ⟨12, _⟩ => ⟨S2x2048, .f32⟩
  | .hbm, ⟨13, _⟩ => ⟨S2x8x256x256, .f32⟩
  | .hbm, ⟨14, _⟩ => ⟨S2x8x256x256, .bf16⟩
  | .hbm, ⟨15, _⟩ => ⟨S2x2048, .f32⟩
  | .hbm, ⟨16, _⟩ => ⟨S2x2048, .f32⟩
  | .hbm, ⟨17, _⟩ => ⟨S1x2048, .f32⟩
  | .hbm, ⟨18, _⟩ => ⟨S2x1x2048, .f32⟩
  | .hbm, ⟨19, _⟩ => ⟨S2x1x2048, .f32⟩
  | .hbm, ⟨20, _⟩ => ⟨S2x1x2048, .f32⟩
  | .hbm, ⟨21, _⟩ => ⟨S2x8192x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x16x2048, .bf16⟩
  | .local _ .vmem, ⟨3, _⟩ => ⟨S1x16x2048, .bf16⟩
  | .local _ .vmem, ⟨4, _⟩ => ⟨S1x16x2048, .bf16⟩
  | .local _ .vmem, ⟨5, _⟩ => ⟨S1x16x2048, .bf16⟩
  | .local _ .vmem, ⟨6, _⟩ => ⟨S4x2048, .f32⟩
  | .local _ .vmem, ⟨7, _⟩ => ⟨S1x2048, .f32⟩
  | .local _ .vmem, ⟨8, _⟩ => ⟨S1x8x256x256, .bf16⟩
  | .local _ .vmem, ⟨9, _⟩ => ⟨S1x1x2048, .f32⟩
  | .local _ .vmem, ⟨10, _⟩ => ⟨S1x8x256x256, .bf16⟩
  | .local _ .vmem, ⟨11, _⟩ => ⟨S1x1x2048, .f32⟩
  | .local _ .vmem, ⟨12, _⟩ => ⟨S1x1x2048, .f32⟩
  | .local _ .vmem, ⟨13, _⟩ => ⟨S1x256x2048, .f32⟩
  | .local _ .vmem, ⟨14, _⟩ => ⟨S1x256x2048, .f32⟩
  | .local _ .vmem, ⟨15, _⟩ => ⟨S288x2048, .f32⟩
  | .local _ .vmem, ⟨16, _⟩ => ⟨S256x2048, .f32⟩
  | .local _ .vmem, ⟨17, _⟩ => ⟨S256x2048, .f32⟩
  | .local _ .vmem, ⟨18, _⟩ => ⟨S1x2048, .f32⟩
  | _, _ => ⟨S2x8192x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_242 : BitVec 32 := 0#32
  let c256_i32 : BitVec 32 := 256#32
  let v455 : BitVec 32 := Scalar.addi c0_i32_242 c256_i32
  let c1_i32 : BitVec 32 := 1#32
  ⟨c0_i32_242, v455, c1_i32⟩
def k0_off1 (k0_t1 : Fin k0_t1_loop.trips) : Fin 2 → Nat :=
  let c0_i32_242 : BitVec 32 := 0#32
  let c1_i32 : BitVec 32 := 1#32
  let arg17 : BitVec 32 := Scf.iv c0_i32_242 c1_i32 k0_t1
  let v464 : Index := Scalar.indexCast arg17
  let c0_251 : Index := 0#32
  ![v464.toNat, 0]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c1_i32_0 : BitVec 32 := 1#32
  let c0_i32 : BitVec 32 := 0#32
  ![arg0.toNat, v2.toNat, c1_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x8x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S2x8192x14336 : Shape := ⟨3, ![2, 8192, 14336]⟩
abbrev S1x4x2048 : Shape := ⟨3, ![1, 4, 2048]⟩
abbrev S1x2048 : Shape := ⟨2, ![1, 2048]⟩
abbrev S1x2x8x256x256 : Shape := ⟨5, ![1, 2, 8, 256, 256]⟩
abbrev S1x2x2048 : Shape := ⟨3, ![1, 2, 2048]⟩
abbrev S2x8192x2048 : Shape := ⟨3, ![2, 8192, 2048]⟩
abbrev S4x2048 : Shape := ⟨2, ![4, 2048]⟩
abbrev S2048 : Shape := ⟨1, ![2048]⟩
abbrev S_ : Shape := ⟨0, ![]⟩
abbrev S2x8195x2048 : Shape := ⟨3, ![2, 8195, 2048]⟩
abbrev S1x1x2048 : Shape := ⟨3, ![1, 1, 2048]⟩
abbrev S1x1x8x256x256 : Shape := ⟨5, ![1, 1, 8, 256, 256]⟩
abbrev S8x256x256 : Shape := ⟨3, ![8, 256, 256]⟩
abbrev S2x8192x8x256 : Shape := ⟨4, ![2, 8192, 8, 256]⟩
abbrev S8x256x2x8192 : Shape := ⟨4, ![8, 256, 2, 8192]⟩
abbrev S2x2048 : Shape := ⟨2, ![2, 2048]⟩
abbrev S8192x2x2048 : Shape := ⟨3, ![8192, 2, 2048]⟩

abbrev nBuf : Space → Nat
  | .hbm => 146
  | .vmem => 0
  | .smem => 0
  | _ => 0

abbrev hbmTy0_0 (i : Nat) : BufTy := match i % 128 with
  | 0 => ⟨S2x8192x14336, .bf16⟩
  | 1 => ⟨S1x4x2048, .f32⟩
  | 2 => ⟨S1x2048, .f32⟩
  | 3 => ⟨S1x2x8x256x256, .f32⟩
  | 4 => ⟨S1x2x2048, .f32⟩
  | 5 => ⟨S1x2x8x256x256, .f32⟩
  | 6 => ⟨S1x2x2048, .f32⟩
  | 7 => ⟨S1x2x2048, .f32⟩
  | 8 => ⟨S2x8192x2048, .bf16⟩
  | 9 => ⟨S2x8192x2048, .f32⟩
  | 10 => ⟨S4x2048, .f32⟩
  | 11 => ⟨S2048, .f32⟩
  | 12 => ⟨S_, .i32⟩
  | 13 => ⟨S_, .f32⟩
  | 14 => ⟨S2x8195x2048, .f32⟩
  | 15 => ⟨S2x8192x2048, .f32⟩
  | 16 => ⟨S1x2048, .f32⟩
  | 17 => ⟨S2048, .f32⟩
  | 18 => ⟨S1x1x2048, .f32⟩
  | 19 => ⟨S2x8192x2048, .f32⟩
  | 20 => ⟨S2x8192x2048, .f32⟩
  | 21 => ⟨S2x8192x2048, .f32⟩
  | 22 => ⟨S1x2048, .f32⟩
  | 23 => ⟨S2048, .f32⟩
  | 24 => ⟨S1x1x2048, .f32⟩
  | 25 => ⟨S2x8192x2048, .f32⟩
  | 26 => ⟨S2x8192x2048, .f32⟩
  | 27 => ⟨S2x8192x2048, .f32⟩
  | 28 => ⟨S2x8192x2048, .f32⟩
  | 29 => ⟨S1x2048, .f32⟩
  | 30 => ⟨S2048, .f32⟩
  | 31 => ⟨S1x1x2048, .f32⟩
  | 32 => ⟨S2x8192x2048, .f32⟩
  | 33 => ⟨S2x8192x2048, .f32⟩
  | 34 => ⟨S2x8192x2048, .f32⟩
  | 35 => ⟨S2x8192x2048, .f32⟩
  | 36 => ⟨S1x2048, .f32⟩
  | 37 => ⟨S2048, .f32⟩
  | 38 => ⟨S1x1x2048, .f32⟩
  | 39 => ⟨S2x8192x2048, .f32⟩
  | 40 => ⟨S2x8192x2048, .f32⟩
  | 41 => ⟨S2x8192x2048, .f32⟩
  | 42 => ⟨S1x1x2048, .f32⟩
  | 43 => ⟨S2x8192x2048, .f32⟩
  | 44 => ⟨S2x8192x2048, .f32⟩
  | 45 => ⟨S1x1x8x256x256, .f32⟩
  | 46 => ⟨S8x256x256, .f32⟩
  | 47 => ⟨S1x1x2048, .f32⟩
  | 48 => ⟨S2048, .f32⟩
  | 49 => ⟨S1x1x8x256x256, .f32⟩
  | 50 => ⟨S8x256x256, .f32⟩
  | 51 => ⟨S1x1x2048, .f32⟩
  | 52 => ⟨S2048, .f32⟩
  | 53 => ⟨S1x1x2048, .f32⟩
  | 54 => ⟨S2048, .f32⟩
  | 55 => ⟨S2x8192x8x256, .f32⟩
  | 56 => ⟨S8x256x2x8192, .f32⟩
  | 57 => ⟨S2x8192x8x256, .f32⟩
  | 58 => ⟨S2x8192x2048, .f32⟩
  | 59 => ⟨S1x1x2048, .f32⟩
  | 60 => ⟨S2x8192x2048, .f32⟩
  | 61 => ⟨S2x8192x2048, .f32⟩
  | 62 => ⟨S2x8192x2048, .f32⟩
  | 63 => ⟨S2x8192x2048, .f32⟩
  | 64 => ⟨S_, .f32⟩
  | 65 => ⟨S2x8192x2048, .f32⟩
  | 66 => ⟨S2x8192x2048, .f32⟩
  | 67 => ⟨S_, .f32⟩
  | 68 => ⟨S2x8192x2048, .f32⟩
  | 69 => ⟨S2x8192x2048, .f32⟩
  | 70 => ⟨S2x8192x8x256, .f32⟩
  | 71 => ⟨S8x256x2x8192, .f32⟩
  | 72 => ⟨S2x8192x8x256, .f32⟩
  | 73 => ⟨S2x8192x2048, .f32⟩
  | 74 => ⟨S1x1x2048, .f32⟩
  | 75 => ⟨S2x8192x2048, .f32⟩
  | 76 => ⟨S2x8192x2048, .f32⟩
  | 77 => ⟨S2x8192x2048, .f32⟩
  | 78 => ⟨S2x8192x2048, .f32⟩
  | 79 => ⟨S_, .f32⟩
  | 80 => ⟨S2x8192x2048, .f32⟩
  | 81 => ⟨S2x8192x2048, .f32⟩
  | 82 => ⟨S_, .f32⟩
  | 83 => ⟨S2x8192x2048, .f32⟩
  | 84 => ⟨S2x8192x2048, .f32⟩
  | 85 => ⟨S_, .f32⟩
  | 86 => ⟨S2x8192x2048, .f32⟩
  | 87 => ⟨S2x8192x2048, .f32⟩
  | 88 => ⟨S2048, .f32⟩
  | 89 => ⟨S_, .f32⟩
  | 90 => ⟨S2048, .f32⟩
  | 91 => ⟨S2048, .f32⟩
  | 92 => ⟨S2048, .f32⟩
  | 93 => ⟨S2048, .f32⟩
  | 94 => ⟨S2048, .i1⟩
  | 95 => ⟨S2048, .f32⟩
  | 96 => ⟨S2048, .f32⟩
  | 97 => ⟨S2048, .f32⟩
  | 98 => ⟨S2048, .f32⟩
  | 99 => ⟨S2048, .f32⟩
  | 100 => ⟨S2048, .f32⟩
  | 101 => ⟨S2048, .f32⟩
  | 102 => ⟨S2048, .f32⟩
  | 103 => ⟨S1x1x2048, .f32⟩
  | 104 => ⟨S2x8192x2048, .f32⟩
  | 105 => ⟨S2x8192x2048, .f32⟩
  | 106 => ⟨S2x8192x2048, .f32⟩
  | 107 => ⟨S_, .f32⟩
  | 108 => ⟨S2x8192x2048, .f32⟩
  | 109 => ⟨S2x8192x2048, .f32⟩
  | 110 => ⟨S2x8192x2048, .f32⟩
  | 111 => ⟨S2x8192x2048, .f32⟩
  | 112 => ⟨S2x8192x2048, .f32⟩
  | 113 => ⟨S2x8192x2048, .f32⟩
  | 114 => ⟨S2x8192x2048, .f32⟩
  | 115 => ⟨S_, .f32⟩
  | 116 => ⟨S2x2048, .f32⟩
  | 117 => ⟨S8192x2x2048, .f32⟩
  | 118 => ⟨S8192x2x2048, .f32⟩
  | 119 => ⟨S_, .f32⟩
  | 120 => ⟨S8192x2x2048, .f32⟩
  | 121 => ⟨S_, .i32⟩
  | 122 => ⟨S8192x2x2048, .f32⟩
  | 123 => ⟨S8192x2x2048, .f32⟩
  | 124 => ⟨S_, .i32⟩
  | 125 => ⟨S2x2048, .f32⟩
  | 126 => ⟨S8192x2x2048, .f32⟩
  | 127 => ⟨S_, .i32⟩
  | _ => ⟨S2x8192x14336, .bf16⟩

abbrev hbmTy0_1 (i : Nat) : BufTy := match i % 128 with
  | 0 => ⟨S_, .i1⟩
  | 1 => ⟨S_, .i32⟩
  | 2 => ⟨S_, .i32⟩
  | 3 => ⟨S1x2x2048, .f32⟩
  | 4 => ⟨S2x2048, .f32⟩
  | 5 => ⟨S_, .i32⟩
  | 6 => ⟨S_, .i32⟩
  | 7 => ⟨S1x2x2048, .f32⟩
  | 8 => ⟨S2x2048, .f32⟩
  | 9 => ⟨S2x2048, .f32⟩
  | 10 => ⟨S2x2048, .f32⟩
  | 11 => ⟨S1x2x2048, .f32⟩
  | 12 => ⟨S_, .i32⟩
  | 13 => ⟨S_, .i32⟩
  | 14 => ⟨S8192x2x2048, .f32⟩
  | 15 => ⟨S_, .i32⟩
  | 16 => ⟨S_, .i32⟩
  | 17 => ⟨S2x8192x2048, .f32⟩
  | _ => ⟨S2x8192x14336, .bf16⟩

abbrev hbmTy (i : Nat) : BufTy := match i / 128 with
  | 0 => hbmTy0_0 i
  | 1 => hbmTy0_1 i
  | _ => ⟨S2x8192x14336, .bf16⟩

abbrev bufTy : (tb : Table) → Fin (tcTables nBuf tb) → BufTy
  | .hbm, ⟨i, _⟩ => hbmTy i
  | _, _ => ⟨S2x8192x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst : Ref sig .tc := ⟨.hbm, 64, rfl⟩
abbrev main_v54 : Ref sig .tc := ⟨.hbm, 65, rfl⟩
abbrev main_v55 : Ref sig .tc := ⟨.hbm, 66, rfl⟩
abbrev main_cst_0 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_1 : Ref sig .tc := ⟨.hbm, 79, rfl⟩
abbrev main_v67 : Ref sig .tc := ⟨.hbm, 80, rfl⟩
abbrev main_v68 : Ref sig .tc := ⟨.hbm, 81, rfl⟩
abbrev main_cst_2 : Ref sig .tc := ⟨.hbm, 82, rfl⟩
abbrev main_v69 : Ref sig .tc := ⟨.hbm, 83, rfl⟩
abbrev main_v70 : Ref sig .tc := ⟨.hbm, 84, rfl⟩
abbrev main_cst_3 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_4 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_5 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_6 : Ref sig .tc := ⟨.hbm, 119, rfl⟩
abbrev main_v89 : Ref sig .tc := ⟨.hbm, 120, rfl⟩
abbrev main_c_7 : Ref sig .tc := ⟨.hbm, 121, rfl⟩
abbrev main_v90_0 : Ref sig .tc := ⟨.hbm, 122, rfl⟩
abbrev main_v90_1 : Ref sig .tc := ⟨.hbm, 123, rfl⟩
abbrev main_v90_2 : Ref sig .tc := ⟨.hbm, 124, rfl⟩
abbrev main_v90_3 : Ref sig .tc := ⟨.hbm, 125, rfl⟩
abbrev main_v90_4 : Ref sig .tc := ⟨.hbm, 126, rfl⟩
abbrev main_while0c_c_12 : Ref sig .tc := ⟨.hbm, 127, rfl⟩
abbrev main_while0c_v92 : Ref sig .tc := ⟨.hbm, 128, rfl⟩
abbrev main_while0b_call2_c : Ref sig .tc := ⟨.hbm, 129, rfl⟩
abbrev main_while0b_call2_c_0 : Ref sig .tc := ⟨.hbm, 130, rfl⟩
abbrev main_while0b_call2_v0 : Ref sig .tc := ⟨.hbm, 131, rfl⟩
abbrev main_while0b_v92 : Ref sig .tc := ⟨.hbm, 132, rfl⟩
abbrev main_while0b_call3_c : Ref sig .tc := ⟨.hbm, 133, rfl⟩
abbrev main_while0b_call3_c_0 : Ref sig .tc := ⟨.hbm, 134, rfl⟩
abbrev main_while0b_call3_v0 : Ref sig .tc := ⟨.hbm, 135, rfl⟩
abbrev main_while0b_v93 : Ref sig .tc := ⟨.hbm, 136, rfl⟩
abbrev main_while0b_v94 : Ref sig .tc := ⟨.hbm, 137, rfl⟩
abbrev main_while0b_v95 : Ref sig .tc := ⟨.hbm, 138, rfl⟩
abbrev main_while0b_call4_v0 : Ref sig .tc := ⟨.hbm, 139, rfl⟩
abbrev main_while0b_call4_c : Ref sig .tc := ⟨.hbm, 140, rfl⟩
abbrev main_while0b_call4_c_0 : Ref sig .tc := ⟨.hbm, 141, rfl⟩
abbrev main_while0b_v96 : Ref sig .tc := ⟨.hbm, 142, rfl⟩
abbrev main_while0b_c_12 : Ref sig .tc := ⟨.hbm, 143, rfl⟩
abbrev main_while0b_v97 : Ref sig .tc := ⟨.hbm, 144, rfl⟩
abbrev main_v91 : Ref sig .tc := ⟨.hbm, 145, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S16384x4096 : Shape := ⟨2, ![16384, 4096]⟩
abbrev S1x4096x14336 : Shape := ⟨3, ![1, 4096, 14336]⟩
abbrev S4096x14336 : Shape := ⟨2, ![4096, 14336]⟩
abbrev S16384x14336 : Shape := ⟨2, ![16384, 14336]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x14336, .f32⟩
  | .hbm, ⟨2, _⟩ => ⟨S4096x14336, .f32⟩
  | .hbm, ⟨3, _⟩ => ⟨S4096x14336, .bf16⟩
  | .hbm, ⟨4, _⟩ => ⟨S16384x14336, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S16384x4096 : Shape := ⟨2, ![16384, 4096]⟩
abbrev S1x4096x14336 : Shape := ⟨3, ![1, 4096, 14336]⟩
abbrev S4096x14336 : Shape := ⟨2, ![4096, 14336]⟩
abbrev S16384x14336 : Shape := ⟨2, ![16384, 14336]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x14336, .f32⟩
  | .hbm, ⟨2, _⟩ => ⟨S16384x4096, .f32⟩
  | .hbm, ⟨3, _⟩ => ⟨S4096x14336, .f32⟩
  | .hbm, ⟨4, _⟩ => ⟨S16384x14336, .f32⟩
  | .hbm, ⟨5, _⟩ => ⟨S16384x14336, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S16384x4096 : Shape := ⟨2, ![16384, 4096]⟩
abbrev S1x4096x8192 : Shape := ⟨3, ![1, 4096, 8192]⟩
abbrev S16384x8192 : Shape := ⟨2, ![16384, 8192]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x8192, .f32⟩
  | .hbm, ⟨2, _⟩ => ⟨S1x4096x8192, .f32⟩
  | .hbm, ⟨3, _⟩ => ⟨S1x4096x8192, .bf16⟩
  | .hbm, ⟨4, _⟩ => ⟨S1x4096x8192, .bf16⟩
  | .hbm, ⟨5, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1024x512, .bf16⟩
  | .local _ .vmem, ⟨7, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x4096 : Shape := ⟨2, ![16384, 4096]⟩
abbrev S1x4096x8192 : Shape := ⟨3, ![1, 4096, 8192]⟩
abbrev S4096x8192 : Shape := ⟨2, ![4096, 8192]⟩
abbrev S16384x8192 : Shape := ⟨2, ![16384, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x8192, .f32⟩
  | .hbm, ⟨2, _⟩ => ⟨S1x4096x8192, .f32⟩
  | .hbm, ⟨3, _⟩ => ⟨S16384x4096, .f32⟩
  | .hbm, ⟨4, _⟩ => ⟨S4096x8192, .f32⟩
  | .hbm, ⟨5, _⟩ => ⟨S16384x8192, .f32⟩
  | .hbm, ⟨6, _⟩ => ⟨S4096x8192, .f32⟩
  | .hbm, ⟨7, _⟩ => ⟨S16384x8192, .f32⟩
  | .hbm, ⟨8, _⟩ => ⟨S16384x8192, .f32⟩
  | .hbm, ⟨9, _⟩ => ⟨S16384x8192, .f32⟩
  | .hbm, ⟨10, _⟩ => ⟨S_, .f32⟩
  | .hbm, ⟨11, _⟩ => ⟨S16384x8192, .f32⟩
  | .hbm, ⟨12, _⟩ => ⟨S16384x8192, .f32⟩
  | .hbm, ⟨13, _⟩ => ⟨S_, .f32⟩
  | .hbm, ⟨14, _⟩ => ⟨S16384x8192, .f32⟩
  | .hbm, ⟨15, _⟩ => ⟨S16384x8192, .f32⟩
  | .hbm, ⟨16, _⟩ => ⟨S16384x8192, .f32⟩
  | .hbm, ⟨17, _⟩ => ⟨S16384x8192, .f32⟩
  | .hbm, ⟨18, _⟩ => ⟨S16384x8192, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel4.lean ====
abbrev S16384x8192 : Shape := ⟨2, ![16384, 8192]⟩
abbrev S1x8192x4096 : Shape := ⟨3, ![1, 8192, 4096]⟩
abbrev S16384x4096 : Shape := ⟨2, ![16384, 4096]⟩
abbrev S2x1x4096 : Shape := ⟨3, ![2, 1, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S16384x8192, .bf16⟩
  | .hbm, ⟨1, _⟩ => ⟨S1x8192x4096, .f32⟩
  | .hbm, ⟨2, _⟩ => ⟨S16384x4096, .f32⟩
  | .hbm, ⟨3, _⟩ => ⟨S2x1x4096, .f32⟩
  | .hbm, ⟨4, _⟩ => ⟨S8192x4096, .f32⟩
  | .hbm, ⟨5, _⟩ => ⟨S8192x4096, .bf16⟩
  | .hbm, ⟨6, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S16384x8192 : Shape := ⟨2, ![16384, 8192]⟩
abbrev S1x8192x4096 : Shape := ⟨3, ![1, 8192, 4096]⟩
abbrev S16384x4096 : Shape := ⟨2, ![16384, 4096]⟩
abbrev S2x1x4096 : Shape := ⟨3, ![2, 1, 4096]⟩
abbrev S8192x4096 : Shape := ⟨2, ![8192, 4096]⟩
abbrev S2x8192x4096 : Shape := ⟨3, ![2, 8192, 4096]⟩

abbrev nBuf : Space → Nat
  | .hbm => 13
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S1x8192x4096, .f32⟩
  | .hbm, ⟨2, _⟩ => ⟨S16384x4096, .f32⟩
  | .hbm, ⟨3, _⟩ => ⟨S2x1x4096, .f32⟩
  | .hbm, ⟨4, _⟩ => ⟨S16384x8192, .f32⟩
  | .hbm, ⟨5, _⟩ => ⟨S8192x4096, .f32⟩
  | .hbm, ⟨6, _⟩ => ⟨S16384x4096, .f32⟩
  | .hbm, ⟨7, _⟩ => ⟨S2x8192x4096, .f32⟩
  | .hbm, ⟨8, _⟩ => ⟨S2x8192x4096, .f32⟩
  | .hbm, ⟨9, _⟩ => ⟨S2x8192x4096, .f32⟩
  | .hbm, ⟨10, _⟩ => ⟨S2x8192x4096, .f32⟩
  | .hbm, ⟨11, _⟩ => ⟨S2x8192x4096, .f32⟩
  | .hbm, ⟨12, _⟩ => ⟨S16384x4096, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel5.lean ====
abbrev S16384x2048 : Shape := ⟨2, ![16384, 2048]⟩
abbrev S16384x4096 : Shape := ⟨2, ![16384, 4096]⟩
abbrev S1x6144x4096 : Shape := ⟨3, ![1, 6144, 4096]⟩
abbrev S2x1x4096 : Shape := ⟨3, ![2, 1, 4096]⟩
abbrev S6144x4096 : Shape := ⟨2, ![6144, 4096]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S16384x4096, .bf16⟩
  | .hbm, ⟨2, _⟩ => ⟨S1x6144x4096, .f32⟩
  | .hbm, ⟨3, _⟩ => ⟨S16384x4096, .f32⟩
  | .hbm, ⟨4, _⟩ => ⟨S2x1x4096, .f32⟩
  | .hbm, ⟨5, _⟩ => ⟨S6144x4096, .f32⟩
  | .hbm, ⟨6, _⟩ => ⟨S6144x4096, .bf16⟩
  | .hbm, ⟨7, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 3], ![false, false, false]⟩

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference5Ideal.lean ====
abbrev S16384x2048 : Shape := ⟨2, ![16384, 2048]⟩
abbrev S16384x4096 : Shape := ⟨2, ![16384, 4096]⟩
abbrev S1x6144x4096 : Shape := ⟨3, ![1, 6144, 4096]⟩
abbrev S2x1x4096 : Shape := ⟨3, ![2, 1, 4096]⟩
abbrev S16384x6144 : Shape := ⟨2, ![16384, 6144]⟩
abbrev S6144x4096 : Shape := ⟨2, ![6144, 4096]⟩
abbrev S2x8192x4096 : Shape := ⟨3, ![2, 8192, 4096]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x4096, .bf16⟩
  | .hbm, ⟨2, _⟩ => ⟨S1x6144x4096, .f32⟩
  | .hbm, ⟨3, _⟩ => ⟨S16384x4096, .f32⟩
  | .hbm, ⟨4, _⟩ => ⟨S2x1x4096, .f32⟩
  | .hbm, ⟨5, _⟩ => ⟨S16384x2048, .f32⟩
  | .hbm, ⟨6, _⟩ => ⟨S16384x4096, .f32⟩
  | .hbm, ⟨7, _⟩ => ⟨S16384x6144, .f32⟩
  | .hbm, ⟨8, _⟩ => ⟨S6144x4096, .f32⟩
  | .hbm, ⟨9, _⟩ => ⟨S16384x4096, .f32⟩
  | .hbm, ⟨10, _⟩ => ⟨S2x8192x4096, .f32⟩
  | .hbm, ⟨11, _⟩ => ⟨S2x8192x4096, .f32⟩
  | .hbm, ⟨12, _⟩ => ⟨S2x8192x4096, .f32⟩
  | .hbm, ⟨13, _⟩ => ⟨S2x8192x4096, .f32⟩
  | .hbm, ⟨14, _⟩ => ⟨S2x8192x4096, .f32⟩
  | .hbm, ⟨15, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel6.lean ====
abbrev S16384x4096 : Shape := ⟨2, ![16384, 4096]⟩
abbrev S1x4096x14464 : Shape := ⟨3, ![1, 4096, 14464]⟩
abbrev S4096x14464 : Shape := ⟨2, ![4096, 14464]⟩
abbrev S4096x14336 : Shape := ⟨2, ![4096, 14336]⟩
abbrev S16384x14336 : Shape := ⟨2, ![16384, 14336]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x14464, .f32⟩
  | .hbm, ⟨2, _⟩ => ⟨S4096x14464, .f32⟩
  | .hbm, ⟨3, _⟩ => ⟨S4096x14336, .f32⟩
  | .hbm, ⟨4, _⟩ => ⟨S4096x14336, .bf16⟩
  | .hbm, ⟨5, _⟩ => ⟨S16384x14336, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16384x4096 : Shape := ⟨2, ![16384, 4096]⟩
abbrev S1x4096x14464 : Shape := ⟨3, ![1, 4096, 14464]⟩
abbrev S1x4096x14336 : Shape := ⟨3, ![1, 4096, 14336]⟩
abbrev S4096x14336 : Shape := ⟨2, ![4096, 14336]⟩
abbrev S16384x14336 : Shape := ⟨2, ![16384, 14336]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x14464, .f32⟩
  | .hbm, ⟨2, _⟩ => ⟨S16384x4096, .f32⟩
  | .hbm, ⟨3, _⟩ => ⟨S1x4096x14336, .f32⟩
  | .hbm, ⟨4, _⟩ => ⟨S4096x14336, .f32⟩
  | .hbm, ⟨5, _⟩ => ⟨S16384x14336, .f32⟩
  | .hbm, ⟨6, _⟩ => ⟨S16384x14336, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S16384x2048 : Shape := ⟨2, ![16384, 2048]⟩
abbrev S16384x4096 : Shape := ⟨2, ![16384, 4096]⟩
abbrev S1x6144x4096 : Shape := ⟨3, ![1, 6144, 4096]⟩
abbrev S2x1x4096 : Shape := ⟨3, ![2, 1, 4096]⟩
abbrev S6144x4096 : Shape := ⟨2, ![6144, 4096]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S16384x4096, .bf16⟩
  | .hbm, ⟨2, _⟩ => ⟨S1x6144x4096, .f32⟩
  | .hbm, ⟨3, _⟩ => ⟨S16384x4096, .f32⟩
  | .hbm, ⟨4, _⟩ => ⟨S2x1x4096, .f32⟩
  | .hbm, ⟨5, _⟩ => ⟨S6144x4096, .f32⟩
  | .hbm, ⟨6, _⟩ => ⟨S6144x4096, .bf16⟩
  | .hbm, ⟨7, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 3], ![false, false, false]⟩

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference7Ideal.lean ====
abbrev S16384x2048 : Shape := ⟨2, ![16384, 2048]⟩
abbrev S16384x4096 : Shape := ⟨2, ![16384, 4096]⟩
abbrev S1x6144x4096 : Shape := ⟨3, ![1, 6144, 4096]⟩
abbrev S2x1x4096 : Shape := ⟨3, ![2, 1, 4096]⟩
abbrev S16384x6144 : Shape := ⟨2, ![16384, 6144]⟩
abbrev S6144x4096 : Shape := ⟨2, ![6144, 4096]⟩
abbrev S2x8192x4096 : Shape := ⟨3, ![2, 8192, 4096]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x4096, .bf16⟩
  | .hbm, ⟨2, _⟩ => ⟨S1x6144x4096, .f32⟩
  | .hbm, ⟨3, _⟩ => ⟨S16384x4096, .f32⟩
  | .hbm, ⟨4, _⟩ => ⟨S2x1x4096, .f32⟩
  | .hbm, ⟨5, _⟩ => ⟨S16384x2048, .f32⟩
  | .hbm, ⟨6, _⟩ => ⟨S16384x4096, .f32⟩
  | .hbm, ⟨7, _⟩ => ⟨S16384x6144, .f32⟩
  | .hbm, ⟨8, _⟩ => ⟨S6144x4096, .f32⟩
  | .hbm, ⟨9, _⟩ => ⟨S16384x4096, .f32⟩
  | .hbm, ⟨10, _⟩ => ⟨S2x8192x4096, .f32⟩
  | .hbm, ⟨11, _⟩ => ⟨S2x8192x4096, .f32⟩
  | .hbm, ⟨12, _⟩ => ⟨S2x8192x4096, .f32⟩
  | .hbm, ⟨13, _⟩ => ⟨S2x8192x4096, .f32⟩
  | .hbm, ⟨14, _⟩ => ⟨S2x8192x4096, .f32⟩
  | .hbm, ⟨15, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel8.lean ====
abbrev S2x8192x4096 : Shape := ⟨3, ![2, 8192, 4096]⟩
abbrev S1x4096 : Shape := ⟨2, ![1, 4096]⟩
abbrev S2x1x4096 : Shape := ⟨3, ![2, 1, 4096]⟩
abbrev S4096 : Shape := ⟨1, ![4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S2x8192x4096, .f32⟩
  | .hbm, ⟨1, _⟩ => ⟨S1x4096, .f32⟩
  | .hbm, ⟨2, _⟩ => ⟨S2x1x4096, .f32⟩
  | .hbm, ⟨3, _⟩ => ⟨S2x1x4096, .f32⟩
  | .hbm, ⟨4, _⟩ => ⟨S4096, .f32⟩
  | .hbm, ⟨5, _⟩ => ⟨S1x4096, .f32⟩
  | .hbm, ⟨6, _⟩ => ⟨S2x8192x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x256x4096, .bf16⟩
  | .local _ .vmem, ⟨8, _⟩ => ⟨S1x256x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S2x8192x4096 : Shape := ⟨3, ![2, 8192, 4096]⟩
abbrev S1x4096 : Shape := ⟨2, ![1, 4096]⟩
abbrev S2x1x4096 : Shape := ⟨3, ![2, 1, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S1x4096, .f32⟩
  | .hbm, ⟨2, _⟩ => ⟨S2x1x4096, .f32⟩
  | .hbm, ⟨3, _⟩ => ⟨S2x1x4096, .f32⟩
  | .hbm, ⟨4, _⟩ => ⟨S4096, .f32⟩
  | .hbm, ⟨5, _⟩ => ⟨S2x8192x4096, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x4096, .f32⟩
  | .hbm, ⟨17, _⟩ => ⟨S2x8192x4096, .f32⟩
  | .hbm, ⟨18, _⟩ => ⟨S1x1x4096, .f32⟩
  | .hbm, ⟨19, _⟩ => ⟨S2x8192x4096, .f32⟩
  | .hbm, ⟨20, _⟩ => ⟨S2x8192x4096, .f32⟩
  | .hbm, ⟨21, _⟩ => ⟨S_, .f32⟩
  | .hbm, ⟨22, _⟩ => ⟨S2x1x4096, .f32⟩
  | .hbm, ⟨23, _⟩ => ⟨S2x1x4096, .f32⟩
  | .hbm, ⟨24, _⟩ => ⟨S2x8192x4096, .f32⟩
  | .hbm, ⟨25, _⟩ => ⟨S2x8192x4096, .f32⟩
  | .hbm, ⟨26, _⟩ => ⟨S2x8192x4096, .f32⟩
  | .hbm, ⟨27, _⟩ => ⟨S2x8192x4096, .f32⟩
  | .hbm, ⟨28, _⟩ => ⟨S2x8192x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel9.lean ====
abbrev S8x4096 : Shape := ⟨2, ![8, 4096]⟩
abbrev S1x4096x24576 : Shape := ⟨3, ![1, 4096, 24576]⟩
abbrev S1x24576 : Shape := ⟨2, ![1, 24576]⟩
abbrev S4096x24576 : Shape := ⟨2, ![4096, 24576]⟩
abbrev S24576 : Shape := ⟨1, ![24576]⟩
abbrev S8x24576 : Shape := ⟨2, ![8, 24576]⟩
abbrev S4096x512 : Shape := ⟨2, ![4096, 512]⟩
abbrev S1x512 : Shape := ⟨2, ![1, 512]⟩
abbrev S8x512 : Shape := ⟨2, ![8, 512]⟩

abbrev nBuf : Space → Nat
  | .hbm => 7
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S1x4096x24576, .f32⟩
  | .hbm, ⟨2, _⟩ => ⟨S1x24576, .f32⟩
  | .hbm, ⟨3, _⟩ => ⟨S4096x24576, .f32⟩
  | .hbm, ⟨4, _⟩ => ⟨S24576, .f32⟩
  | .hbm, ⟨5, _⟩ => ⟨S1x24576, .f32⟩
  | .hbm, ⟨6, _⟩ => ⟨S8x24576, .f32⟩
  | .local _ .vmem, ⟨0, _⟩ => ⟨S8x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S8x4096 : Shape := ⟨2, ![8, 4096]⟩
abbrev S1x4096x24576 : Shape := ⟨3, ![1, 4096, 24576]⟩
abbrev S1x24576 : Shape := ⟨2, ![1, 24576]⟩
abbrev S_ : Shape := ⟨0, ![]⟩
abbrev S4096x24576 : Shape := ⟨2, ![4096, 24576]⟩
abbrev S8x24576 : Shape := ⟨2, ![8, 24576]⟩
abbrev S24576 : Shape := ⟨1, ![24576]⟩

abbrev nBuf : Space → Nat
  | .hbm => 18
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S1x4096x24576, .f32⟩
  | .hbm, ⟨2, _⟩ => ⟨S1x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S4096x24576, .f32⟩
  | .hbm, ⟨13, _⟩ => ⟨S8x24576, .f32⟩
  | .hbm, ⟨14, _⟩ => ⟨S24576, .f32⟩
  | .hbm, ⟨15, _⟩ => ⟨S1x24576, .f32⟩
  | .hbm, ⟨16, _⟩ => ⟨S8x24576, .f32⟩
  | .hbm, ⟨17, _⟩ => ⟨S8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel10.lean ====
abbrev S2x8192x4096 : Shape := ⟨3, ![2, 8192, 4096]⟩
abbrev S32768x4096 : Shape := ⟨2, ![32768, 4096]⟩
abbrev S2x1x4096 : Shape := ⟨3, ![2, 1, 4096]⟩
abbrev S4096 : Shape := ⟨1, ![4096]⟩
abbrev S1x4096 : Shape := ⟨2, ![1, 4096]⟩
abbrev S1x256x4096 : Shape := ⟨3, ![1, 256, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S2x8192x4096, .f32⟩
  | .hbm, ⟨1, _⟩ => ⟨S32768x4096, .f32⟩
  | .hbm, ⟨2, _⟩ => ⟨S2x1x4096, .f32⟩
  | .hbm, ⟨3, _⟩ => ⟨S4096, .f32⟩
  | .hbm, ⟨4, _⟩ => ⟨S1x4096, .f32⟩
  | .hbm, ⟨5, _⟩ => ⟨S2x8192x4096, .f32⟩
  | .local _ .vmem, ⟨0, _⟩ => ⟨S1x256x4096, .f32⟩
  | .local _ .vmem, ⟨1, _⟩ => ⟨S1x256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | .local _ .vmem, ⟨9, _⟩ => ⟨S1x256x4096, .f32⟩
  | .local _ .vmem, ⟨10, _⟩ => ⟨S1x256x4096, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c32_i32 : BitVec 32 := 32#32
  let v1 : BitVec 32 := Scalar.muli v0 c32_i32
  let v2 : BitVec 32 := Scalar.addi v1 arg1
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S2x8192x4096 : Shape := ⟨3, ![2, 8192, 4096]⟩
abbrev S32768x4096 : Shape := ⟨2, ![32768, 4096]⟩
abbrev S2x1x4096 : Shape := ⟨3, ![2, 1, 4096]⟩
abbrev S4096 : Shape := ⟨1, ![4096]⟩
abbrev S16384x4096 : Shape := ⟨2, ![16384, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S32768x4096, .f32⟩
  | .hbm, ⟨2, _⟩ => ⟨S2x1x4096, .f32⟩
  | .hbm, ⟨3, _⟩ => ⟨S4096, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S2x8192x4096, .f32⟩
  | .hbm, ⟨8, _⟩ => ⟨S2x8192x4096, .f32⟩
  | .hbm, ⟨9, _⟩ => ⟨S2x8192x4096, .f32⟩
  | .hbm, ⟨10, _⟩ => ⟨S2x8192x4096, .f32⟩
  | .hbm, ⟨11, _⟩ => ⟨S2x8192x4096, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x4096, .f32⟩
  | .hbm, ⟨23, _⟩ => ⟨S2x8192x4096, .f32⟩
  | .hbm, ⟨24, _⟩ => ⟨S1x1x4096, .f32⟩
  | .hbm, ⟨25, _⟩ => ⟨S2x8192x4096, .f32⟩
  | .hbm, ⟨26, _⟩ => ⟨S2x8192x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel11.lean ====
abbrev S2x8192x14336 : Shape := ⟨3, ![2, 8192, 14336]⟩
abbrev S1x4x6144 : Shape := ⟨3, ![1, 4, 6144]⟩
abbrev S1x6144 : Shape := ⟨2, ![1, 6144]⟩
abbrev S4x6144 : Shape := ⟨2, ![4, 6144]⟩
abbrev S6144 : Shape := ⟨1, ![6144]⟩
abbrev S2x8192x6144 : Shape := ⟨3, ![2, 8192, 6144]⟩
abbrev S1x512x1024 : Shape := ⟨3, ![1, 512, 1024]⟩
abbrev S1x16x1024 : Shape := ⟨3, ![1, 16, 1024]⟩
abbrev S4x1024 : Shape := ⟨2, ![4, 1024]⟩
abbrev S1x1024 : Shape := ⟨2, ![1, 1024]⟩
abbrev S544x1024 : Shape := ⟨2, ![544, 1024]⟩
abbrev S16x1024 : Shape := ⟨2, ![16, 1024]⟩
abbrev S512x1024 : Shape := ⟨2, ![512, 1024]⟩

abbrev nBuf : Space → Nat
  | .hbm => 7
  | .vmem => 13
  | .smem => 0
  | _ => 0

abbrev bufTy : (tb : Table) → Fin (tcTables nBuf tb) → BufTy
  | .hbm, ⟨0, _⟩ => ⟨S2x8192x14336, .bf16⟩
  | .hbm, ⟨1, _⟩ => ⟨S1x4x6144, .f32⟩
  | .hbm, ⟨2, _⟩ => ⟨S1x6144, .f32⟩
  | .hbm, ⟨3, _⟩ => ⟨S4x6144, .f32⟩
  | .hbm, ⟨4, _⟩ => ⟨S6144, .f32⟩
  | .hbm, ⟨5, _⟩ => ⟨S1x6144, .f32⟩
  | .hbm, ⟨6, _⟩ => ⟨S2x8192x6144, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S4x1024, .f32⟩
  | .local _ .vmem, ⟨7, _⟩ => ⟨S4x1024, .f32⟩
  | .local _ .vmem, ⟨8, _⟩ => ⟨S1x1024, .f32⟩
  | .local _ .vmem, ⟨9, _⟩ => ⟨S1x1024, .f32⟩
  | .local _ .vmem, ⟨10, _⟩ => ⟨S1x512x1024, .bf16⟩
  | .local _ .vmem, ⟨11, _⟩ => ⟨S1x512x1024, .bf16⟩
  | .local _ .vmem, ⟨12, _⟩ => ⟨S544x1024, .f32⟩
  | _, _ => ⟨S2x8192x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 6], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg2
  let c0_i32_0 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c8_i32 : BitVec 32 := 8#32
  let v3 : BitVec 32 := Scalar.addi c8_i32 arg2
  let c0_i32 : BitVec 32 := 0#32
  ![arg0.toNat, v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference11Ideal.lean ====
abbrev S2x8192x14336 : Shape := ⟨3, ![2, 8192, 14336]⟩
abbrev S1x4x6144 : Shape := ⟨3, ![1, 4, 6144]⟩
abbrev S1x6144 : Shape := ⟨2, ![1, 6144]⟩
abbrev S2x8192x6144 : Shape := ⟨3, ![2, 8192, 6144]⟩
abbrev S4x6144 : Shape := ⟨2, ![4, 6144]⟩
abbrev S6144 : Shape := ⟨1, ![6144]⟩
abbrev S_ : Shape := ⟨0, ![]⟩
abbrev S2x8195x6144 : Shape := ⟨3, ![2, 8195, 6144]⟩
abbrev S1x1x6144 : Shape := ⟨3, ![1, 1, 6144]⟩

abbrev nBuf : Space → Nat
  | .hbm => 50
  | .vmem => 0
  | .smem => 0
  | _ => 0

abbrev bufTy : (tb : Table) → Fin (tcTables nBuf tb) → BufTy
  | .hbm, ⟨0, _⟩ => ⟨S2x8192x14336, .bf16⟩
  | .hbm, ⟨1, _⟩ => ⟨S1x4x6144, .f32⟩
  | .hbm, ⟨2, _⟩ => ⟨S1x6144, .f32⟩
  | .hbm, ⟨3, _⟩ => ⟨S2x8192x6144, .bf16⟩
  | .hbm, ⟨4, _⟩ => ⟨S2x8192x6144, .f32⟩
  | .hbm, ⟨5, _⟩ => ⟨S4x6144, .f32⟩
  | .hbm, ⟨6, _⟩ => ⟨S6144, .f32⟩
  | .hbm, ⟨7, _⟩ => ⟨S_, .i32⟩
  | .hbm, ⟨8, _⟩ => ⟨S_, .f32⟩
  | .hbm, ⟨9, _⟩ => ⟨S2x8195x6144, .f32⟩
  | .hbm, ⟨10, _⟩ => ⟨S2x8192x6144, .f32⟩
  | .hbm, ⟨11, _⟩ => ⟨S1x6144, .f32⟩
  | .hbm, ⟨12, _⟩ => ⟨S6144, .f32⟩
  | .hbm, ⟨13, _⟩ => ⟨S1x1x6144, .f32⟩
  | .hbm, ⟨14, _⟩ => ⟨S2x8192x6144, .f32⟩
  | .hbm, ⟨15, _⟩ => ⟨S2x8192x6144, .f32⟩
  | .hbm, ⟨16, _⟩ => ⟨S2x8192x6144, .f32⟩
  | .hbm, ⟨17, _⟩ => ⟨S1x6144, .f32⟩
  | .hbm, ⟨18, _⟩ => ⟨S6144, .f32⟩
  | .hbm, ⟨19, _⟩ => ⟨S1x1x6144, .f32⟩
  | .hbm, ⟨20, _⟩ => ⟨S2x8192x6144, .f32⟩
  | .hbm, ⟨21, _⟩ => ⟨S2x8192x6144, .f32⟩
  | .hbm, ⟨22, _⟩ => ⟨S2x8192x6144, .f32⟩
  | .hbm, ⟨23, _⟩ => ⟨S2x8192x6144, .f32⟩
  | .hbm, ⟨24, _⟩ => ⟨S1x6144, .f32⟩
  | .hbm, ⟨25, _⟩ => ⟨S6144, .f32⟩
  | .hbm, ⟨26, _⟩ => ⟨S1x1x6144, .f32⟩
  | .hbm, ⟨27, _⟩ => ⟨S2x8192x6144, .f32⟩
  | .hbm, ⟨28, _⟩ => ⟨S2x8192x6144, .f32⟩
  | .hbm, ⟨29, _⟩ => ⟨S2x8192x6144, .f32⟩
  | .hbm, ⟨30, _⟩ => ⟨S2x8192x6144, .f32⟩
  | .hbm, ⟨31, _⟩ => ⟨S1x6144, .f32⟩
  | .hbm, ⟨32, _⟩ => ⟨S6144, .f32⟩
  | .hbm, ⟨33, _⟩ => ⟨S1x1x6144, .f32⟩
  | .hbm, ⟨34, _⟩ => ⟨S2x8192x6144, .f32⟩
  | .hbm, ⟨35, _⟩ => ⟨S2x8192x6144, .f32⟩
  | .hbm, ⟨36, _⟩ => ⟨S2x8192x6144, .f32⟩
  | .hbm, ⟨37, _⟩ => ⟨S1x1x6144, .f32⟩
  | .hbm, ⟨38, _⟩ => ⟨S2x8192x6144, .f32⟩
  | .hbm, ⟨39, _⟩ => ⟨S2x8192x6144, .f32⟩
  | .hbm, ⟨40, _⟩ => ⟨S2x8192x6144, .f32⟩
  | .hbm, ⟨41, _⟩ => ⟨S2x8192x6144, .f32⟩
  | .hbm, ⟨42, _⟩ => ⟨S_, .f32⟩
  | .hbm, ⟨43, _⟩ => ⟨S2x8192x6144, .f32⟩
  | .hbm, ⟨44, _⟩ => ⟨S2x8192x6144, .f32⟩
  | .hbm, ⟨45, _⟩ => ⟨S_, .f32⟩
  | .hbm, ⟨46, _⟩ => ⟨S2x8192x6144, .f32⟩
  | .hbm, ⟨47, _⟩ => ⟨S2x8192x6144, .f32⟩
  | .hbm, ⟨48, _⟩ => ⟨S2x8192x6144, .f32⟩
  | .hbm, ⟨49, _⟩ => ⟨S2x8192x6144, .bf16⟩
  | _, _ => ⟨S2x8192x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel12.lean ====
abbrev S16384x4096 : Shape := ⟨2, ![16384, 4096]⟩
abbrev S1x4096x14464 : Shape := ⟨3, ![1, 4096, 14464]⟩
abbrev S4096x14464 : Shape := ⟨2, ![4096, 14464]⟩
abbrev S4096x64 : Shape := ⟨2, ![4096, 64]⟩
abbrev S4096x8x8 : Shape := ⟨3, ![4096, 8, 8]⟩
abbrev S_ : Shape := ⟨0, ![]⟩
abbrev S4096x8x96 : Shape := ⟨3, ![4096, 8, 96]⟩
abbrev S4096x8x128 : Shape := ⟨3, ![4096, 8, 128]⟩
abbrev S4096x1024 : Shape := ⟨2, ![4096, 1024]⟩
abbrev S16384x1024 : Shape := ⟨2, ![16384, 1024]⟩
abbrev S1024x4096 : Shape := ⟨2, ![1024, 4096]⟩
abbrev S1024x1024 : Shape := ⟨2, ![1024, 1024]⟩

abbrev nBuf : Space → Nat
  | .hbm => 13
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S1x4096x14464, .f32⟩
  | .hbm, ⟨2, _⟩ => ⟨S4096x14464, .f32⟩
  | .hbm, ⟨3, _⟩ => ⟨S4096x64, .f32⟩
  | .hbm, ⟨4, _⟩ => ⟨S4096x64, .f32⟩
  | .hbm, ⟨5, _⟩ => ⟨S4096x8x8, .f32⟩
  | .hbm, ⟨6, _⟩ => ⟨S4096x8x8, .f32⟩
  | .hbm, ⟨7, _⟩ => ⟨S_, .f32⟩
  | .hbm, ⟨8, _⟩ => ⟨S4096x8x96, .f32⟩
  | .hbm, ⟨9, _⟩ => ⟨S4096x8x128, .f32⟩
  | .hbm, ⟨10, _⟩ => ⟨S4096x1024, .f32⟩
  | .hbm, ⟨11, _⟩ => ⟨S4096x1024, .bf16⟩
  | .hbm, ⟨12, _⟩ => ⟨S16384x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S16384x4096 : Shape := ⟨2, ![16384, 4096]⟩
abbrev S1x4096x14464 : Shape := ⟨3, ![1, 4096, 14464]⟩
abbrev S1x4096x128 : Shape := ⟨3, ![1, 4096, 128]⟩
abbrev S4096x128 : Shape := ⟨2, ![4096, 128]⟩
abbrev S16384x128 : Shape := ⟨2, ![16384, 128]⟩
abbrev S16384x64 : Shape := ⟨2, ![16384, 64]⟩
abbrev S16384x8x8 : Shape := ⟨3, ![16384, 8, 8]⟩
abbrev S_ : Shape := ⟨0, ![]⟩
abbrev S16384x8x96 : Shape := ⟨3, ![16384, 8, 96]⟩
abbrev S16384x8x128 : Shape := ⟨3, ![16384, 8, 128]⟩
abbrev S16384x1024 : Shape := ⟨2, ![16384, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x14464, .f32⟩
  | .hbm, ⟨2, _⟩ => ⟨S16384x4096, .f32⟩
  | .hbm, ⟨3, _⟩ => ⟨S1x4096x128, .f32⟩
  | .hbm, ⟨4, _⟩ => ⟨S4096x128, .f32⟩
  | .hbm, ⟨5, _⟩ => ⟨S16384x128, .f32⟩
  | .hbm, ⟨6, _⟩ => ⟨S16384x64, .f32⟩
  | .hbm, ⟨7, _⟩ => ⟨S16384x8x8, .f32⟩
  | .hbm, ⟨8, _⟩ => ⟨S16384x64, .f32⟩
  | .hbm, ⟨9, _⟩ => ⟨S16384x8x8, .f32⟩
  | .hbm, ⟨10, _⟩ => ⟨S_, .f32⟩
  | .hbm, ⟨11, _⟩ => ⟨S16384x8x96, .f32⟩
  | .hbm, ⟨12, _⟩ => ⟨S16384x8x128, .f32⟩
  | .hbm, ⟨13, _⟩ => ⟨S16384x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Proof.LruTripIdeal.lean ====
/- One point of the recurrence's call (`kernel`): the loop over the block's 256 rows. -/
module

public import proofs.«01_k».proof.Proof.Gen.KernelIdeal.Frame
public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pointwise.Index
public import Idealize.ShloMosaic.Lib.WritesUnit
public import Idealize.ShloMosaic.Lib.WholeRead
public import Idealize.ShloMosaic.Lib.Pipeline.Value

@[expose] public section

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The loop runs once for every row of the block. -/
theorem trips_eq : k0_t1_loop.trips = 256 := by decide +kernel

/-- Trip `k` works on row `k`. -/
theorem off_eq : ∀ k : Fin k0_t1_loop.trips, k0_off1 k = ![k.val, 0] := by decide +kernel

/-- Row `k` of a 256 by 2048 array. -/
def row (x : Vec F S256x2048 .f32) (k : Fin k0_t1_loop.trips) : Vec F S1x2048 .f32 :=
  View.ld x (Rect.unit (s := S256x2048) (k0_off1 k) S1x2048.size (k0_off1_inb k))

/-- The state before row `k`: the state the block starts from, stepped through the rows before. -/
def carry (a b : Vec F S256x2048 .f32) (h : Vec F S1x2048 .f32) : ℕ → Vec F S1x2048 .f32
  | 0 => h
  | k + 1 => if hk : k < k0_t1_loop.trips then k0_pay3 (carry a b h k) (row a ⟨k, hk⟩) (row b ⟨k, hk⟩) else carry a b h k

theorem carry_succ (a b : Vec F S256x2048 .f32) (h : Vec F S1x2048 .f32) (k : Fin k0_t1_loop.trips) :
    carry a b h (k.val + 1) = k0_pay3 (carry a b h k.val) (row a k) (row b k) := by
  rw [carry, dif_pos k.isLt]

/-- What the row buffer holds before row `k`: the states of the rows before, the inputs of the others. -/
def rows (a b : Vec F S256x2048 .f32) (h : Vec F S1x2048 .f32) (k : ℕ) : Vec F S256x2048 .f32 :=
  fun y => if (y 0).val < k then carry a b h ((y 0).val + 1) (ix2 (0 : Fin 1) (y 1)) else b y

/-- Row `k` of a 256 by 2048 array, column by column. -/
theorem row_apply (x : Vec F S256x2048 .f32) (k : Fin k0_t1_loop.trips) (y : S1x2048.Idx) :
    row x k y = x (ix2 (⟨k.val, trips_eq ▸ k.isLt⟩ : Fin 256) (y 1)) := by
  unfold row View.ld
  congr 1
  funext a
  apply Fin.ext
  have e := off_eq k
  match a with
  | ⟨0, _⟩ =>
    show k0_off1 k 0 + 1 * (y 0).val = k.val
    have : (y 0).val = 0 := Nat.lt_one_iff.mp (y 0).isLt
    rw [e, this]; rfl
  | ⟨1, _⟩ =>
    show k0_off1 k 1 + 1 * (y 1).val = (y 1).val
    rw [e]; show 0 + 1 * (y 1).val = _
    omega

/-- The row the trip works on still holds its input. -/
theorem row_rows (a b : Vec F S256x2048 .f32) (h : Vec F S1x2048 .f32) (k : Fin k0_t1_loop.trips) :
    row (rows a b h k.val) k = row b k := by
  funext y
  rw [row_apply, row_apply]
  exact if_neg (Nat.lt_irrefl _)

/-- A load of row `k` of a buffer that holds `x` reads row `k` of `x`. -/
theorem readAt_row {m : Memref sig .tc .vmem S256x2048 .f32} (hm : m.IsWhole) (x : Vec F S256x2048 .f32) (k : Fin k0_t1_loop.trips) :
    View.readAt (Elt F) m.view (Rect.unit (s := S256x2048) (k0_off1 k) S1x2048.size (k0_off1_inb k)).toLoadRect (hm.unread x) = row x k :=
  funext fun y => hm.readAt_unread x (Rect.unit (s := S256x2048) (k0_off1 k) S1x2048.size (k0_off1_inb k)).toLoadRect y

/-- Storing the stepped state over row `k` leaves the buffer as it is to be before row `k + 1`. -/
theorem read_row {m : Memref sig .tc .vmem S256x2048 .f32} (hm : m.IsWhole) (a b : Vec F S256x2048 .f32) (h : Vec F S1x2048 .f32) (k : Fin k0_t1_loop.trips) :
    m.view.read (Elt F) (m.view.writes (Elt F) (hm.unread (rows a b h k.val))
      [⟨Rect.unit (s := S256x2048) (k0_off1 k) S1x2048.size (k0_off1_inb k), carry a b h (k.val + 1)⟩]) = rows a b h (k.val + 1) := by
  funext y
  by_cases hy : (y 0).val = k.val
  · refine (View.read_writes_cons_rows_of_mem m.view _ (o := k.val) _ _ [] y (ix2 (0 : Fin 1) (y 1)) (off_eq k) ?_ rfl).trans ?_
    · exact hy
    · unfold rows
      rw [if_pos (by omega), hy]
      rfl
  · refine (View.read_writes_cons_rows_of_not_mem m.view _ (o := k.val) (W := 1) _ _ [] y (off_eq k) rfl (by omega)).trans ?_
    refine (congrFun (hm.read_unread (rows a b h k.val)) y).trans ?_
    unfold rows
    by_cases hlt : (y 0).val < k.val
    · rw [if_pos hlt, if_pos (by omega)]
    · rw [if_neg hlt, if_neg (by omega)]

/-- One trip: the state is stepped and takes the row's place. -/
theorem trip (c : Dev nD) (bd : Option Variants.none.V) (E : Set ℕ) (i : grid0.Coords) (arg2 : Memref sig .tc .vmem S1x256x2048 .bf16) (harg2 : arg2.IsWhole) (arg3 : Memref sig .tc .vmem S1x16x2048 .bf16) (harg3 : arg3.IsWhole) (arg4 : Memref sig .tc .vmem S1x16x2048 .bf16) (harg4 : arg4.IsWhole) (arg5 : Memref sig .tc .vmem S4x2048 .f32) (harg5 : arg5.IsWhole) (arg6 : Memref sig .tc .vmem S1x2048 .f32) (harg6 : arg6.IsWhole) (arg7 : Memref sig .tc .vmem S1x8x256x256 .bf16) (harg7 : arg7.IsWhole) (arg8 : Memref sig .tc .vmem S1x1x2048 .f32) (harg8 : arg8.IsWhole) (arg9 : Memref sig .tc .vmem S1x8x256x256 .bf16) (harg9 : arg9.IsWhole) (arg10 : Memref sig .tc .vmem S1x1x2048 .f32) (harg10 : arg10.IsWhole) (arg11 : Memref sig .tc .vmem S1x1x2048 .f32) (harg11 : arg11.IsWhole) (arg12 : Memref sig .tc .vmem S1x256x2048 .f32) (harg12 : arg12.IsWhole) (arg13 : Memref sig .tc .vmem S288x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S1x2048 .f32) (harg16 : arg16.IsWhole)
    (a b : Vec F S256x2048 .f32) (h : Vec F S1x2048 .f32) (k : Fin k0_t1_loop.trips) (acc : Vec F S1x2048 .f32) :
    (iprop(owns (c : Thread nD τ) arg14 fullShare a ∗ owns (c : Thread nD τ) arg15 fullShare (rows a b h k.val) ∗ ⌜acc = carry a b h k.val⌝) : sProp 𝕄)
      ⊢ wp frame (wpE (defs₀ (F := F)) Variants.none (c : Thread nD τ) bd) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k acc)
          (fun acc' => iprop(owns (c : Thread nD τ) arg14 fullShare a ∗ owns (c : Thread nD τ) arg15 fullShare (rows a b h (k.val + 1)) ∗ ⌜acc' = carry a b h (k.val + 1)⌝)) := by
  have hk : k.val < 256 := Nat.lt_of_lt_of_le k.isLt k0_t1_abs.2.1
  unfold k0_t1_body owns
  iintro ⟨⟨%f14, %h14, H14⟩, ⟨%f15, %h15, H15⟩, %hacc⟩
  obtain rfl := harg14.eq_unread h14; obtain rfl := harg15.eq_unread h15
  sl_exec
  sl_step
  rw [readAt_row harg14, readAt_row harg15, row_rows, hacc, show k0_pay4 (carry a b h k.val) (row a k) (row b k) = carry a b h (k.val + 1) from by
    rw [carry_succ]; unfold k0_pay4; exact shapeCast_self _ _]
  isplitl [H14]
  · iexists _; isplitr
    · ipureintro; exact h14
    · iexact H14
  isplitl [H15]
  · iexists _; isplitr
    swap
    · iexact H15
    · ipureintro; exact read_row harg15 a b h k
  · ipureintro; exact (carry_succ a b h k).symm

/-- What the row buffer holds, as contents, before row `k`: at first whatever it held. -/
def held {arg15 : Memref sig .tc .vmem S256x2048 .f32} (harg15 : arg15.IsWhole) (a : Vec F S256x2048 .f32) (h : Vec F S1x2048 .f32) (f15 : BufTy.Contents (Elt F) arg15.view.ty) :
    ℕ → BufTy.Contents (Elt F) arg15.view.ty
  | 0 => f15
  | k + 1 => harg15.unread (rows a (arg15.view.read (Elt F) f15) h (k + 1))

/-- Read as an array, those contents are the states of the rows before and the inputs of the others. -/
theorem read_held {arg15 : Memref sig .tc .vmem S256x2048 .f32} (harg15 : arg15.IsWhole) (a : Vec F S256x2048 .f32) (h : Vec F S1x2048 .f32) (f15 : BufTy.Contents (Elt F) arg15.view.ty) (k : ℕ) :
    arg15.view.read (Elt F) (held harg15 a h f15 k) = rows a (arg15.view.read (Elt F) f15) h k := by
  cases k with
  | zero => funext y; exact (if_neg (Nat.not_lt_zero _)).symm
  | succ k => exact harg15.read_unread _

set_option warn.classDefReducibility false in
/-- The loop over the rows by its invariant: before row `k` the state is the one the rows before lead to, and the row
buffer holds the states of those rows. -/
@[sl_loop] def rowLoop (c : Dev nD) (bd : Option Variants.none.V) (E : Set ℕ) (i : grid0.Coords) (arg2 : Memref sig .tc .vmem S1x256x2048 .bf16) (harg2 : arg2.IsWhole) (arg3 : Memref sig .tc .vmem S1x16x2048 .bf16) (harg3 : arg3.IsWhole) (arg4 : Memref sig .tc .vmem S1x16x2048 .bf16) (harg4 : arg4.IsWhole) (arg5 : Memref sig .tc .vmem S4x2048 .f32) (harg5 : arg5.IsWhole) (arg6 : Memref sig .tc .vmem S1x2048 .f32) (harg6 : arg6.IsWhole) (arg7 : Memref sig .tc .vmem S1x8x256x256 .bf16) (harg7 : arg7.IsWhole) (arg8 : Memref sig .tc .vmem S1x1x2048 .f32) (harg8 : arg8.IsWhole) (arg9 : Memref sig .tc .vmem S1x8x256x256 .bf16) (harg9 : arg9.IsWhole) (arg10 : Memref sig .tc .vmem S1x1x2048 .f32) (harg10 : arg10.IsWhole) (arg11 : Memref sig .tc .vmem S1x1x2048 .f32) (harg11 : arg11.IsWhole) (arg12 : Memref sig .tc .vmem S1x256x2048 .f32) (harg12 : arg12.IsWhole) (arg13 : Memref sig .tc .vmem S288x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S1x2048 .f32) (harg16 : arg16.IsWhole)
    (f14 : BufTy.Contents (Elt F) arg14.view.ty) (f15 : BufTy.Contents (Elt F) arg15.view.ty) (init : Vec F S1x2048 .f32) :
    Idealize.ShloMosaic.LoopInv (M := 𝕄) Idealize.ShloMosaic.frame (wpE (defs₀ (F := F)) Variants.none (c : Thread nD τ) bd) E
      k0_t1_loop.lb k0_t1_loop.ub k0_t1_loop.st k0_t1_ok init (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) where
  inv k acc := iprop((arg14.view.loc (c : Thread nD τ) ↦[arg14.view.set]{fullShare} f14)
    ∗ (arg15.view.loc (c : Thread nD τ) ↦[arg15.view.set]{fullShare} (match k with | 0 => f15 | k + 1 => harg15.unread (rows (arg14.view.read (Elt F) f14) (arg15.view.read (Elt F) f15) init (k + 1))))
    ∗ ⌜acc = carry (arg14.view.read (Elt F) f14) (arg15.view.read (Elt F) f15) init k⌝)
  step k acc := by
    iintro ⟨H14, H15, %hacc⟩
    iapply (wp_wand_r Idealize.ShloMosaic.frame (wpE (defs₀ (F := F)) Variants.none (c : Thread nD τ) bd) E)
    isplitl [H14 H15]
    · iapply (trip c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 (arg14.view.read (Elt F) f14) (arg15.view.read (Elt F) f15) init k acc)
      unfold owns
      isplitl [H14]
      · iexists f14; isplitr
        · ipureintro; rfl
        · iexact H14
      isplitl [H15]
      · iexists (held harg15 (arg14.view.read (Elt F) f14) init f15 k.val); isplitr
        · ipureintro; exact read_held harg15 _ _ _ _
        · iexact H15
      · ipureintro; exact hacc
    · unfold owns
      iintro %acc' ⟨⟨%g14, %h14, H14⟩, ⟨%g15, %h15, H15⟩, %hacc'⟩
      obtain rfl : g14 = f14 := (harg14.eq_unread h14).trans (harg14.eq_unread rfl).symm
      obtain rfl := harg15.eq_unread h15
      isplitl [H14]; · iexact H14
      isplitl [H15]; · iexact H15
      ipureintro; exact hacc'

end Cert.KernelIdeal.Lru

end
-- ==== Proof.LruRunIdeal.lean ====
/- One point of the recurrence's call (`kernel`): the whole body. -/
module

public import proofs.«01_k».proof.Proof.Gen.KernelIdeal.Frame
public import proofs.«01_k».proof.Proof.Gen.KernelIdeal.Skeleton
public import proofs.«01_k».proof.Proof.LruTripIdeal
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pointwise.Index
public import Idealize.ShloMosaic.Lib.WritesUnit
public import Idealize.ShloMosaic.Lib.WholeRead
public import Idealize.ShloMosaic.Lib.Pipeline.Value

@[expose] public section

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The block is the first of its sequence. -/
abbrev starts (i : grid0.Coords) : Prop :=
  Scalar.cmpi .ne (Scalar.extui (Scalar.cmpi .eq (BitVec.ofNat 32 (i 1).val) 0#32)) 0#32 = 1#1

/-- A whole-buffer store leaves what it stores. -/
theorem read_whole3 {m : Memref sig .tc .vmem S1x256x2048 .f32} (f : m.view.ty.Contents (Elt F)) (w : Vec F S1x256x2048 .f32) (L : List (View.Piece (Elt F) S1x256x2048 .f32)) :
    m.view.read (Elt F) (m.view.writes (Elt F) f (⟨Rect.unit (s := S1x256x2048) ![0, 0, 0] S1x256x2048.size inb_S1x256x2048_S1x256x2048_0_0_0, w⟩ :: L)) = w :=
  funext fun y => View.read_writes_cons_unit_of_mem m.view f _ w L y y rfl (by
    intro a; match a with
    | ⟨0, _⟩ => exact (Nat.zero_add _).symm
    | ⟨1, _⟩ => exact (Nat.zero_add _).symm
    | ⟨2, _⟩ => exact (Nat.zero_add _).symm)

/-- The same for the state's buffer. -/
theorem read_whole2 {m : Memref sig .tc .vmem S1x2048 .f32} (f : m.view.ty.Contents (Elt F)) (w : Vec F S1x2048 .f32) (L : List (View.Piece (Elt F) S1x2048 .f32)) :
    m.view.read (Elt F) (m.view.writes (Elt F) f (⟨Rect.unit (s := S1x2048) ![0, 0] S1x2048.size inb_S1x2048_S1x2048_0_0, w⟩ :: L)) = w :=
  funext fun y => View.read_writes_cons_unit_of_mem m.view f _ w L y y rfl (by
    intro a; match a with
    | ⟨0, _⟩ => exact (Nat.zero_add _).symm
    | ⟨1, _⟩ => exact (Nat.zero_add _).symm)

/-- A load of the whole row buffer reads what it holds. -/
theorem load_rows {m : Memref sig .tc .vmem S256x2048 .f32} (f : m.view.ty.Contents (Elt F)) :
    View.readAt (Elt F) m.view (Rect.unit (s := S256x2048) ![0, 0] S256x2048.size inb_S256x2048_S256x2048_0_0).toLoadRect f = m.view.read (Elt F) f := by
  funext y
  show m.view.read (Elt F) f _ = _
  congr 1
  funext a; apply Fin.ext
  match a with
  | ⟨0, _⟩ => show 0 + 1 * (y 0).val = (y 0).val; omega
  | ⟨1, _⟩ => show 0 + 1 * (y 1).val = (y 1).val; omega

/-- A load of the whole state reads what it holds. -/
theorem load_state {m : Memref sig .tc .vmem S1x2048 .f32} (f : m.view.ty.Contents (Elt F)) :
    View.readAt (Elt F) m.view (Rect.unit (s := S1x2048) ![0, 0] S1x2048.size inb_S1x2048_S1x2048_0_0).toLoadRect f = m.view.read (Elt F) f := by
  funext y
  show m.view.read (Elt F) f _ = _
  congr 1
  funext a; apply Fin.ext
  match a with
  | ⟨0, _⟩ => show 0 + 1 * (y 0).val = (y 0).val; omega
  | ⟨1, _⟩ => show 0 + 1 * (y 1).val = (y 1).val; omega

/-- The state a block that continues its sequence starts from is the one it was given. -/
theorem entry_held {m : Memref sig .tc .vmem S1x2048 .f32} (hm : m.IsWhole) (h : Vec F S1x2048 .f32) :
    View.readAt (Elt F) m.view (Rect.unit (s := S1x2048) ![0, 0] S1x2048.size inb_S1x2048_S1x2048_0_0).toLoadRect (hm.unread h) = h :=
  (load_state _).trans (hm.read_unread h)

/-- The state a block that starts a sequence starts from is the one it has just stored. -/
theorem entry_zero {m : Memref sig .tc .vmem S1x2048 .f32} (f : m.view.ty.Contents (Elt F)) (h : Vec F S1x2048 .f32) :
    View.readAt (Elt F) m.view (Rect.unit (s := S1x2048) ![0, 0] S1x2048.size inb_S1x2048_S1x2048_0_0).toLoadRect
      (m.view.writes (Elt F) f [⟨Rect.unit (s := S1x2048) ![0, 0] S1x2048.size inb_S1x2048_S1x2048_0_0, h⟩]) = h :=
  (load_state _).trans (read_whole2 f h [])

set_option maxHeartbeats 4000000 in
/-- A block that starts a sequence, from the zero state: the body runs, and what it leaves in the output's block and in the
state are found by the run. -/
noncomputable def runA (c : Dev nD) (i : grid0.Coords) (arg2 : Memref sig .tc .vmem S1x256x2048 .bf16) (harg2 : arg2.IsWhole) (arg3 : Memref sig .tc .vmem S1x16x2048 .bf16) (harg3 : arg3.IsWhole) (arg4 : Memref sig .tc .vmem S1x16x2048 .bf16) (harg4 : arg4.IsWhole) (arg5 : Memref sig .tc .vmem S4x2048 .f32) (harg5 : arg5.IsWhole) (arg6 : Memref sig .tc .vmem S1x2048 .f32) (harg6 : arg6.IsWhole) (arg7 : Memref sig .tc .vmem S1x8x256x256 .bf16) (harg7 : arg7.IsWhole) (arg8 : Memref sig .tc .vmem S1x1x2048 .f32) (harg8 : arg8.IsWhole) (arg9 : Memref sig .tc .vmem S1x8x256x256 .bf16) (harg9 : arg9.IsWhole) (arg10 : Memref sig .tc .vmem S1x1x2048 .f32) (harg10 : arg10.IsWhole) (arg11 : Memref sig .tc .vmem S1x1x2048 .f32) (harg11 : arg11.IsWhole) (arg12 : Memref sig .tc .vmem S1x256x2048 .f32) (harg12 : arg12.IsWhole) (arg13 : Memref sig .tc .vmem S288x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S1x2048 .f32) (harg16 : arg16.IsWhole) (hc : starts i)
    (x0 : Vec F S1x256x2048 .bf16) (x1 : Vec F S1x16x2048 .bf16) (x2 : Vec F S1x16x2048 .bf16) (x3 : Vec F S4x2048 .f32) (x4 : Vec F S1x2048 .f32) (x5 : Vec F S1x8x256x256 .bf16) (x6 : Vec F S1x1x2048 .f32) (x7 : Vec F S1x8x256x256 .bf16) (x8 : Vec F S1x1x2048 .f32) (x9 : Vec F S1x1x2048 .f32) :
    Σ' (out : Vec F S1x256x2048 .f32), { nxt : Vec F S1x2048 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare out ∗ (∃ d, owns (c : Thread nD τ) arg13 fullShare d) ∗ (∃ d, owns (c : Thread nD τ) arg14 fullShare d) ∗ (∃ d, owns (c : Thread nD τ) arg15 fullShare d) ∗ owns (c : Thread nD τ) arg16 fullShare nxt) -∗ K ⟨⟩))
          ⊢ wp frame (wpE (defs₀ (F := F)) Variants.none c none) E (cc0_rglru_fwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0_rglru_fwd_eq_skeleton]; unfold cc0_rglru_fwd_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec! (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr
      swap; · iexact H12
      ipureintro; rfl
    isplitl [H13]
    · iexists _; iexists _; isplitr
      swap; · iexact H13
      ipureintro; rfl
    isplitl [H14]
    · iexists _; iexists _; isplitr
      swap; · iexact H14
      ipureintro; rfl
    isplitl [H15]
    · iexists _; iexists _; isplitr
      swap; · iexact H15
      ipureintro; rfl
    iexists _; isplitr
    swap; · iexact H16
    ipureintro; rfl

set_option maxHeartbeats 4000000 in
/-- A block that continues a sequence, from the state the block before left: the body runs, and what it leaves in the output's block and in the
state are found by the run. -/
noncomputable def runB (c : Dev nD) (i : grid0.Coords) (arg2 : Memref sig .tc .vmem S1x256x2048 .bf16) (harg2 : arg2.IsWhole) (arg3 : Memref sig .tc .vmem S1x16x2048 .bf16) (harg3 : arg3.IsWhole) (arg4 : Memref sig .tc .vmem S1x16x2048 .bf16) (harg4 : arg4.IsWhole) (arg5 : Memref sig .tc .vmem S4x2048 .f32) (harg5 : arg5.IsWhole) (arg6 : Memref sig .tc .vmem S1x2048 .f32) (harg6 : arg6.IsWhole) (arg7 : Memref sig .tc .vmem S1x8x256x256 .bf16) (harg7 : arg7.IsWhole) (arg8 : Memref sig .tc .vmem S1x1x2048 .f32) (harg8 : arg8.IsWhole) (arg9 : Memref sig .tc .vmem S1x8x256x256 .bf16) (harg9 : arg9.IsWhole) (arg10 : Memref sig .tc .vmem S1x1x2048 .f32) (harg10 : arg10.IsWhole) (arg11 : Memref sig .tc .vmem S1x1x2048 .f32) (harg11 : arg11.IsWhole) (arg12 : Memref sig .tc .vmem S1x256x2048 .f32) (harg12 : arg12.IsWhole) (arg13 : Memref sig .tc .vmem S288x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S1x2048 .f32) (harg16 : arg16.IsWhole) (hc : ¬starts i)
    (x0 : Vec F S1x256x2048 .bf16) (x1 : Vec F S1x16x2048 .bf16) (x2 : Vec F S1x16x2048 .bf16) (x3 : Vec F S4x2048 .f32) (x4 : Vec F S1x2048 .f32) (x5 : Vec F S1x8x256x256 .bf16) (x6 : Vec F S1x1x2048 .f32) (x7 : Vec F S1x8x256x256 .bf16) (x8 : Vec F S1x1x2048 .f32) (x9 : Vec F S1x1x2048 .f32) (h : Vec F S1x2048 .f32) :
    Σ' (out : Vec F S1x256x2048 .f32), { nxt : Vec F S1x2048 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare h ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare out ∗ (∃ d, owns (c : Thread nD τ) arg13 fullShare d) ∗ (∃ d, owns (c : Thread nD τ) arg14 fullShare d) ∗ (∃ d, owns (c : Thread nD τ) arg15 fullShare d) ∗ owns (c : Thread nD τ) arg16 fullShare nxt) -∗ K ⟨⟩))
          ⊢ wp frame (wpE (defs₀ (F := F)) Variants.none c none) E (cc0_rglru_fwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0_rglru_fwd_eq_skeleton]; unfold cc0_rglru_fwd_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, %hf12, H12⟩, ⟨%d13, %f13, %hf13, H13⟩, ⟨%d14, %f14, %hf14, H14⟩, ⟨%d15, %f15, %hf15, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg16.eq_unread hf16
    sl_exec! (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr
      swap; · iexact H12
      ipureintro; rfl
    isplitl [H13]
    · iexists _; iexists _; isplitr
      swap; · iexact H13
      ipureintro; rfl
    isplitl [H14]
    · iexists _; iexists _; isplitr
      swap; · iexact H14
      ipureintro; rfl
    isplitl [H15]
    · iexists _; iexists _; isplitr
      swap; · iexact H15
      ipureintro; rfl
    iexists _; isplitr
    swap; · iexact H16
    ipureintro; rfl

end Cert.KernelIdeal.Lru

end
-- ==== Proof.LruFrameIdeal.lean ====
/- The recurrence's call (`kernel`), point by point, and the run of the whole program. -/
module

public import proofs.«01_k».proof.Proof.LruRunIdeal
public import Idealize.ShloMosaic.Lib.Claim
public import Idealize.ShloMosaic.Lib.WordCmp

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each point's place in its sequence: the first block's points are those divisible by 32. -/
theorem starts_iff (t : Fin cfg0.N) : starts (grid0.coords t) ↔ t.val % 32 = 0 := by
  have ht : t.val < 64 := Nat.lt_of_lt_of_eq t.isLt N_0
  have e1 : (grid0.coords t 1).val = t.val / 1 % 32 := Pipeline.Grid.coords_val t 1 (by decide) rfl
  simp only [starts, e1]
  word_cmp

/-! ## The buffers a point works on -/

/-- Window 0's buffer at a point, a whole one. -/
abbrev win0 (t : Fin cfg0.N) : Memref sig .tc .vmem S1x256x2048 .bf16 := win0_0.stage (cfg0.slots t 0)
theorem whole0 (t : Fin cfg0.N) : (win0 t).IsWhole := hstage0_0 ((cfg0.slots t 0).cast nbuf0_0)
/-- Window 1's buffer at a point, a whole one. -/
abbrev win1 (t : Fin cfg0.N) : Memref sig .tc .vmem S1x16x2048 .bf16 := win0_1.stage (cfg0.slots t 1)
theorem whole1 (t : Fin cfg0.N) : (win1 t).IsWhole := hstage0_1 ((cfg0.slots t 1).cast nbuf0_1)
/-- Window 2's buffer at a point, a whole one. -/
abbrev win2 (t : Fin cfg0.N) : Memref sig .tc .vmem S1x16x2048 .bf16 := win0_2.stage (cfg0.slots t 2)
theorem whole2 (t : Fin cfg0.N) : (win2 t).IsWhole := hstage0_2 ((cfg0.slots t 2).cast nbuf0_2)
/-- Window 3's buffer at a point, a whole one. -/
abbrev win3 (t : Fin cfg0.N) : Memref sig .tc .vmem S4x2048 .f32 := win0_3.stage (cfg0.slots t 3)
theorem whole3 (t : Fin cfg0.N) : (win3 t).IsWhole := hstage0_3 ((cfg0.slots t 3).cast nbuf0_3)
/-- Window 4's buffer at a point, a whole one. -/
abbrev win4 (t : Fin cfg0.N) : Memref sig .tc .vmem S1x2048 .f32 := win0_4.stage (cfg0.slots t 4)
theorem whole4 (t : Fin cfg0.N) : (win4 t).IsWhole := hstage0_4 ((cfg0.slots t 4).cast nbuf0_4)
/-- Window 5's buffer at a point, a whole one. -/
abbrev win5 (t : Fin cfg0.N) : Memref sig .tc .vmem S1x8x256x256 .bf16 := win0_5.stage (cfg0.slots t 5)
theorem whole5 (t : Fin cfg0.N) : (win5 t).IsWhole := hstage0_5 ((cfg0.slots t 5).cast nbuf0_5)
/-- Window 6's buffer at a point, a whole one. -/
abbrev win6 (t : Fin cfg0.N) : Memref sig .tc .vmem S1x1x2048 .f32 := win0_6.stage (cfg0.slots t 6)
theorem whole6 (t : Fin cfg0.N) : (win6 t).IsWhole := hstage0_6 ((cfg0.slots t 6).cast nbuf0_6)
/-- Window 7's buffer at a point, a whole one. -/
abbrev win7 (t : Fin cfg0.N) : Memref sig .tc .vmem S1x8x256x256 .bf16 := win0_7.stage (cfg0.slots t 7)
theorem whole7 (t : Fin cfg0.N) : (win7 t).IsWhole := hstage0_7 ((cfg0.slots t 7).cast nbuf0_7)
/-- Window 8's buffer at a point, a whole one. -/
abbrev win8 (t : Fin cfg0.N) : Memref sig .tc .vmem S1x1x2048 .f32 := win0_8.stage (cfg0.slots t 8)
theorem whole8 (t : Fin cfg0.N) : (win8 t).IsWhole := hstage0_8 ((cfg0.slots t 8).cast nbuf0_8)
/-- Window 9's buffer at a point, a whole one. -/
abbrev win9 (t : Fin cfg0.N) : Memref sig .tc .vmem S1x1x2048 .f32 := win0_9.stage (cfg0.slots t 9)
theorem whole9 (t : Fin cfg0.N) : (win9 t).IsWhole := hstage0_9 ((cfg0.slots t 9).cast nbuf0_9)
/-- Window 10's buffer at a point, a whole one. -/
abbrev win10 (t : Fin cfg0.N) : Memref sig .tc .vmem S1x256x2048 .f32 := win0_10.stage (cfg0.slots t 10)
theorem whole10 (t : Fin cfg0.N) : (win10 t).IsWhole := hstage0_10 ((cfg0.slots t 10).cast nbuf0_10)
/-- The convolution's buffer. -/
abbrev buf0 : Memref sig .tc .vmem S288x2048 .f32 := Memref.whole cc0_scratch0
/-- The decays' buffer. -/
abbrev buf1 : Memref sig .tc .vmem S256x2048 .f32 := Memref.whole cc0_scratch1
/-- The rows' buffer. -/
abbrev buf2 : Memref sig .tc .vmem S256x2048 .f32 := Memref.whole cc0_scratch2
/-- The state's buffer. -/
abbrev buf3 : Memref sig .tc .vmem S1x2048 .f32 := Memref.whole cc0_scratch3

/-- The program's leftover buffers and the generator's register, the buffers as owned memrefs. -/
theorem rest_eq (c : Dev nD) :
    (Pipeline.ΦA spec0 c : sProp 𝕄)
      = iprop(iprop((∃ d, owns (c : Thread nD τ) buf0 fullShare d) ∗ (∃ d, owns (c : Thread nD τ) buf1 fullShare d) ∗ (∃ d, owns (c : Thread nD τ) buf2 fullShare d) ∗ (∃ d, owns (c : Thread nD τ) buf3 fullShare d)) ∗ (∃ r, prngReg c r)) := by
  unfold Pipeline.ΦA; rw [scopedRest0_eq]; simp only [buf0, buf1, buf2, buf3, owns_whole]; try rfl

/-! ## What the points leave -/

/-- What a point leaves in the output's block and in the state, given the state it finds. -/
def step (c : Dev nD) (t : Fin cfg0.N) (h : Vec F S1x2048 .f32) : Vec F S1x256x2048 .f32 × Vec F S1x2048 .f32 :=
  if hc : starts (grid0.coords t) then
    ((runA c (grid0.coords t) (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) buf0 (Memref.isWhole_whole _) buf1 (Memref.isWhole_whole _) buf2 (Memref.isWhole_whole _) buf3 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t)).1, (runA c (grid0.coords t) (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) buf0 (Memref.isWhole_whole _) buf1 (Memref.isWhole_whole _) buf2 (Memref.isWhole_whole _) buf3 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t)).2.1)
  else
    ((runB c (grid0.coords t) (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) buf0 (Memref.isWhole_whole _) buf1 (Memref.isWhole_whole _) buf2 (Memref.isWhole_whole _) buf3 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) h).1, (runB c (grid0.coords t) (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) buf0 (Memref.isWhole_whole _) buf1 (Memref.isWhole_whole _) buf2 (Memref.isWhole_whole _) buf3 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) h).2.1)

theorem step_starts (c : Dev nD) (t : Fin cfg0.N) (h : Vec F S1x2048 .f32) (hc : starts (grid0.coords t)) :
    step m c t h = ((runA c (grid0.coords t) (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) buf0 (Memref.isWhole_whole _) buf1 (Memref.isWhole_whole _) buf2 (Memref.isWhole_whole _) buf3 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t)).1, (runA c (grid0.coords t) (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) buf0 (Memref.isWhole_whole _) buf1 (Memref.isWhole_whole _) buf2 (Memref.isWhole_whole _) buf3 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t)).2.1) :=
  dif_pos hc

theorem step_continues (c : Dev nD) (t : Fin cfg0.N) (h : Vec F S1x2048 .f32) (hc : ¬starts (grid0.coords t)) :
    step m c t h = ((runB c (grid0.coords t) (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) buf0 (Memref.isWhole_whole _) buf1 (Memref.isWhole_whole _) buf2 (Memref.isWhole_whole _) buf3 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) h).1, (runB c (grid0.coords t) (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) buf0 (Memref.isWhole_whole _) buf1 (Memref.isWhole_whole _) buf2 (Memref.isWhole_whole _) buf3 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) h).2.1) :=
  dif_neg hc

/-- The state before point `n`. -/
def state (c : Dev nD) : ℕ → Vec F S1x2048 .f32
  | 0 => k0_pay7
  | n + 1 => if hn : n < cfg0.N then (step m c ⟨n, hn⟩ (state c n)).2 else state c n

theorem state_succ (c : Dev nD) (t : Fin cfg0.N) : state m c (t.val + 1) = (step m c t (state m c t.val)).2 :=
  dif_pos t.isLt

/-- What point `t` leaves in the output's block. -/
def left (c : Dev nD) (t : Fin cfg0.N) : Vec F S1x256x2048 .f32 := (step m c t (state m c t.val)).1

/-- The buffers between the points: before the first at anything, afterwards the state's at the state. -/
def between (c : Dev nD) : (n : ℕ) → n ≤ cfg0.N → sProp 𝕄
  | 0, _ => Pipeline.ΦA spec0 c
  | n + 1, _ => iprop(iprop((∃ d, owns (c : Thread nD τ) buf0 fullShare d) ∗ (∃ d, owns (c : Thread nD τ) buf1 fullShare d) ∗ (∃ d, owns (c : Thread nD τ) buf2 fullShare d) ∗ owns (c : Thread nD τ) buf3 fullShare (state m c (n + 1))) ∗ (∃ r, prngReg c r))

theorem between_succ (c : Dev nD) (n : ℕ) (hn : n + 1 ≤ cfg0.N) :
    between m c (n + 1) hn = iprop(iprop((∃ d, owns (c : Thread nD τ) buf0 fullShare d) ∗ (∃ d, owns (c : Thread nD τ) buf1 fullShare d) ∗ (∃ d, owns (c : Thread nD τ) buf2 fullShare d) ∗ owns (c : Thread nD τ) buf3 fullShare (state m c (n + 1))) ∗ (∃ r, prngReg c r)) := rfl

theorem between_pos (c : Dev nD) (n : ℕ) (hn : n ≤ cfg0.N) (hz : n ≠ 0) :
    between m c n hn = iprop(iprop((∃ d, owns (c : Thread nD τ) buf0 fullShare d) ∗ (∃ d, owns (c : Thread nD τ) buf1 fullShare d) ∗ (∃ d, owns (c : Thread nD τ) buf2 fullShare d) ∗ owns (c : Thread nD τ) buf3 fullShare (state m c n)) ∗ (∃ r, prngReg c r)) := by
  cases n with
  | zero => exact absurd rfl hz
  | succ n => rfl

/-- Forgetting the state gives the buffers at anything. -/
theorem between_forget (c : Dev nD) (n : ℕ) (hn : n ≤ cfg0.N) : between m c n hn ⊢ Pipeline.ΦA spec0 c := by
  cases n with
  | zero => exact Idealize.SL.BI.Entails.refl _
  | succ n =>
    rw [between_succ, rest_eq]
    iintro ⟨⟨H0, H1, H2, H3⟩, Hg⟩
    isplitl [H0 H1 H2 H3]
    · isplitl [H0]; · iexact H0
      isplitl [H1]; · iexact H1
      isplitl [H2]; · iexact H2
      iexists _; iexact H3
    iexact Hg

/-- The pipeline's proof data: the inputs' blocks stay, the output's is left at `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => left m c t
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem between_castSucc (c : Dev nD) (t : Fin cfg0.N) :
    (dats m 0 c).Φ t.castSucc = between m c t.val (Nat.le_of_lt t.isLt) := by
  dsimp only [dats]; exact Pipeline.Dat.Φ_castSucc (between m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = left m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

theorem leaves_0 (c : Dev nD) (t : Fin cfg0.N) :
    (dats m 0 c).leavesExact 0 t = owns (c : Thread nD τ) (win0 t) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (win1 t) fullShare (iblk m c 1 t) := by
  unfold Dat.leavesExact; rw [show cfg0.idle 1 (grid0.coords t) = false from rfl, after_1]
theorem leaves_2 (c : Dev nD) (t : Fin cfg0.N) :
    (dats m 0 c).leavesExact 2 t = owns (c : Thread nD τ) (win2 t) fullShare (iblk m c 2 t) := by
  unfold Dat.leavesExact; rw [show cfg0.idle 2 (grid0.coords t) = false from rfl, after_2]
theorem leaves_3 (c : Dev nD) (t : Fin cfg0.N) :
    (dats m 0 c).leavesExact 3 t = owns (c : Thread nD τ) (win3 t) fullShare (iblk m c 3 t) := by
  unfold Dat.leavesExact; rw [show cfg0.idle 3 (grid0.coords t) = false from rfl, after_3]
theorem leaves_4 (c : Dev nD) (t : Fin cfg0.N) :
    (dats m 0 c).leavesExact 4 t = owns (c : Thread nD τ) (win4 t) fullShare (iblk m c 4 t) := by
  unfold Dat.leavesExact; rw [show cfg0.idle 4 (grid0.coords t) = false from rfl, after_4]
theorem leaves_5 (c : Dev nD) (t : Fin cfg0.N) :
    (dats m 0 c).leavesExact 5 t = owns (c : Thread nD τ) (win5 t) fullShare (iblk m c 5 t) := by
  unfold Dat.leavesExact; rw [show cfg0.idle 5 (grid0.coords t) = false from rfl, after_5]
theorem leaves_6 (c : Dev nD) (t : Fin cfg0.N) :
    (dats m 0 c).leavesExact 6 t = owns (c : Thread nD τ) (win6 t) fullShare (iblk m c 6 t) := by
  unfold Dat.leavesExact; rw [show cfg0.idle 6 (grid0.coords t) = false from rfl, after_6]
theorem leaves_7 (c : Dev nD) (t : Fin cfg0.N) :
    (dats m 0 c).leavesExact 7 t = owns (c : Thread nD τ) (win7 t) fullShare (iblk m c 7 t) := by
  unfold Dat.leavesExact; rw [show cfg0.idle 7 (grid0.coords t) = false from rfl, after_7]
theorem leaves_8 (c : Dev nD) (t : Fin cfg0.N) :
    (dats m 0 c).leavesExact 8 t = owns (c : Thread nD τ) (win8 t) fullShare (iblk m c 8 t) := by
  unfold Dat.leavesExact; rw [show cfg0.idle 8 (grid0.coords t) = false from rfl, after_8]
theorem leaves_9 (c : Dev nD) (t : Fin cfg0.N) :
    (dats m 0 c).leavesExact 9 t = owns (c : Thread nD τ) (win9 t) fullShare (iblk m c 9 t) := by
  unfold Dat.leavesExact; rw [show cfg0.idle 9 (grid0.coords t) = false from rfl, after_9]
theorem leaves_10 (c : Dev nD) (t : Fin cfg0.N) :
    (dats m 0 c).leavesExact 10 t = owns (c : Thread nD τ) (win10 t) fullShare (left m c t) := by
  unfold Dat.leavesExact; rw [show cfg0.idle 10 (grid0.coords t) = false from rfl, after_10]

/-! ## The body at a point -/

/-- What the body is called with at a point, the windows one by one. -/
def bodyPre (c : Dev nD) (t : Fin cfg0.N) : sProp 𝕄 :=
  iprop((dats m 0 c).Φ t.castSucc ∗ (dats m 0 c).owesAt () t.castSucc
    ∗ (∃ d, owns (c : Thread nD τ) (win0 t) fullShare ((dats m 0 c).before 0 t d))
    ∗ (∃ d, owns (c : Thread nD τ) (win1 t) fullShare ((dats m 0 c).before 1 t d))
    ∗ (∃ d, owns (c : Thread nD τ) (win2 t) fullShare ((dats m 0 c).before 2 t d))
    ∗ (∃ d, owns (c : Thread nD τ) (win3 t) fullShare ((dats m 0 c).before 3 t d))
    ∗ (∃ d, owns (c : Thread nD τ) (win4 t) fullShare ((dats m 0 c).before 4 t d))
    ∗ (∃ d, owns (c : Thread nD τ) (win5 t) fullShare ((dats m 0 c).before 5 t d))
    ∗ (∃ d, owns (c : Thread nD τ) (win6 t) fullShare ((dats m 0 c).before 6 t d))
    ∗ (∃ d, owns (c : Thread nD τ) (win7 t) fullShare ((dats m 0 c).before 7 t d))
    ∗ (∃ d, owns (c : Thread nD τ) (win8 t) fullShare ((dats m 0 c).before 8 t d))
    ∗ (∃ d, owns (c : Thread nD τ) (win9 t) fullShare ((dats m 0 c).before 9 t d))
    ∗ (∃ d, owns (c : Thread nD τ) (win10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = between m c (t.val + 1) t.isLt from rfl, between_succ, state_succ]
  rw [leaves_0, leaves_1, leaves_2, leaves_3, leaves_4, leaves_5, leaves_6, leaves_7, leaves_8, leaves_9, leaves_10, between_castSucc]
  unfold left
  by_cases hc : starts (grid0.coords t)
  · rw [step_starts m c t _ hc]
    refine (Idealize.SL.BI.Laws.sep_mono_left ((between_forget m c t.val (Nat.le_of_lt t.isLt)))).trans ?_
    rw [rest_eq]
    dsimp only
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA c (grid0.coords t) (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) buf0 (Memref.isWhole_whole _) buf1 (Memref.isWhole_whole _) buf2 (Memref.isWhole_whole _) buf3 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [S0]; · iexact S0
    isplitl [S1]; · iexact S1
    isplitl [S2]; · iexact S2
    isplitl [S3]; · iexact S3
    iintro ⟨H0, H1, H2, H3, H4, H5, H6, H7, H8, H9, H10, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [step_continues m c t _ hc]
    rw [between_pos m c t.val _ (fun hz => hc ((starts_iff t).mpr (by rw [hz])))]
    dsimp only
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB c (grid0.coords t) (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) buf0 (Memref.isWhole_whole _) buf1 (Memref.isWhole_whole _) buf2 (Memref.isWhole_whole _) buf3 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (state m c t.val)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [S0]; · iexact S0
    isplitl [S1]; · iexact S1
    isplitl [S2]; · iexact S2
    isplitl [S3]; · iexact S3
    iintro ⟨H0, H1, H2, H3, H4, H5, H6, H7, H8, H9, H10, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at a point's slots is the body as written there. -/
theorem defs_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem enter (c : Dev nD) : Pipeline.ΦA spec0 c ⊢ (dats m 0 c).Φ 0 := by
  rw [show (dats m 0 c).Φ 0 = between m c 0 (Nat.zero_le _) from rfl]
  exact Idealize.SL.BI.Entails.refl _

theorem leave (c : Dev nD) : (dats m 0 c).Φ (Fin.last cfg0.N) ⊢ Pipeline.ΦA spec0 c := by
  rw [show (dats m 0 c).Φ (Fin.last cfg0.N) = between m c cfg0.N (le_refl _) from rfl]
  exact between_forget m c _ _

/-! ## The run -/

set_option backward.isDefEq.respectTransparency.types false in
/-- Every run ends with each array at what the proof data says, and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

theorem run : θ_run defs (onTc (τ := τ) (main (F := F))) (s₀ m ρ) (Pipeline.FramePost cfgs (dats m) 0 (V m)) :=
  (θ_run defs _ _).mono (fun _ h => h.1) (run_quiet m ρ)

/-- Every run ends with the arguments unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run m ρ)) ((θ_run defs _ _).mono (fun _ h => h.2) (run_quiet m ρ))

/-- Every run ends with the result's array at what the points left in it, the arguments unchanged. -/
theorem run_blocks : θ_run defs (onTc (τ := τ) (main (F := F))) ⟨m, fun _ => 0, ρ⟩ (fun r => ∀ c : Dev nD,
      r.2.mem ((c.tc : Thread nD τ).loc main_v13) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h.1 c).1 10, h.2 c⟩)
    (θ_run_and (run m ρ) (frame_of m ρ (dats m) (A_eq m) (run m ρ)))

end Cert.KernelIdeal.Lru

end
-- ==== Proof.LruHeadIdeal.lean ====
/- The recurrence's call (`kernel`): what each head stores, column by column. -/
module

public import proofs.«01_k».proof.Proof.Gen.KernelIdeal.Skeleton
public import Idealize.ShloMosaic.Lib.Pipeline.Value
public import Idealize.ShloMosaic.Lib.Pipeline.Kit
public import Idealize.ShloMosaic.Lib.Pointwise

@[expose] public section

noncomputable section

namespace Cert.KernelIdeal.Lru

open Cert.KernelIdeal Cert.KernelIdeal.Gen Idealize.ShloMosaic Idealize.ShloMosaic.TcCoe

/-- Column `q` of head `j`. -/
def col (j : Fin 8) (q : Fin 256) : Fin 2048 := ⟨256 * j.val + q.val, by omega⟩

theorem col_zero (q : Fin 256) : col 0 q = ⟨q.val, by omega⟩ := Fin.ext (show 256 * 0 + q.val = q.val by omega)

/-- A gate of row `r` at column `q` of head `j`: the logistic function of the head's product plus the bias. -/
def gate (X : Vec Ideal S256x2048 .f32) (w : Vec Ideal S1x1x256x256 .bf16) (b : Vec Ideal S1x1x2048 .f32) (j : Fin 8) (r q : Fin 256) : EReal :=
  Ideal.div 1 (1 + Ideal.exp (0 - ((∑ k : Fin 256, HMul.hMul (α := EReal) (β := EReal) (γ := EReal) (X (ix2 r (col j k))) (w (ix4 (0 : Fin 1) (0 : Fin 1) k q))) + b (ix3 (0 : Fin 1) (0 : Fin 1) (col j q)))))

/-- The decay of row `r` at column `q` of head `j`. -/
def decay (X : Vec Ideal S256x2048 .f32) (rate : Vec Ideal S1x2048 .f32) (w : Vec Ideal S1x1x256x256 .bf16) (b : Vec Ideal S1x1x2048 .f32) (j : Fin 8) (r q : Fin 256) : EReal :=
  Ideal.exp (HMul.hMul (α := EReal) (β := EReal) (γ := EReal) (rate (ix2 (0 : Fin 1) (col j q))) (gate X w b j r q))

/-- The input of row `r` at column `q` of head `j`. -/
def input (X : Vec Ideal S256x2048 .f32) (rate : Vec Ideal S1x2048 .f32) (w : Vec Ideal S1x1x256x256 .bf16) (b : Vec Ideal S1x1x2048 .f32)
    (wx : Vec Ideal S1x1x256x256 .bf16) (bx : Vec Ideal S1x1x2048 .f32) (j : Fin 8) (r q : Fin 256) : EReal :=
  HMul.hMul (α := EReal) (β := EReal) (γ := EReal) (Ideal.sqrt (1 - HMul.hMul (α := EReal) (β := EReal) (γ := EReal) (decay X rate w b j r q) (decay X rate w b j r q)))
    (HMul.hMul (α := EReal) (β := EReal) (γ := EReal) (gate X wx bx j r q) (X (ix2 r (col j q))))

variable (X : Vec Ideal S256x2048 .f32) (sp : Vec Ideal S1x2048 .f32) (w wx : Vec Ideal S1x1x256x256 .bf16) (b bx : Vec Ideal S1x1x2048 .f32) (r q : Fin 256)

/-- What head 0 stores as decays. -/
theorem decay_0 : (k0_pay20 (F := Ideal) (k0_pay18 X sp w b)) (ix2 r q) = decay X (k0_pay14 (F := Ideal) sp) w b 0 r q := by
  pointwise [k0_pay20, k0_pay18, k0_pay19, k0_pay16, k0_pay15]
  unfold decay gate; simp only [col_zero]

/-- What head 0 stores as inputs. -/
theorem input_0 : (k0_pay21 (F := Ideal) (k0_pay15 X) (k0_pay17 X wx bx) (k0_pay18 X sp w b)) (ix2 r q) = input X (k0_pay14 (F := Ideal) sp) w b wx bx 0 r q := by
  pointwise [k0_pay21, k0_pay15, k0_pay17, k0_pay18, k0_pay19, k0_pay16]
  unfold input decay gate; simp only [col_zero]

/-- What head 1 stores as decays. -/
theorem decay_1 : (k0_pay27 (F := Ideal) (k0_pay14 (F := Ideal) sp) (k0_pay24 X w b)) (ix2 r q) = decay X (k0_pay14 (F := Ideal) sp) w b 1 r q := by
  pointwise [k0_pay27, k0_pay24, k0_pay26, k0_pay23, k0_pay22]
  rfl

/-- What head 1 stores as inputs. -/
theorem input_1 : (k0_pay28 (F := Ideal) (k0_pay14 (F := Ideal) sp) (k0_pay22 X) (k0_pay24 X w b) (k0_pay25 X wx) bx) (ix2 r q) = input X (k0_pay14 (F := Ideal) sp) w b wx bx 1 r q := by
  pointwise [k0_pay28, k0_pay22, k0_pay24, k0_pay25, k0_pay26, k0_pay23]
  rfl

/-- What head 2 stores as decays. -/
theorem decay_2 : (k0_pay33 (F := Ideal) (k0_pay14 (F := Ideal) sp) (k0_pay31 X w b) (FloatOps.ofBits (F := Ideal) FTy.f32 1065353216#32)) (ix2 r q) = decay X (k0_pay14 (F := Ideal) sp) w b 2 r q := by
  pointwise [k0_pay33, k0_pay31, k0_pay32, k0_pay30, k0_pay29]
  rfl

/-- What head 2 stores as inputs. -/
theorem input_2 : (k0_pay34 (F := Ideal) (k0_pay14 (F := Ideal) sp) (k0_pay29 X) (k0_pay30 X) (k0_pay31 X w b) (FloatOps.ofBits (F := Ideal) FTy.f32 1065353216#32) wx bx) (ix2 r q) = input X (k0_pay14 (F := Ideal) sp) w b wx bx 2 r q := by
  pointwise [k0_pay34, k0_pay29, k0_pay30, k0_pay31, k0_pay32]
  rfl

/-- What head 3 stores as decays. -/
theorem decay_3 : (k0_pay39 (F := Ideal) (k0_pay14 (F := Ideal) sp) (k0_pay36 X) w b) (ix2 r q) = decay X (k0_pay14 (F := Ideal) sp) w b 3 r q := by
  pointwise [k0_pay39, k0_pay36, k0_pay38, k0_pay35]
  rfl

/-- What head 3 stores as inputs. -/
theorem input_3 : (k0_pay41 (F := Ideal) (k0_pay35 X) (k0_pay37 (k0_pay36 X) wx bx) (k0_pay40 (k0_pay14 (F := Ideal) sp) (k0_pay36 X) w b) (FloatOps.ofBits (F := Ideal) FTy.f32 1065353216#32)) (ix2 r q) = input X (k0_pay14 (F := Ideal) sp) w b wx bx 3 r q := by
  pointwise [k0_pay41, k0_pay35, k0_pay37, k0_pay36, k0_pay40, k0_pay38]
  rfl

/-- What head 4 stores as decays. -/
theorem decay_4 : (k0_pay47 (F := Ideal) (k0_pay14 (F := Ideal) sp) (k0_pay44 X w b)) (ix2 r q) = decay X (k0_pay14 (F := Ideal) sp) w b 4 r q := by
  pointwise [k0_pay47, k0_pay44, k0_pay46, k0_pay43, k0_pay42]
  rfl

/-- What head 4 stores as inputs. -/
theorem input_4 : (k0_pay48 (F := Ideal) (k0_pay14 (F := Ideal) sp) (k0_pay42 X) (k0_pay44 X w b) (k0_pay45 X wx bx) (FloatOps.ofBits (F := Ideal) FTy.f32 1065353216#32)) (ix2 r q) = input X (k0_pay14 (F := Ideal) sp) w b wx bx 4 r q := by
  pointwise [k0_pay48, k0_pay42, k0_pay44, k0_pay45, k0_pay46, k0_pay43]
  rfl

/-- What head 5 stores as decays. -/
theorem decay_5 : (k0_pay53 (F := Ideal) (k0_pay14 (F := Ideal) sp) (k0_pay51 X w b)) (ix2 r q) = decay X (k0_pay14 (F := Ideal) sp) w b 5 r q := by
  pointwise [k0_pay53, k0_pay51, k0_pay52, k0_pay50, k0_pay49]
  rfl

/-- What head 5 stores as inputs. -/
theorem input_5 : (k0_pay54 (F := Ideal) (k0_pay14 (F := Ideal) sp) (k0_pay49 X) (k0_pay50 X) (k0_pay51 X w b) wx bx) (ix2 r q) = input X (k0_pay14 (F := Ideal) sp) w b wx bx 5 r q := by
  pointwise [k0_pay54, k0_pay49, k0_pay50, k0_pay51, k0_pay52]
  rfl

/-- What head 6 stores as decays. -/
theorem decay_6 : (k0_pay60 (F := Ideal) (k0_pay14 (F := Ideal) sp) (k0_pay57 X w) (k0_pay58 b)) (ix2 r q) = decay X (k0_pay14 (F := Ideal) sp) w b 6 r q := by
  pointwise [k0_pay60, k0_pay57, k0_pay58, k0_pay59, k0_pay56, k0_pay55]
  rfl

/-- What head 6 stores as inputs. -/
theorem input_6 : (k0_pay62 (F := Ideal) (k0_pay61 (k0_pay14 (F := Ideal) sp) (k0_pay55 X) (k0_pay56 X) (k0_pay57 X w) (k0_pay58 b) wx bx)) (ix2 r q) = input X (k0_pay14 (F := Ideal) sp) w b wx bx 6 r q := by
  pointwise [k0_pay62, k0_pay61, k0_pay55, k0_pay56, k0_pay57, k0_pay58, k0_pay59]
  rfl

/-- What head 7 stores as decays. -/
theorem decay_7 : (k0_pay1 (F := Ideal) (k0_pay66 X (k0_pay14 (F := Ideal) sp) w b)) (ix2 r q) = decay X (k0_pay14 (F := Ideal) sp) w b 7 r q := by
  pointwise [k0_pay1, k0_pay66, k0_pay64, k0_pay63]
  rfl

/-- What head 7 stores as inputs. -/
theorem input_7 : (k0_pay2 (F := Ideal) (k0_pay63 X) (k0_pay65 X wx bx) (k0_pay66 X (k0_pay14 (F := Ideal) sp) w b)) (ix2 r q) = input X (k0_pay14 (F := Ideal) sp) w b wx bx 7 r q := by
  pointwise [k0_pay2, k0_pay63, k0_pay65, k0_pay66, k0_pay64]
  rfl

end Cert.KernelIdeal.Lru

end
-- ==== Proof.LruReadIdeal.lean ====
/- The recurrence's call (`kernel`): its buffers and its loads, entry by entry. -/
module

public import proofs.«01_k».proof.Proof.LruFrameIdeal
public import proofs.«01_k».proof.Proof.LruHeadIdeal

@[expose] public section

set_option maxHeartbeats 1000000

noncomputable section

namespace Cert.KernelIdeal.Lru

open Cert.KernelIdeal Cert.KernelIdeal.Gen
open Idealize.ShloMosaic Idealize.ShloMosaic.TcCoe

/-! ## The buffers' pieces -/

/-- The convolution's buffer, row by row: sixteen rows of the block before, the block's, sixteen of the block after. -/
theorem read_padded {v : View sig .tc .vmem S288x2048 .f32} (f : v.ty.Contents (Elt Ideal)) (p10 : Vec Ideal S16x2048 .f32) (p9 : Vec Ideal S256x2048 .f32) (p8 : Vec Ideal S16x2048 .f32) (k : Fin 288) (n : Fin 2048) :
    v.read (Elt Ideal) (v.writes (Elt Ideal) f [⟨Rect.unit (s := S288x2048) ![272, 0] S16x2048.size inb_S288x2048_S16x2048_272_0, p10⟩,
        ⟨Rect.unit (s := S288x2048) ![16, 0] S256x2048.size inb_S288x2048_S256x2048_16_0, p9⟩,
        ⟨Rect.unit (s := S288x2048) ![0, 0] S16x2048.size inb_S288x2048_S16x2048_0_0, p8⟩]) (ix2 k n)
      = if h : k.val < 16 then p8 (ix2 (⟨k.val, h⟩ : Fin 16) n) else
        if h' : k.val < 272 then p9 (ix2 (⟨k.val - 16, by omega⟩ : Fin 256) n) else p10 (ix2 (⟨k.val - 272, by omega⟩ : Fin 16) n) := by
  by_cases h : k.val < 16
  · rw [dif_pos h]
    refine (View.read_writes_cons_rows_of_not_mem v f (o := 272) (W := 16) _ _ _ _ rfl rfl (Or.inl ?_)).trans ?_
    · show k.val < 272; omega
    refine (View.read_writes_cons_rows_of_not_mem v f (o := 16) (W := 256) _ _ _ _ rfl rfl (Or.inl h)).trans ?_
    exact View.read_writes_cons_rows_of_mem v f (o := 0) _ _ _ _ (ix2 (⟨k.val, h⟩ : Fin 16) n) rfl (Nat.zero_add _).symm rfl
  · rw [dif_neg h]
    by_cases h' : k.val < 272
    · rw [dif_pos h']
      refine (View.read_writes_cons_rows_of_not_mem v f (o := 272) (W := 16) _ _ _ _ rfl rfl (Or.inl h')).trans ?_
      refine View.read_writes_cons_rows_of_mem v f (o := 16) _ _ _ _ (ix2 (⟨k.val - 16, by omega⟩ : Fin 256) n) rfl ?_ rfl
      show k.val = 16 + (k.val - 16); omega
    · rw [dif_neg h']
      refine View.read_writes_cons_rows_of_mem v f (o := 272) _ _ _ _ (ix2 (⟨k.val - 272, by omega⟩ : Fin 16) n) rfl ?_ rfl
      show k.val = 272 + (k.val - 272); omega

/-- A buffer the eight heads have stored into, head by head. -/
theorem read_heads {v : View sig .tc .vmem S256x2048 .f32} (f : v.ty.Contents (Elt Ideal)) (p0 p1 p2 p3 p4 p5 p6 p7 : Vec Ideal S256x256 .f32) (j : Fin 8) (r q : Fin 256) :
    v.read (Elt Ideal) (v.writes (Elt Ideal) f [
        ⟨Rect.unit (s := S256x2048) ![0, 1792] S256x256.size inb_S256x2048_S256x256_0_1792, p7⟩,
        ⟨Rect.unit (s := S256x2048) ![0, 1536] S256x256.size inb_S256x2048_S256x256_0_1536, p6⟩,
        ⟨Rect.unit (s := S256x2048) ![0, 1280] S256x256.size inb_S256x2048_S256x256_0_1280, p5⟩,
        ⟨Rect.unit (s := S256x2048) ![0, 1024] S256x256.size inb_S256x2048_S256x256_0_1024, p4⟩,
        ⟨Rect.unit (s := S256x2048) ![0, 768] S256x256.size inb_S256x2048_S256x256_0_768, p3⟩,
        ⟨Rect.unit (s := S256x2048) ![0, 512] S256x256.size inb_S256x2048_S256x256_0_512, p2⟩,
        ⟨Rect.unit (s := S256x2048) ![0, 256] S256x256.size inb_S256x2048_S256x256_0_256, p1⟩,
        ⟨Rect.unit (s := S256x2048) ![0, 0] S256x256.size inb_S256x2048_S256x256_0_0, p0⟩])
        (ix2 r (col j q)) = (![p0, p1, p2, p3, p4, p5, p6, p7] : Fin 8 → Vec Ideal S256x256 .f32) j (ix2 r q) := by
  match j with
  | ⟨0, hj⟩ =>
    refine (View.read_writes_cons_unit_of_not_mem v f (off' := ![0, 1792]) _ _ _ _ rfl 1 (Or.inl ?_)).trans ?_
    · show 256 * 0 + q.val < 1792; omega
    refine (View.read_writes_cons_unit_of_not_mem v f (off' := ![0, 1536]) _ _ _ _ rfl 1 (Or.inl ?_)).trans ?_
    · show 256 * 0 + q.val < 1536; omega
    refine (View.read_writes_cons_unit_of_not_mem v f (off' := ![0, 1280]) _ _ _ _ rfl 1 (Or.inl ?_)).trans ?_
    · show 256 * 0 + q.val < 1280; omega
    refine (View.read_writes_cons_unit_of_not_mem v f (off' := ![0, 1024]) _ _ _ _ rfl 1 (Or.inl ?_)).trans ?_
    · show 256 * 0 + q.val < 1024; omega
    refine (View.read_writes_cons_unit_of_not_mem v f (off' := ![0, 768]) _ _ _ _ rfl 1 (Or.inl ?_)).trans ?_
    · show 256 * 0 + q.val < 768; omega
    refine (View.read_writes_cons_unit_of_not_mem v f (off' := ![0, 512]) _ _ _ _ rfl 1 (Or.inl ?_)).trans ?_
    · show 256 * 0 + q.val < 512; omega
    refine (View.read_writes_cons_unit_of_not_mem v f (off' := ![0, 256]) _ _ _ _ rfl 1 (Or.inl ?_)).trans ?_
    · show 256 * 0 + q.val < 256; omega
    refine View.read_writes_cons_unit_of_mem v f (off' := ![0, 0]) _ _ _ _ (ix2 r q) rfl fun a => ?_
    match a with
    | ⟨0, _⟩ => exact (Nat.zero_add _).symm
    | ⟨1, _⟩ => show 256 * 0 + q.val = 0 + q.val; omega
  | ⟨1, hj⟩ =>
    refine (View.read_writes_cons_unit_of_not_mem v f (off' := ![0, 1792]) _ _ _ _ rfl 1 (Or.inl ?_)).trans ?_
    · show 256 * 1 + q.val < 1792; omega
    refine (View.read_writes_cons_unit_of_not_mem v f (off' := ![0, 1536]) _ _ _ _ rfl 1 (Or.inl ?_)).trans ?_
    · show 256 * 1 + q.val < 1536; omega
    refine (View.read_writes_cons_unit_of_not_mem v f (off' := ![0, 1280]) _ _ _ _ rfl 1 (Or.inl ?_)).trans ?_
    · show 256 * 1 + q.val < 1280; omega
    refine (View.read_writes_cons_unit_of_not_mem v f (off' := ![0, 1024]) _ _ _ _ rfl 1 (Or.inl ?_)).trans ?_
    · show 256 * 1 + q.val < 1024; omega
    refine (View.read_writes_cons_unit_of_not_mem v f (off' := ![0, 768]) _ _ _ _ rfl 1 (Or.inl ?_)).trans ?_
    · show 256 * 1 + q.val < 768; omega
    refine (View.read_writes_cons_unit_of_not_mem v f (off' := ![0, 512]) _ _ _ _ rfl 1 (Or.inl ?_)).trans ?_
    · show 256 * 1 + q.val < 512; omega
    refine View.read_writes_cons_unit_of_mem v f (off' := ![0, 256]) _ _ _ _ (ix2 r q) rfl fun a => ?_
    match a with
    | ⟨0, _⟩ => exact (Nat.zero_add _).symm
    | ⟨1, _⟩ => show 256 * 1 + q.val = 256 + q.val; omega
  | ⟨2, hj⟩ =>
    refine (View.read_writes_cons_unit_of_not_mem v f (off' := ![0, 1792]) _ _ _ _ rfl 1 (Or.inl ?_)).trans ?_
    · show 256 * 2 + q.val < 1792; omega
    refine (View.read_writes_cons_unit_of_not_mem v f (off' := ![0, 1536]) _ _ _ _ rfl 1 (Or.inl ?_)).trans ?_
    · show 256 * 2 + q.val < 1536; omega
    refine (View.read_writes_cons_unit_of_not_mem v f (off' := ![0, 1280]) _ _ _ _ rfl 1 (Or.inl ?_)).trans ?_
    · show 256 * 2 + q.val < 1280; omega
    refine (View.read_writes_cons_unit_of_not_mem v f (off' := ![0, 1024]) _ _ _ _ rfl 1 (Or.inl ?_)).trans ?_
    · show 256 * 2 + q.val < 1024; omega
    refine (View.read_writes_cons_unit_of_not_mem v f (off' := ![0, 768]) _ _ _ _ rfl 1 (Or.inl ?_)).trans ?_
    · show 256 * 2 + q.val < 768; omega
    refine View.read_writes_cons_unit_of_mem v f (off' := ![0, 512]) _ _ _ _ (ix2 r q) rfl fun a => ?_
    match a with
    | ⟨0, _⟩ => exact (Nat.zero_add _).symm
    | ⟨1, _⟩ => show 256 * 2 + q.val = 512 + q.val; omega
  | ⟨3, hj⟩ =>
    refine (View.read_writes_cons_unit_of_not_mem v f (off' := ![0, 1792]) _ _ _ _ rfl 1 (Or.inl ?_)).trans ?_
    · show 256 * 3 + q.val < 1792; omega
    refine (View.read_writes_cons_unit_of_not_mem v f (off' := ![0, 1536]) _ _ _ _ rfl 1 (Or.inl ?_)).trans ?_
    · show 256 * 3 + q.val < 1536; omega
    refine (View.read_writes_cons_unit_of_not_mem v f (off' := ![0, 1280]) _ _ _ _ rfl 1 (Or.inl ?_)).trans ?_
    · show 256 * 3 + q.val < 1280; omega
    refine (View.read_writes_cons_unit_of_not_mem v f (off' := ![0, 1024]) _ _ _ _ rfl 1 (Or.inl ?_)).trans ?_
    · show 256 * 3 + q.val < 1024; omega
    refine View.read_writes_cons_unit_of_mem v f (off' := ![0, 768]) _ _ _ _ (ix2 r q) rfl fun a => ?_
    match a with
    | ⟨0, _⟩ => exact (Nat.zero_add _).symm
    | ⟨1, _⟩ => show 256 * 3 + q.val = 768 + q.val; omega
  | ⟨4, hj⟩ =>
    refine (View.read_writes_cons_unit_of_not_mem v f (off' := ![0, 1792]) _ _ _ _ rfl 1 (Or.inl ?_)).trans ?_
    · show 256 * 4 + q.val < 1792; omega
    refine (View.read_writes_cons_unit_of_not_mem v f (off' := ![0, 1536]) _ _ _ _ rfl 1 (Or.inl ?_)).trans ?_
    · show 256 * 4 + q.val < 1536; omega
    refine (View.read_writes_cons_unit_of_not_mem v f (off' := ![0, 1280]) _ _ _ _ rfl 1 (Or.inl ?_)).trans ?_
    · show 256 * 4 + q.val < 1280; omega
    refine View.read_writes_cons_unit_of_mem v f (off' := ![0, 1024]) _ _ _ _ (ix2 r q) rfl fun a => ?_
    match a with
    | ⟨0, _⟩ => exact (Nat.zero_add _).symm
    | ⟨1, _⟩ => show 256 * 4 + q.val = 1024 + q.val; omega
  | ⟨5, hj⟩ =>
    refine (View.read_writes_cons_unit_of_not_mem v f (off' := ![0, 1792]) _ _ _ _ rfl 1 (Or.inl ?_)).trans ?_
    · show 256 * 5 + q.val < 1792; omega
    refine (View.read_writes_cons_unit_of_not_mem v f (off' := ![0, 1536]) _ _ _ _ rfl 1 (Or.inl ?_)).trans ?_
    · show 256 * 5 + q.val < 1536; omega
    refine View.read_writes_cons_unit_of_mem v f (off' := ![0, 1280]) _ _ _ _ (ix2 r q) rfl fun a => ?_
    match a with
    | ⟨0, _⟩ => exact (Nat.zero_add _).symm
    | ⟨1, _⟩ => show 256 * 5 + q.val = 1280 + q.val; omega
  | ⟨6, hj⟩ =>
    refine (View.read_writes_cons_unit_of_not_mem v f (off' := ![0, 1792]) _ _ _ _ rfl 1 (Or.inl ?_)).trans ?_
    · show 256 * 6 + q.val < 1792; omega
    refine View.read_writes_cons_unit_of_mem v f (off' := ![0, 1536]) _ _ _ _ (ix2 r q) rfl fun a => ?_
    match a with
    | ⟨0, _⟩ => exact (Nat.zero_add _).symm
    | ⟨1, _⟩ => show 256 * 6 + q.val = 1536 + q.val; omega
  | ⟨7, hj⟩ =>
    refine View.read_writes_cons_unit_of_mem v f (off' := ![0, 1792]) _ _ _ _ (ix2 r q) rfl fun a => ?_
    match a with
    | ⟨0, _⟩ => exact (Nat.zero_add _).symm
    | ⟨1, _⟩ => show 256 * 7 + q.val = 1792 + q.val; omega

/-- The same against a family of tables, one per head. -/
theorem heads_eq {v : View sig .tc .vmem S256x2048 .f32} (f : v.ty.Contents (Elt Ideal)) (p0 p1 p2 p3 p4 p5 p6 p7 : Vec Ideal S256x256 .f32) (D : Fin 8 → Fin 256 → Fin 256 → EReal)
    (h0 : ∀ r q, p0 (ix2 r q) = D 0 r q) (h1 : ∀ r q, p1 (ix2 r q) = D 1 r q) (h2 : ∀ r q, p2 (ix2 r q) = D 2 r q) (h3 : ∀ r q, p3 (ix2 r q) = D 3 r q)
    (h4 : ∀ r q, p4 (ix2 r q) = D 4 r q) (h5 : ∀ r q, p5 (ix2 r q) = D 5 r q) (h6 : ∀ r q, p6 (ix2 r q) = D 6 r q) (h7 : ∀ r q, p7 (ix2 r q) = D 7 r q) (j : Fin 8) (r q : Fin 256) :
    v.read (Elt Ideal) (v.writes (Elt Ideal) f [
        ⟨Rect.unit (s := S256x2048) ![0, 1792] S256x256.size inb_S256x2048_S256x256_0_1792, p7⟩,
        ⟨Rect.unit (s := S256x2048) ![0, 1536] S256x256.size inb_S256x2048_S256x256_0_1536, p6⟩,
        ⟨Rect.unit (s := S256x2048) ![0, 1280] S256x256.size inb_S256x2048_S256x256_0_1280, p5⟩,
        ⟨Rect.unit (s := S256x2048) ![0, 1024] S256x256.size inb_S256x2048_S256x256_0_1024, p4⟩,
        ⟨Rect.unit (s := S256x2048) ![0, 768] S256x256.size inb_S256x2048_S256x256_0_768, p3⟩,
        ⟨Rect.unit (s := S256x2048) ![0, 512] S256x256.size inb_S256x2048_S256x256_0_512, p2⟩,
        ⟨Rect.unit (s := S256x2048) ![0, 256] S256x256.size inb_S256x2048_S256x256_0_256, p1⟩,
        ⟨Rect.unit (s := S256x2048) ![0, 0] S256x256.size inb_S256x2048_S256x256_0_0, p0⟩])
        (ix2 r (col j q)) = D j r q := by
  refine (read_heads f p0 p1 p2 p3 p4 p5 p6 p7 j r q).trans ?_
  match j with
  | ⟨0, _⟩ => exact h0 r q
  | ⟨1, _⟩ => exact h1 r q
  | ⟨2, _⟩ => exact h2 r q
  | ⟨3, _⟩ => exact h3 r q
  | ⟨4, _⟩ => exact h4 r q
  | ⟨5, _⟩ => exact h5 r q
  | ⟨6, _⟩ => exact h6 r q
  | ⟨7, _⟩ => exact h7 r q

/-! ## The loads -/

/-- Head `j`'s matrix. -/
def head (x : Vec Ideal S1x8x256x256 .bf16) (j : Fin 8) : Vec Ideal S1x1x256x256 .bf16 := fun y => x (ix4 (0 : Fin 1) j (y 2) (y 3))

theorem load_head0 {m : Memref sig .tc .vmem S1x8x256x256 .bf16} (hm : m.IsWhole) (x : Vec Ideal S1x8x256x256 .bf16) :
    View.readAt (Elt Ideal) m.view (Rect.unit (s := S1x8x256x256) ![0, 0, 0, 0] S1x1x256x256.size inb_S1x8x256x256_S1x1x256x256_0_0_0_0).toLoadRect (hm.unread x) = head x 0 := by
  funext y
  rw [hm.readAt_unread]
  unfold head
  congr 1
  funext a; apply Fin.ext
  match a with
  | ⟨0, _⟩ => show 0 + 1 * (y 0).val = 0; have : (y 0).val < 1 := (y 0).isLt; omega
  | ⟨1, _⟩ => show 0 + 1 * (y 1).val = 0; have : (y 1).val < 1 := (y 1).isLt; omega
  | ⟨2, _⟩ => show 0 + 1 * (y 2).val = (y 2).val; omega
  | ⟨3, _⟩ => show 0 + 1 * (y 3).val = (y 3).val; omega

theorem load_head1 {m : Memref sig .tc .vmem S1x8x256x256 .bf16} (hm : m.IsWhole) (x : Vec Ideal S1x8x256x256 .bf16) :
    View.readAt (Elt Ideal) m.view (Rect.unit (s := S1x8x256x256) ![0, 1, 0, 0] S1x1x256x256.size inb_S1x8x256x256_S1x1x256x256_0_1_0_0).toLoadRect (hm.unread x) = head x 1 := by
  funext y
  rw [hm.readAt_unread]
  unfold head
  congr 1
  funext a; apply Fin.ext
  match a with
  | ⟨0, _⟩ => show 0 + 1 * (y 0).val = 0; have : (y 0).val < 1 := (y 0).isLt; omega
  | ⟨1, _⟩ => show 1 + 1 * (y 1).val = 1; have : (y 1).val < 1 := (y 1).isLt; omega
  | ⟨2, _⟩ => show 0 + 1 * (y 2).val = (y 2).val; omega
  | ⟨3, _⟩ => show 0 + 1 * (y 3).val = (y 3).val; omega

theorem load_head2 {m : Memref sig .tc .vmem S1x8x256x256 .bf16} (hm : m.IsWhole) (x : Vec Ideal S1x8x256x256 .bf16) :
    View.readAt (Elt Ideal) m.view (Rect.unit (s := S1x8x256x256) ![0, 2, 0, 0] S1x1x256x256.size inb_S1x8x256x256_S1x1x256x256_0_2_0_0).toLoadRect (hm.unread x) = head x 2 := by
  funext y
  rw [hm.readAt_unread]
  unfold head
  congr 1
  funext a; apply Fin.ext
  match a with
  | ⟨0, _⟩ => show 0 + 1 * (y 0).val = 0; have : (y 0).val < 1 := (y 0).isLt; omega
  | ⟨1, _⟩ => show 2 + 1 * (y 1).val = 2; have : (y 1).val < 1 := (y 1).isLt; omega
  | ⟨2, _⟩ => show 0 + 1 * (y 2).val = (y 2).val; omega
  | ⟨3, _⟩ => show 0 + 1 * (y 3).val = (y 3).val; omega

theorem load_head3 {m : Memref sig .tc .vmem S1x8x256x256 .bf16} (hm : m.IsWhole) (x : Vec Ideal S1x8x256x256 .bf16) :
    View.readAt (Elt Ideal) m.view (Rect.unit (s := S1x8x256x256) ![0, 3, 0, 0] S1x1x256x256.size inb_S1x8x256x256_S1x1x256x256_0_3_0_0).toLoadRect (hm.unread x) = head x 3 := by
  funext y
  rw [hm.readAt_unread]
  unfold head
  congr 1
  funext a; apply Fin.ext
  match a with
  | ⟨0, _⟩ => show 0 + 1 * (y 0).val = 0; have : (y 0).val < 1 := (y 0).isLt; omega
  | ⟨1, _⟩ => show 3 + 1 * (y 1).val = 3; have : (y 1).val < 1 := (y 1).isLt; omega
  | ⟨2, _⟩ => show 0 + 1 * (y 2).val = (y 2).val; omega
  | ⟨3, _⟩ => show 0 + 1 * (y 3).val = (y 3).val; omega

theorem load_head4 {m : Memref sig .tc .vmem S1x8x256x256 .bf16} (hm : m.IsWhole) (x : Vec Ideal S1x8x256x256 .bf16) :
    View.readAt (Elt Ideal) m.view (Rect.unit (s := S1x8x256x256) ![0, 4, 0, 0] S1x1x256x256.size inb_S1x8x256x256_S1x1x256x256_0_4_0_0).toLoadRect (hm.unread x) = head x 4 := by
  funext y
  rw [hm.readAt_unread]
  unfold head
  congr 1
  funext a; apply Fin.ext
  match a with
  | ⟨0, _⟩ => show 0 + 1 * (y 0).val = 0; have : (y 0).val < 1 := (y 0).isLt; omega
  | ⟨1, _⟩ => show 4 + 1 * (y 1).val = 4; have : (y 1).val < 1 := (y 1).isLt; omega
  | ⟨2, _⟩ => show 0 + 1 * (y 2).val = (y 2).val; omega
  | ⟨3, _⟩ => show 0 + 1 * (y 3).val = (y 3).val; omega

theorem load_head5 {m : Memref sig .tc .vmem S1x8x256x256 .bf16} (hm : m.IsWhole) (x : Vec Ideal S1x8x256x256 .bf16) :
    View.readAt (Elt Ideal) m.view (Rect.unit (s := S1x8x256x256) ![0, 5, 0, 0] S1x1x256x256.size inb_S1x8x256x256_S1x1x256x256_0_5_0_0).toLoadRect (hm.unread x) = head x 5 := by
  funext y
  rw [hm.readAt_unread]
  unfold head
  congr 1
  funext a; apply Fin.ext
  match a with
  | ⟨0, _⟩ => show 0 + 1 * (y 0).val = 0; have : (y 0).val < 1 := (y 0).isLt; omega
  | ⟨1, _⟩ => show 5 + 1 * (y 1).val = 5; have : (y 1).val < 1 := (y 1).isLt; omega
  | ⟨2, _⟩ => show 0 + 1 * (y 2).val = (y 2).val; omega
  | ⟨3, _⟩ => show 0 + 1 * (y 3).val = (y 3).val; omega

theorem load_head6 {m : Memref sig .tc .vmem S1x8x256x256 .bf16} (hm : m.IsWhole) (x : Vec Ideal S1x8x256x256 .bf16) :
    View.readAt (Elt Ideal) m.view (Rect.unit (s := S1x8x256x256) ![0, 6, 0, 0] S1x1x256x256.size inb_S1x8x256x256_S1x1x256x256_0_6_0_0).toLoadRect (hm.unread x) = head x 6 := by
  funext y
  rw [hm.readAt_unread]
  unfold head
  congr 1
  funext a; apply Fin.ext
  match a with
  | ⟨0, _⟩ => show 0 + 1 * (y 0).val = 0; have : (y 0).val < 1 := (y 0).isLt; omega
  | ⟨1, _⟩ => show 6 + 1 * (y 1).val = 6; have : (y 1).val < 1 := (y 1).isLt; omega
  | ⟨2, _⟩ => show 0 + 1 * (y 2).val = (y 2).val; omega
  | ⟨3, _⟩ => show 0 + 1 * (y 3).val = (y 3).val; omega

theorem load_head7 {m : Memref sig .tc .vmem S1x8x256x256 .bf16} (hm : m.IsWhole) (x : Vec Ideal S1x8x256x256 .bf16) :
    View.readAt (Elt Ideal) m.view (Rect.unit (s := S1x8x256x256) ![0, 7, 0, 0] S1x1x256x256.size inb_S1x8x256x256_S1x1x256x256_0_7_0_0).toLoadRect (hm.unread x) = head x 7 := by
  funext y
  rw [hm.readAt_unread]
  unfold head
  congr 1
  funext a; apply Fin.ext
  match a with
  | ⟨0, _⟩ => show 0 + 1 * (y 0).val = 0; have : (y 0).val < 1 := (y 0).isLt; omega
  | ⟨1, _⟩ => show 7 + 1 * (y 1).val = 7; have : (y 1).val < 1 := (y 1).isLt; omega
  | ⟨2, _⟩ => show 0 + 1 * (y 2).val = (y 2).val; omega
  | ⟨3, _⟩ => show 0 + 1 * (y 3).val = (y 3).val; omega

theorem load_bias {m : Memref sig .tc .vmem S1x1x2048 .f32} (hm : m.IsWhole) (x : Vec Ideal S1x1x2048 .f32) :
    View.readAt (Elt Ideal) m.view (Rect.unit (s := S1x1x2048) ![0, 0, 0] S1x1x2048.size inb_S1x1x2048_S1x1x2048_0_0_0).toLoadRect (hm.unread x) = x := by
  funext y
  rw [hm.readAt_unread]
  congr 1
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem load_block {m : Memref sig .tc .vmem S1x256x2048 .bf16} (hm : m.IsWhole) (x : Vec Ideal S1x256x2048 .bf16) :
    View.readAt (Elt Ideal) m.view (Rect.unit (s := S1x256x2048) ![0, 0, 0] S1x256x2048.size inb_S1x256x2048_S1x256x2048_0_0_0).toLoadRect (hm.unread x) = x := by
  funext y
  rw [hm.readAt_unread]
  congr 1
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem load_halo {m : Memref sig .tc .vmem S1x16x2048 .bf16} (hm : m.IsWhole) (x : Vec Ideal S1x16x2048 .bf16) :
    View.readAt (Elt Ideal) m.view (Rect.unit (s := S1x16x2048) ![0, 0, 0] S1x16x2048.size inb_S1x16x2048_S1x16x2048_0_0_0).toLoadRect (hm.unread x) = x := by
  funext y
  rw [hm.readAt_unread]
  congr 1
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem load_flat {m : Memref sig .tc .vmem S1x2048 .f32} (hm : m.IsWhole) (x : Vec Ideal S1x2048 .f32) :
    View.readAt (Elt Ideal) m.view (Rect.unit (s := S1x2048) ![0, 0] S1x2048.size inb_S1x2048_S1x2048_0_0).toLoadRect (hm.unread x) = x := by
  funext y
  rw [hm.readAt_unread]
  congr 1
  funext a; apply Fin.ext
  match a with
  | ⟨0, _⟩ => show 0 + 1 * (y 0).val = (y 0).val; omega
  | ⟨1, _⟩ => show 0 + 1 * (y 1).val = (y 1).val; omega

theorem load_tap0 {m : Memref sig .tc .vmem S4x2048 .f32} (hm : m.IsWhole) (x : Vec Ideal S4x2048 .f32) :
    View.readAt (Elt Ideal) m.view (Rect.unit (s := S4x2048) ![0, 0] S1x2048.size inb_S4x2048_S1x2048_0_0).toLoadRect (hm.unread x) = fun y => x (ix2 (0 : Fin 4) (y 1)) := by
  funext y
  rw [hm.readAt_unread]
  congr 1
  funext a; apply Fin.ext
  match a with
  | ⟨0, _⟩ => show 0 + 1 * (y 0).val = 0; have : (y 0).val < 1 := (y 0).isLt; omega
  | ⟨1, _⟩ => show 0 + 1 * (y 1).val = (y 1).val; omega

theorem load_tap1 {m : Memref sig .tc .vmem S4x2048 .f32} (hm : m.IsWhole) (x : Vec Ideal S4x2048 .f32) :
    View.readAt (Elt Ideal) m.view (Rect.unit (s := S4x2048) ![1, 0] S1x2048.size inb_S4x2048_S1x2048_1_0).toLoadRect (hm.unread x) = fun y => x (ix2 (1 : Fin 4) (y 1)) := by
  funext y
  rw [hm.readAt_unread]
  congr 1
  funext a; apply Fin.ext
  match a with
  | ⟨0, _⟩ => show 1 + 1 * (y 0).val = 1; have : (y 0).val < 1 := (y 0).isLt; omega
  | ⟨1, _⟩ => show 0 + 1 * (y 1).val = (y 1).val; omega

theorem load_tap2 {m : Memref sig .tc .vmem S4x2048 .f32} (hm : m.IsWhole) (x : Vec Ideal S4x2048 .f32) :
    View.readAt (Elt Ideal) m.view (Rect.unit (s := S4x2048) ![2, 0] S1x2048.size inb_S4x2048_S1x2048_2_0).toLoadRect (hm.unread x) = fun y => x (ix2 (2 : Fin 4) (y 1)) := by
  funext y
  rw [hm.readAt_unread]
  congr 1
  funext a; apply Fin.ext
  match a with
  | ⟨0, _⟩ => show 2 + 1 * (y 0).val = 2; have : (y 0).val < 1 := (y 0).isLt; omega
  | ⟨1, _⟩ => show 0 + 1 * (y 1).val = (y 1).val; omega

theorem load_tap3 {m : Memref sig .tc .vmem S4x2048 .f32} (hm : m.IsWhole) (x : Vec Ideal S4x2048 .f32) :
    View.readAt (Elt Ideal) m.view (Rect.unit (s := S4x2048) ![3, 0] S1x2048.size inb_S4x2048_S1x2048_3_0).toLoadRect (hm.unread x) = fun y => x (ix2 (3 : Fin 4) (y 1)) := by
  funext y
  rw [hm.readAt_unread]
  congr 1
  funext a; apply Fin.ext
  match a with
  | ⟨0, _⟩ => show 3 + 1 * (y 0).val = 3; have : (y 0).val < 1 := (y 0).isLt; omega
  | ⟨1, _⟩ => show 0 + 1 * (y 1).val = (y 1).val; omega

/-! ## The convolution -/

/-- The rows the convolution reads: outside the sequence they are zero. -/
def padded (i : grid0.Coords) (x0 : Vec Ideal S1x256x2048 .bf16) (x1 x2 : Vec Ideal S1x16x2048 .bf16) (k : Fin 288) (n : Fin 2048) : EReal :=
  if h : k.val < 16 then (if 0 < (i 1).val then x1 (ix3 (0 : Fin 1) (⟨k.val, h⟩ : Fin 16) n) else (0 : EReal)) else
  if h' : k.val < 272 then x0 (ix3 (0 : Fin 1) (⟨k.val - 16, by omega⟩ : Fin 256) n) else
  (if (i 1).val < 31 then x2 (ix3 (0 : Fin 1) (⟨k.val - 272, by omega⟩ : Fin 16) n) else (0 : EReal))

/-- The rows of the block before, zero for a sequence's first block. -/
theorem before_apply (i : grid0.Coords) (x : Vec Ideal S1x16x2048 .bf16) (k : Fin 16) (n : Fin 2048) :
    k0_pay8 (F := Ideal) i x (ix2 k n) = if 0 < (i 1).val then x (ix3 (0 : Fin 1) k n) else (0 : EReal) := by
  have hi : (i 1).val < 32 := (i 1).isLt
  by_cases h : 0 < (i 1).val
  · rw [if_pos h]
    have hc : Scalar.cmpi .sgt (BitVec.ofNat 32 (i 1).val) 0#32 = 1#1 := by word_cmp
    simp only [k0_pay8, hc]
    pointwise
  · rw [if_neg h]
    have hc : Scalar.cmpi .sgt (BitVec.ofNat 32 (i 1).val) 0#32 = 0#1 := by
      rw [show (i 1).val = 0 by omega]; rfl
    simp only [k0_pay8, hc]
    pointwise

/-- The rows of the block after, zero for a sequence's last block. -/
theorem after_apply (i : grid0.Coords) (x : Vec Ideal S1x16x2048 .bf16) (k : Fin 16) (n : Fin 2048) :
    k0_pay10 (F := Ideal) i x (ix2 k n) = if (i 1).val < 31 then x (ix3 (0 : Fin 1) k n) else (0 : EReal) := by
  have hi : (i 1).val < 32 := (i 1).isLt
  by_cases h : (i 1).val < 31
  · rw [if_pos h]
    have hc : Scalar.cmpi .slt (BitVec.ofNat 32 (i 1).val) 31#32 = 1#1 := by word_cmp
    simp only [k0_pay10, hc]
    pointwise
  · rw [if_neg h]
    have hc : Scalar.cmpi .slt (BitVec.ofNat 32 (i 1).val) 31#32 = 0#1 := by
      rw [show (i 1).val = 31 by omega]; rfl
    simp only [k0_pay10, hc]
    pointwise

/-- The block's own rows. -/
theorem own_apply (x : Vec Ideal S1x256x2048 .bf16) (k : Fin 256) (n : Fin 2048) :
    k0_pay9 (F := Ideal) x (ix2 k n) = x (ix3 (0 : Fin 1) k n) := by
  pointwise [k0_pay9]

/-- The convolution of row `r`, column `n`: the bias and the four taps' products. -/
def conv (i : grid0.Coords) (x0 : Vec Ideal S1x256x2048 .bf16) (x1 x2 : Vec Ideal S1x16x2048 .bf16) (x3 : Vec Ideal S4x2048 .f32) (x4 : Vec Ideal S1x2048 .f32) : Vec Ideal S256x2048 .f32 := fun y =>
  (((x4 (ix2 (0 : Fin 1) (y 1))
    + HMul.hMul (α := EReal) (β := EReal) (γ := EReal) (x3 (ix2 (0 : Fin 4) (y 1))) (padded i x0 x1 x2 ⟨(y 0).val + 14, by have : (y 0).val < 256 := (y 0).isLt; omega⟩ (y 1)) : EReal)
    + HMul.hMul (α := EReal) (β := EReal) (γ := EReal) (x3 (ix2 (1 : Fin 4) (y 1))) (padded i x0 x1 x2 ⟨(y 0).val + 15, by have : (y 0).val < 256 := (y 0).isLt; omega⟩ (y 1)) : EReal)
    + HMul.hMul (α := EReal) (β := EReal) (γ := EReal) (x3 (ix2 (2 : Fin 4) (y 1))) (padded i x0 x1 x2 ⟨(y 0).val + 16, by have : (y 0).val < 256 := (y 0).isLt; omega⟩ (y 1)) : EReal)
    + HMul.hMul (α := EReal) (β := EReal) (γ := EReal) (x3 (ix2 (3 : Fin 4) (y 1))) (padded i x0 x1 x2 ⟨(y 0).val + 17, by have : (y 0).val < 256 := (y 0).isLt; omega⟩ (y 1))

/-- The convolution from the five loads of the buffer that holds its rows. -/
theorem conv_eq (i : grid0.Coords) (x0 : Vec Ideal S1x256x2048 .bf16) (x1 x2 : Vec Ideal S1x16x2048 .bf16) (x3 : Vec Ideal S4x2048 .f32) (x4 : Vec Ideal S1x2048 .f32)
    (u0 u1 u2 u3 : Vec Ideal S256x2048 .f32)
    (h0 : ∀ y : S256x2048.Idx, u0 y = padded i x0 x1 x2 ⟨(y 0).val + 14, by have : (y 0).val < 256 := (y 0).isLt; omega⟩ (y 1)) (h1 : ∀ y : S256x2048.Idx, u1 y = padded i x0 x1 x2 ⟨(y 0).val + 15, by have : (y 0).val < 256 := (y 0).isLt; omega⟩ (y 1)) (h2 : ∀ y : S256x2048.Idx, u2 y = padded i x0 x1 x2 ⟨(y 0).val + 16, by have : (y 0).val < 256 := (y 0).isLt; omega⟩ (y 1)) (h3 : ∀ y : S256x2048.Idx, u3 y = padded i x0 x1 x2 ⟨(y 0).val + 17, by have : (y 0).val < 256 := (y 0).isLt; omega⟩ (y 1)) :
    k0_pay12 (F := Ideal) (k0_pay11 x4) (fun y => x3 (ix2 (0 : Fin 4) (y 1))) u0 (fun y => x3 (ix2 (1 : Fin 4) (y 1))) u1 (fun y => x3 (ix2 (2 : Fin 4) (y 1))) u2 (fun y => x3 (ix2 (3 : Fin 4) (y 1))) u3 = conv i x0 x1 x2 x3 x4 := by
  funext y
  pointwise [k0_pay12, k0_pay11]
  rw [h0, h1, h2, h3]
  rfl

/-- The convolution's buffer holds the padded rows. -/
theorem read_rows {v : View sig .tc .vmem S288x2048 .f32} (f : v.ty.Contents (Elt Ideal)) (i : grid0.Coords) (x0 : Vec Ideal S1x256x2048 .bf16) (x1 x2 : Vec Ideal S1x16x2048 .bf16) (k : Fin 288) (n : Fin 2048) :
    v.read (Elt Ideal) (v.writes (Elt Ideal) f [⟨Rect.unit (s := S288x2048) ![272, 0] S16x2048.size inb_S288x2048_S16x2048_272_0, k0_pay10 (F := Ideal) i x2⟩,
        ⟨Rect.unit (s := S288x2048) ![16, 0] S256x2048.size inb_S288x2048_S256x2048_16_0, k0_pay9 x0⟩,
        ⟨Rect.unit (s := S288x2048) ![0, 0] S16x2048.size inb_S288x2048_S16x2048_0_0, k0_pay8 i x1⟩]) (ix2 k n) = padded i x0 x1 x2 k n := by
  refine (read_padded f _ _ _ k n).trans ?_
  unfold padded
  simp only [before_apply, after_apply, own_apply]

/-- A load of 256 rows of the convolution's buffer from row `o`. -/
theorem load_rows_at {v : View sig .tc .vmem S288x2048 .f32} (i : grid0.Coords) (x0 : Vec Ideal S1x256x2048 .bf16) (x1 x2 : Vec Ideal S1x16x2048 .bf16)
    (o : ℕ) (inb : ∀ a, (![o, 0] : Fin 2 → ℕ) a + S256x2048.size a ≤ S288x2048.size a) (y : S256x2048.Idx) (hk : (y 0).val + o < 288) :
    View.readCov (Val := Elt Ideal) v [⟨Rect.unit (s := S288x2048) ![272, 0] S16x2048.size inb_S288x2048_S16x2048_272_0, k0_pay10 (F := Ideal) i x2⟩,
        ⟨Rect.unit (s := S288x2048) ![16, 0] S256x2048.size inb_S288x2048_S256x2048_16_0, k0_pay9 x0⟩,
        ⟨Rect.unit (s := S288x2048) ![0, 0] S16x2048.size inb_S288x2048_S16x2048_0_0, k0_pay8 i x1⟩] (Rect.unit (s := S288x2048) ![o, 0] S256x2048.size inb).toLoadRect y
      = padded i x0 x1 x2 ⟨(y 0).val + o, hk⟩ (y 1) := by
  have e : (Rect.unit (s := S288x2048) ![o, 0] S256x2048.size inb).toLoadRect.idx y = ix2 (⟨(y 0).val + o, hk⟩ : Fin 288) (y 1) := by
    funext a; apply Fin.ext
    match a with
    | ⟨0, _⟩ => show o + 1 * (y 0).val = (y 0).val + o; omega
    | ⟨1, _⟩ => show 0 + 1 * (y 1).val = (y 1).val; omega
  unfold View.readCov
  show v.read (Elt Ideal) (v.writes (Elt Ideal) _ _) ((Rect.unit (s := S288x2048) ![o, 0] S256x2048.size inb).toLoadRect.idx y) = _
  rw [e]
  exact read_rows _ i x0 x1 x2 (⟨(y 0).val + o, hk⟩ : Fin 288) (y 1)

/-- What a point's decays are: row by row, head by head. -/
def decays (i : grid0.Coords) (x0 : Vec Ideal S1x256x2048 .bf16) (x1 x2 : Vec Ideal S1x16x2048 .bf16) (x3 : Vec Ideal S4x2048 .f32) (x4 : Vec Ideal S1x2048 .f32) (x5 : Vec Ideal S1x8x256x256 .bf16) (x6 x9 : Vec Ideal S1x1x2048 .f32) (j : Fin 8) (r q : Fin 256) : EReal :=
  decay (conv i x0 x1 x2 x3 x4) (k0_pay14 (F := Ideal) (k0_pay13 x9)) (head x5 j) x6 j r q

/-- What a point's inputs are. -/
def inputs (i : grid0.Coords) (x0 : Vec Ideal S1x256x2048 .bf16) (x1 x2 : Vec Ideal S1x16x2048 .bf16) (x3 : Vec Ideal S4x2048 .f32) (x4 : Vec Ideal S1x2048 .f32) (x5 : Vec Ideal S1x8x256x256 .bf16) (x6 : Vec Ideal S1x1x2048 .f32) (x7 : Vec Ideal S1x8x256x256 .bf16) (x8 x9 : Vec Ideal S1x1x2048 .f32) (j : Fin 8) (r q : Fin 256) : EReal :=
  input (conv i x0 x1 x2 x3 x4) (k0_pay14 (F := Ideal) (k0_pay13 x9)) (head x5 j) x6 (head x7 j) x8 j r q

end Cert.KernelIdeal.Lru

end
-- ==== Proof.LruPointIdeal.lean ====
/- The recurrence's call (`kernel`): what one point leaves, column by column. -/
module

public import proofs.«01_k».proof.Proof.LruReadIdeal

@[expose] public section

set_option maxHeartbeats 400000

noncomputable section

namespace Cert.KernelIdeal.Lru

open Cert.KernelIdeal Cert.KernelIdeal.Gen
open Idealize.ShloMosaic Idealize.ShloMosaic.TcCoe

section
variable (c : Dev nD) (i : grid0.Coords) (arg2 : Memref sig .tc .vmem S1x256x2048 .bf16) (harg2 : arg2.IsWhole) (arg3 : Memref sig .tc .vmem S1x16x2048 .bf16) (harg3 : arg3.IsWhole) (arg4 : Memref sig .tc .vmem S1x16x2048 .bf16) (harg4 : arg4.IsWhole) (arg5 : Memref sig .tc .vmem S4x2048 .f32) (harg5 : arg5.IsWhole) (arg6 : Memref sig .tc .vmem S1x2048 .f32) (harg6 : arg6.IsWhole) (arg7 : Memref sig .tc .vmem S1x8x256x256 .bf16) (harg7 : arg7.IsWhole) (arg8 : Memref sig .tc .vmem S1x1x2048 .f32) (harg8 : arg8.IsWhole) (arg9 : Memref sig .tc .vmem S1x8x256x256 .bf16) (harg9 : arg9.IsWhole) (arg10 : Memref sig .tc .vmem S1x1x2048 .f32) (harg10 : arg10.IsWhole) (arg11 : Memref sig .tc .vmem S1x1x2048 .f32) (harg11 : arg11.IsWhole) (arg12 : Memref sig .tc .vmem S1x256x2048 .f32) (harg12 : arg12.IsWhole) (arg13 : Memref sig .tc .vmem S288x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S1x2048 .f32) (harg16 : arg16.IsWhole)
  (x0 : Vec Ideal S1x256x2048 .bf16) (x1 : Vec Ideal S1x16x2048 .bf16) (x2 : Vec Ideal S1x16x2048 .bf16) (x3 : Vec Ideal S4x2048 .f32) (x4 : Vec Ideal S1x2048 .f32) (x5 : Vec Ideal S1x8x256x256 .bf16) (x6 : Vec Ideal S1x1x2048 .f32) (x7 : Vec Ideal S1x8x256x256 .bf16) (x8 : Vec Ideal S1x1x2048 .f32) (x9 : Vec Ideal S1x1x2048 .f32)

theorem conv_A : runA.sl.r_1 (F := Ideal) c i arg2 harg2 arg3 harg3 arg4 harg4 arg5 harg5 arg6 harg6 arg13 x0 x1 x2 x3 x4 = conv i x0 x1 x2 x3 x4 := by
  unfold runA.sl.r_1 runA.sl.r runA.sl.v31 runA.sl.v38 runA.sl.v44 runA.sl.v50 runA.sl.H13_3
  rw [load_flat harg6 x4, load_tap0 harg5 x3, load_tap1 harg5 x3, load_tap2 harg5 x3, load_tap3 harg5 x3, load_block harg2 x0, load_halo harg3 x1, load_halo harg4 x2]
  exact conv_eq i x0 x1 x2 x3 x4 _ _ _ _ (fun y => load_rows_at i x0 x1 x2 14 _ y _) (fun y => load_rows_at i x0 x1 x2 15 _ y _)
    (fun y => load_rows_at i x0 x1 x2 16 _ y _) (fun y => load_rows_at i x0 x1 x2 17 _ y _)

theorem decays_A (f : arg14.view.ty.Contents (Elt Ideal)) (j : Fin 8) (r q : Fin 256) :
    arg14.view.read (Elt Ideal) (arg14.view.writes (Elt Ideal) f (runA.sl.H14_8 c i arg2 harg2 arg3 harg3 arg4 harg4 arg5 harg5 arg6 harg6 arg7 harg7 arg8 harg8 arg11 harg11 arg13 x0 x1 x2 x3 x4 x5 x6 x9)) (ix2 r (col j q))
      = decays i x0 x1 x2 x3 x4 x5 x6 x9 j r q := by
  unfold runA.sl.H14_8
  refine heads_eq f _ _ _ _ _ _ _ _ (decays i x0 x1 x2 x3 x4 x5 x6 x9) ?_ ?_ ?_ ?_ ?_ ?_ ?_ ?_ j r q
  · intro r q
    (try delta runA.sl.r_6); (try delta runA.sl.r_3); (try delta runA.sl.r_2); (try delta runA.sl.cst_97)
    rw [load_head0 harg7 x5, load_bias harg8 x6, load_bias harg11 x9, conv_A]
    exact decay_0 (conv i x0 x1 x2 x3 x4) (k0_pay13 x9) (head x5 0) x6 r q
  · intro r q
    (try delta runA.sl.r_8); (try delta runA.sl.r_3); (try delta runA.sl.r_2); (try delta runA.sl.cst_97)
    rw [load_head1 harg7 x5, load_bias harg8 x6, load_bias harg11 x9, conv_A]
    exact decay_1 (conv i x0 x1 x2 x3 x4) (k0_pay13 x9) (head x5 1) x6 r q
  · intro r q
    (try delta runA.sl.r_13); (try delta runA.sl.r_3); (try delta runA.sl.r_2); (try delta runA.sl.cst_97)
    rw [load_head2 harg7 x5, load_bias harg8 x6, load_bias harg11 x9, conv_A]
    exact decay_2 (conv i x0 x1 x2 x3 x4) (k0_pay13 x9) (head x5 2) x6 r q
  · intro r q
    (try delta runA.sl.r_15); (try delta runA.sl.r_3); (try delta runA.sl.r_2); (try delta runA.sl.cst_97)
    rw [load_head3 harg7 x5, load_bias harg8 x6, load_bias harg11 x9, conv_A]
    exact decay_3 (conv i x0 x1 x2 x3 x4) (k0_pay13 x9) (head x5 3) x6 r q
  · intro r q
    (try delta runA.sl.r_19); (try delta runA.sl.r_3); (try delta runA.sl.r_2); (try delta runA.sl.cst_97)
    rw [load_head4 harg7 x5, load_bias harg8 x6, load_bias harg11 x9, conv_A]
    exact decay_4 (conv i x0 x1 x2 x3 x4) (k0_pay13 x9) (head x5 4) x6 r q
  · intro r q
    (try delta runA.sl.r_23); (try delta runA.sl.r_3); (try delta runA.sl.r_2); (try delta runA.sl.cst_97)
    rw [load_head5 harg7 x5, load_bias harg8 x6, load_bias harg11 x9, conv_A]
    exact decay_5 (conv i x0 x1 x2 x3 x4) (k0_pay13 x9) (head x5 5) x6 r q
  · intro r q
    (try delta runA.sl.r_27); (try delta runA.sl.r_26); (try delta runA.sl.r_3); (try delta runA.sl.r_2); (try delta runA.sl.cst_97)
    rw [load_head6 harg7 x5, load_bias harg8 x6, load_bias harg11 x9, conv_A]
    exact decay_6 (conv i x0 x1 x2 x3 x4) (k0_pay13 x9) (head x5 6) x6 r q
  · intro r q
    (try delta runA.sl.r_31); (try delta runA.sl.r_3); (try delta runA.sl.r_2); (try delta runA.sl.cst_97)
    rw [load_head7 harg7 x5, load_bias harg8 x6, load_bias harg11 x9, conv_A]
    exact decay_7 (conv i x0 x1 x2 x3 x4) (k0_pay13 x9) (head x5 7) x6 r q

theorem inputs_A (f : arg15.view.ty.Contents (Elt Ideal)) (j : Fin 8) (r q : Fin 256) :
    arg15.view.read (Elt Ideal) (arg15.view.writes (Elt Ideal) f (runA.sl.H15_8 c i arg2 harg2 arg3 harg3 arg4 harg4 arg5 harg5 arg6 harg6 arg7 harg7 arg8 harg8 arg9 harg9 arg10 harg10 arg11 harg11 arg13 x0 x1 x2 x3 x4 x5 x6 x7 x8 x9)) (ix2 r (col j q))
      = inputs i x0 x1 x2 x3 x4 x5 x6 x7 x8 x9 j r q := by
  unfold runA.sl.H15_8
  refine heads_eq f _ _ _ _ _ _ _ _ (inputs i x0 x1 x2 x3 x4 x5 x6 x7 x8 x9) ?_ ?_ ?_ ?_ ?_ ?_ ?_ ?_ j r q
  · intro r q
    (try delta runA.sl.r_6); (try delta runA.sl.r_5); (try delta runA.sl.r_4); (try delta runA.sl.r_3); (try delta runA.sl.r_2); (try delta runA.sl.cst_97)
    rw [load_head0 harg7 x5, load_head0 harg9 x7, load_bias harg8 x6, load_bias harg10 x8, load_bias harg11 x9, conv_A]
    exact input_0 (conv i x0 x1 x2 x3 x4) (k0_pay13 x9) (head x5 0) (head x7 0) x6 x8 r q
  · intro r q
    (try delta runA.sl.r_10); (try delta runA.sl.r_9); (try delta runA.sl.r_8); (try delta runA.sl.r_7); (try delta runA.sl.r_3); (try delta runA.sl.r_2); (try delta runA.sl.cst_97)
    rw [load_head1 harg7 x5, load_head1 harg9 x7, load_bias harg8 x6, load_bias harg10 x8, load_bias harg11 x9, conv_A]
    exact input_1 (conv i x0 x1 x2 x3 x4) (k0_pay13 x9) (head x5 1) (head x7 1) x6 x8 r q
  · intro r q
    (try delta runA.sl.r_13); (try delta runA.sl.r_12); (try delta runA.sl.r_11); (try delta runA.sl.r_3); (try delta runA.sl.r_2); (try delta runA.sl.cst_97)
    rw [load_head2 harg7 x5, load_head2 harg9 x7, load_bias harg8 x6, load_bias harg10 x8, load_bias harg11 x9, conv_A]
    exact input_2 (conv i x0 x1 x2 x3 x4) (k0_pay13 x9) (head x5 2) (head x7 2) x6 x8 r q
  · intro r q
    (try delta runA.sl.r_17); (try delta runA.sl.r_16); (try delta runA.sl.r_15); (try delta runA.sl.r_14); (try delta runA.sl.r_3); (try delta runA.sl.r_2); (try delta runA.sl.cst_97)
    rw [load_head3 harg7 x5, load_head3 harg9 x7, load_bias harg8 x6, load_bias harg10 x8, load_bias harg11 x9, conv_A]
    exact input_3 (conv i x0 x1 x2 x3 x4) (k0_pay13 x9) (head x5 3) (head x7 3) x6 x8 r q
  · intro r q
    (try delta runA.sl.r_20); (try delta runA.sl.r_19); (try delta runA.sl.r_18); (try delta runA.sl.r_3); (try delta runA.sl.r_2); (try delta runA.sl.cst_97)
    rw [load_head4 harg7 x5, load_head4 harg9 x7, load_bias harg8 x6, load_bias harg10 x8, load_bias harg11 x9, conv_A]
    exact input_4 (conv i x0 x1 x2 x3 x4) (k0_pay13 x9) (head x5 4) (head x7 4) x6 x8 r q
  · intro r q
    (try delta runA.sl.r_23); (try delta runA.sl.r_22); (try delta runA.sl.r_21); (try delta runA.sl.r_3); (try delta runA.sl.r_2); (try delta runA.sl.cst_97)
    rw [load_head5 harg7 x5, load_head5 harg9 x7, load_bias harg8 x6, load_bias harg10 x8, load_bias harg11 x9, conv_A]
    exact input_5 (conv i x0 x1 x2 x3 x4) (k0_pay13 x9) (head x5 5) (head x7 5) x6 x8 r q
  · intro r q
    (try delta runA.sl.r_28); (try delta runA.sl.r_27); (try delta runA.sl.r_26); (try delta runA.sl.r_25); (try delta runA.sl.r_24); (try delta runA.sl.r_3); (try delta runA.sl.r_2); (try delta runA.sl.cst_97)
    rw [load_head6 harg7 x5, load_head6 harg9 x7, load_bias harg8 x6, load_bias harg10 x8, load_bias harg11 x9, conv_A]
    exact input_6 (conv i x0 x1 x2 x3 x4) (k0_pay13 x9) (head x5 6) (head x7 6) x6 x8 r q
  · intro r q
    (try delta runA.sl.r_31); (try delta runA.sl.r_30); (try delta runA.sl.r_29); (try delta runA.sl.r_3); (try delta runA.sl.r_2); (try delta runA.sl.cst_97)
    rw [load_head7 harg7 x5, load_head7 harg9 x7, load_bias harg8 x6, load_bias harg10 x8, load_bias harg11 x9, conv_A]
    exact input_7 (conv i x0 x1 x2 x3 x4) (k0_pay13 x9) (head x5 7) (head x7 7) x6 x8 r q

theorem conv_B : runB.sl.r_1 (F := Ideal) c i arg2 harg2 arg3 harg3 arg4 harg4 arg5 harg5 arg6 harg6 arg13 x0 x1 x2 x3 x4 = conv i x0 x1 x2 x3 x4 := by
  unfold runB.sl.r_1 runB.sl.r runB.sl.v31 runB.sl.v38 runB.sl.v44 runB.sl.v50 runB.sl.H13_3
  rw [load_flat harg6 x4, load_tap0 harg5 x3, load_tap1 harg5 x3, load_tap2 harg5 x3, load_tap3 harg5 x3, load_block harg2 x0, load_halo harg3 x1, load_halo harg4 x2]
  exact conv_eq i x0 x1 x2 x3 x4 _ _ _ _ (fun y => load_rows_at i x0 x1 x2 14 _ y _) (fun y => load_rows_at i x0 x1 x2 15 _ y _)
    (fun y => load_rows_at i x0 x1 x2 16 _ y _) (fun y => load_rows_at i x0 x1 x2 17 _ y _)

theorem decays_B (f : arg14.view.ty.Contents (Elt Ideal)) (j : Fin 8) (r q : Fin 256) :
    arg14.view.read (Elt Ideal) (arg14.view.writes (Elt Ideal) f (runB.sl.H14_8 c i arg2 harg2 arg3 harg3 arg4 harg4 arg5 harg5 arg6 harg6 arg7 harg7 arg8 harg8 arg11 harg11 arg13 x0 x1 x2 x3 x4 x5 x6 x9)) (ix2 r (col j q))
      = decays i x0 x1 x2 x3 x4 x5 x6 x9 j r q := by
  unfold runB.sl.H14_8
  refine heads_eq f _ _ _ _ _ _ _ _ (decays i x0 x1 x2 x3 x4 x5 x6 x9) ?_ ?_ ?_ ?_ ?_ ?_ ?_ ?_ j r q
  · intro r q
    (try delta runB.sl.r_6); (try delta runB.sl.r_3); (try delta runB.sl.r_2); (try delta runB.sl.cst_97)
    rw [load_head0 harg7 x5, load_bias harg8 x6, load_bias harg11 x9, conv_B]
    exact decay_0 (conv i x0 x1 x2 x3 x4) (k0_pay13 x9) (head x5 0) x6 r q
  · intro r q
    (try delta runB.sl.r_8); (try delta runB.sl.r_3); (try delta runB.sl.r_2); (try delta runB.sl.cst_97)
    rw [load_head1 harg7 x5, load_bias harg8 x6, load_bias harg11 x9, conv_B]
    exact decay_1 (conv i x0 x1 x2 x3 x4) (k0_pay13 x9) (head x5 1) x6 r q
  · intro r q
    (try delta runB.sl.r_13); (try delta runB.sl.r_3); (try delta runB.sl.r_2); (try delta runB.sl.cst_97)
    rw [load_head2 harg7 x5, load_bias harg8 x6, load_bias harg11 x9, conv_B]
    exact decay_2 (conv i x0 x1 x2 x3 x4) (k0_pay13 x9) (head x5 2) x6 r q
  · intro r q
    (try delta runB.sl.r_15); (try delta runB.sl.r_3); (try delta runB.sl.r_2); (try delta runB.sl.cst_97)
    rw [load_head3 harg7 x5, load_bias harg8 x6, load_bias harg11 x9, conv_B]
    exact decay_3 (conv i x0 x1 x2 x3 x4) (k0_pay13 x9) (head x5 3) x6 r q
  · intro r q
    (try delta runB.sl.r_19); (try delta runB.sl.r_3); (try delta runB.sl.r_2); (try delta runB.sl.cst_97)
    rw [load_head4 harg7 x5, load_bias harg8 x6, load_bias harg11 x9, conv_B]
    exact decay_4 (conv i x0 x1 x2 x3 x4) (k0_pay13 x9) (head x5 4) x6 r q
  · intro r q
    (try delta runB.sl.r_23); (try delta runB.sl.r_3); (try delta runB.sl.r_2); (try delta runB.sl.cst_97)
    rw [load_head5 harg7 x5, load_bias harg8 x6, load_bias harg11 x9, conv_B]
    exact decay_5 (conv i x0 x1 x2 x3 x4) (k0_pay13 x9) (head x5 5) x6 r q
  · intro r q
    (try delta runB.sl.r_27); (try delta runB.sl.r_26); (try delta runB.sl.r_3); (try delta runB.sl.r_2); (try delta runB.sl.cst_97)
    rw [load_head6 harg7 x5, load_bias harg8 x6, load_bias harg11 x9, conv_B]
    exact decay_6 (conv i x0 x1 x2 x3 x4) (k0_pay13 x9) (head x5 6) x6 r q
  · intro r q
    (try delta runB.sl.r_31); (try delta runB.sl.r_3); (try delta runB.sl.r_2); (try delta runB.sl.cst_97)
    rw [load_head7 harg7 x5, load_bias harg8 x6, load_bias harg11 x9, conv_B]
    exact decay_7 (conv i x0 x1 x2 x3 x4) (k0_pay13 x9) (head x5 7) x6 r q

theorem inputs_B (f : arg15.view.ty.Contents (Elt Ideal)) (j : Fin 8) (r q : Fin 256) :
    arg15.view.read (Elt Ideal) (arg15.view.writes (Elt Ideal) f (runB.sl.H15_8 c i arg2 harg2 arg3 harg3 arg4 harg4 arg5 harg5 arg6 harg6 arg7 harg7 arg8 harg8 arg9 harg9 arg10 harg10 arg11 harg11 arg13 x0 x1 x2 x3 x4 x5 x6 x7 x8 x9)) (ix2 r (col j q))
      = inputs i x0 x1 x2 x3 x4 x5 x6 x7 x8 x9 j r q := by
  unfold runB.sl.H15_8
  refine heads_eq f _ _ _ _ _ _ _ _ (inputs i x0 x1 x2 x3 x4 x5 x6 x7 x8 x9) ?_ ?_ ?_ ?_ ?_ ?_ ?_ ?_ j r q
  · intro r q
    (try delta runB.sl.r_6); (try delta runB.sl.r_5); (try delta runB.sl.r_4); (try delta runB.sl.r_3); (try delta runB.sl.r_2); (try delta runB.sl.cst_97)
    rw [load_head0 harg7 x5, load_head0 harg9 x7, load_bias harg8 x6, load_bias harg10 x8, load_bias harg11 x9, conv_B]
    exact input_0 (conv i x0 x1 x2 x3 x4) (k0_pay13 x9) (head x5 0) (head x7 0) x6 x8 r q
  · intro r q
    (try delta runB.sl.r_10); (try delta runB.sl.r_9); (try delta runB.sl.r_8); (try delta runB.sl.r_7); (try delta runB.sl.r_3); (try delta runB.sl.r_2); (try delta runB.sl.cst_97)
    rw [load_head1 harg7 x5, load_head1 harg9 x7, load_bias harg8 x6, load_bias harg10 x8, load_bias harg11 x9, conv_B]
    exact input_1 (conv i x0 x1 x2 x3 x4) (k0_pay13 x9) (head x5 1) (head x7 1) x6 x8 r q
  · intro r q
    (try delta runB.sl.r_13); (try delta runB.sl.r_12); (try delta runB.sl.r_11); (try delta runB.sl.r_3); (try delta runB.sl.r_2); (try delta runB.sl.cst_97)
    rw [load_head2 harg7 x5, load_head2 harg9 x7, load_bias harg8 x6, load_bias harg10 x8, load_bias harg11 x9, conv_B]
    exact input_2 (conv i x0 x1 x2 x3 x4) (k0_pay13 x9) (head x5 2) (head x7 2) x6 x8 r q
  · intro r q
    (try delta runB.sl.r_17); (try delta runB.sl.r_16); (try delta runB.sl.r_15); (try delta runB.sl.r_14); (try delta runB.sl.r_3); (try delta runB.sl.r_2); (try delta runB.sl.cst_97)
    rw [load_head3 harg7 x5, load_head3 harg9 x7, load_bias harg8 x6, load_bias harg10 x8, load_bias harg11 x9, conv_B]
    exact input_3 (conv i x0 x1 x2 x3 x4) (k0_pay13 x9) (head x5 3) (head x7 3) x6 x8 r q
  · intro r q
    (try delta runB.sl.r_20); (try delta runB.sl.r_19); (try delta runB.sl.r_18); (try delta runB.sl.r_3); (try delta runB.sl.r_2); (try delta runB.sl.cst_97)
    rw [load_head4 harg7 x5, load_head4 harg9 x7, load_bias harg8 x6, load_bias harg10 x8, load_bias harg11 x9, conv_B]
    exact input_4 (conv i x0 x1 x2 x3 x4) (k0_pay13 x9) (head x5 4) (head x7 4) x6 x8 r q
  · intro r q
    (try delta runB.sl.r_23); (try delta runB.sl.r_22); (try delta runB.sl.r_21); (try delta runB.sl.r_3); (try delta runB.sl.r_2); (try delta runB.sl.cst_97)
    rw [load_head5 harg7 x5, load_head5 harg9 x7, load_bias harg8 x6, load_bias harg10 x8, load_bias harg11 x9, conv_B]
    exact input_5 (conv i x0 x1 x2 x3 x4) (k0_pay13 x9) (head x5 5) (head x7 5) x6 x8 r q
  · intro r q
    (try delta runB.sl.r_28); (try delta runB.sl.r_27); (try delta runB.sl.r_26); (try delta runB.sl.r_25); (try delta runB.sl.r_24); (try delta runB.sl.r_3); (try delta runB.sl.r_2); (try delta runB.sl.cst_97)
    rw [load_head6 harg7 x5, load_head6 harg9 x7, load_bias harg8 x6, load_bias harg10 x8, load_bias harg11 x9, conv_B]
    exact input_6 (conv i x0 x1 x2 x3 x4) (k0_pay13 x9) (head x5 6) (head x7 6) x6 x8 r q
  · intro r q
    (try delta runB.sl.r_31); (try delta runB.sl.r_30); (try delta runB.sl.r_29); (try delta runB.sl.r_3); (try delta runB.sl.r_2); (try delta runB.sl.cst_97)
    rw [load_head7 harg7 x5, load_head7 harg9 x7, load_bias harg8 x6, load_bias harg10 x8, load_bias harg11 x9, conv_B]
    exact input_7 (conv i x0 x1 x2 x3 x4) (k0_pay13 x9) (head x5 7) (head x7 7) x6 x8 r q

end

end Cert.KernelIdeal.Lru

end
-- ==== Proof.LruStepIdeal.lean ====
/- The recurrence's call (`kernel`): what one point leaves, as the recurrence over its rows. -/
module

public import proofs.«01_k».proof.Proof.LruPointIdeal

@[expose] public section

set_option maxHeartbeats 1000000

noncomputable section

namespace Cert.KernelIdeal.Lru

open Cert.KernelIdeal Cert.KernelIdeal.Gen
open Idealize.ShloMosaic Idealize.ShloMosaic.TcCoe

/-- The head of a column. -/
def headOf (n : Fin 2048) : Fin 8 := ⟨n.val / 256, by omega⟩

/-- A column's place in its head. -/
def placeOf (n : Fin 2048) : Fin 256 := ⟨n.val % 256, by omega⟩

theorem col_of (n : Fin 2048) : col (headOf n) (placeOf n) = n := by
  apply Fin.ext
  show 256 * (n.val / 256) + n.val % 256 = n.val
  omega

/-- An index of a table is its two coordinates, the column by head and place. -/
theorem ix2_col (y : S256x2048.Idx) : y = ix2 (y 0) (col (headOf (y 1)) (placeOf (y 1))) := by
  funext a
  match a with
  | ⟨0, _⟩ => rfl
  | ⟨1, _⟩ => exact (col_of (y 1)).symm

/-- A point's decays as a table. -/
def decayTab (i : grid0.Coords) (x0 : Vec Ideal S1x256x2048 .bf16) (x1 x2 : Vec Ideal S1x16x2048 .bf16) (x3 : Vec Ideal S4x2048 .f32) (x4 : Vec Ideal S1x2048 .f32) (x5 : Vec Ideal S1x8x256x256 .bf16) (x6 x9 : Vec Ideal S1x1x2048 .f32) : Vec Ideal S256x2048 .f32 :=
  fun y => decays i x0 x1 x2 x3 x4 x5 x6 x9 (headOf (y 1)) (y 0) (placeOf (y 1))

/-- A point's inputs as a table. -/
def inputTab (i : grid0.Coords) (x0 : Vec Ideal S1x256x2048 .bf16) (x1 x2 : Vec Ideal S1x16x2048 .bf16) (x3 : Vec Ideal S4x2048 .f32) (x4 : Vec Ideal S1x2048 .f32) (x5 : Vec Ideal S1x8x256x256 .bf16) (x6 : Vec Ideal S1x1x2048 .f32) (x7 : Vec Ideal S1x8x256x256 .bf16) (x8 x9 : Vec Ideal S1x1x2048 .f32) : Vec Ideal S256x2048 .f32 :=
  fun y => inputs i x0 x1 x2 x3 x4 x5 x6 x7 x8 x9 (headOf (y 1)) (y 0) (placeOf (y 1))

theorem trips_lit : Scf.trips k0_t1_loop.lb k0_t1_loop.ub k0_t1_loop.st = 255 + 1 := trips_eq

section
variable (c : Dev nD) (i : grid0.Coords) (arg2 : Memref sig .tc .vmem S1x256x2048 .bf16) (harg2 : arg2.IsWhole) (arg3 : Memref sig .tc .vmem S1x16x2048 .bf16) (harg3 : arg3.IsWhole) (arg4 : Memref sig .tc .vmem S1x16x2048 .bf16) (harg4 : arg4.IsWhole) (arg5 : Memref sig .tc .vmem S4x2048 .f32) (harg5 : arg5.IsWhole) (arg6 : Memref sig .tc .vmem S1x2048 .f32) (harg6 : arg6.IsWhole) (arg7 : Memref sig .tc .vmem S1x8x256x256 .bf16) (harg7 : arg7.IsWhole) (arg8 : Memref sig .tc .vmem S1x1x2048 .f32) (harg8 : arg8.IsWhole) (arg9 : Memref sig .tc .vmem S1x8x256x256 .bf16) (harg9 : arg9.IsWhole) (arg10 : Memref sig .tc .vmem S1x1x2048 .f32) (harg10 : arg10.IsWhole) (arg11 : Memref sig .tc .vmem S1x1x2048 .f32) (harg11 : arg11.IsWhole) (arg12 : Memref sig .tc .vmem S1x256x2048 .f32) (harg12 : arg12.IsWhole) (arg13 : Memref sig .tc .vmem S288x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S1x2048 .f32) (harg16 : arg16.IsWhole)
  (x0 : Vec Ideal S1x256x2048 .bf16) (x1 : Vec Ideal S1x16x2048 .bf16) (x2 : Vec Ideal S1x16x2048 .bf16) (x3 : Vec Ideal S4x2048 .f32) (x4 : Vec Ideal S1x2048 .f32) (x5 : Vec Ideal S1x8x256x256 .bf16) (x6 : Vec Ideal S1x1x2048 .f32) (x7 : Vec Ideal S1x8x256x256 .bf16) (x8 : Vec Ideal S1x1x2048 .f32) (x9 : Vec Ideal S1x1x2048 .f32)

theorem decayTab_A (f : arg14.view.ty.Contents (Elt Ideal)) :
    arg14.view.read (Elt Ideal) (arg14.view.writes (Elt Ideal) f (runA.sl.H14_8 c i arg2 harg2 arg3 harg3 arg4 harg4 arg5 harg5 arg6 harg6 arg7 harg7 arg8 harg8 arg11 harg11 arg13 x0 x1 x2 x3 x4 x5 x6 x9)) = decayTab i x0 x1 x2 x3 x4 x5 x6 x9 := by
  funext y
  rw [ix2_col y]
  refine (decays_A c i arg2 harg2 arg3 harg3 arg4 harg4 arg5 harg5 arg6 harg6 arg7 harg7 arg8 harg8 arg11 harg11 arg13 arg14 x0 x1 x2 x3 x4 x5 x6 x9 f (headOf (y 1)) (y 0) (placeOf (y 1))).trans ?_
  rw [← ix2_col y]
  rfl

theorem inputTab_A (f : arg15.view.ty.Contents (Elt Ideal)) :
    arg15.view.read (Elt Ideal) (arg15.view.writes (Elt Ideal) f (runA.sl.H15_8 c i arg2 harg2 arg3 harg3 arg4 harg4 arg5 harg5 arg6 harg6 arg7 harg7 arg8 harg8 arg9 harg9 arg10 harg10 arg11 harg11 arg13 x0 x1 x2 x3 x4 x5 x6 x7 x8 x9)) = inputTab i x0 x1 x2 x3 x4 x5 x6 x7 x8 x9 := by
  funext y
  rw [ix2_col y]
  refine (inputs_A c i arg2 harg2 arg3 harg3 arg4 harg4 arg5 harg5 arg6 harg6 arg7 harg7 arg8 harg8 arg9 harg9 arg10 harg10 arg11 harg11 arg13 arg15 x0 x1 x2 x3 x4 x5 x6 x7 x8 x9 f (headOf (y 1)) (y 0) (placeOf (y 1))).trans ?_
  rw [← ix2_col y]
  rfl

theorem left_A : runA.sl.v460 c i arg2 harg2 arg3 harg3 arg4 harg4 arg5 harg5 arg6 harg6 arg7 harg7 arg8 harg8 arg9 harg9 arg10 harg10 arg11 harg11 arg13 arg14 arg15 harg15 arg16 x0 x1 x2 x3 x4 x5 x6 x7 x8 x9 = rows (decayTab i x0 x1 x2 x3 x4 x5 x6 x9) (inputTab i x0 x1 x2 x3 x4 x5 x6 x7 x8 x9) (k0_pay7 (F := Ideal)) 256 := by
  unfold runA.sl.v460
  rw [load_rows]
  split
  · next h0 => exact absurd (trips_lit.symm.trans h0) (by decide)
  · next k hk =>
    have e : k + 1 = 256 := hk.symm.trans trips_lit
    refine (harg15.read_unread _).trans ?_
    rw [decayTab_A, inputTab_A, e]
    unfold runA.sl.v454 View.readCov runA.sl.H16_1; rw [entry_zero]

theorem out_A (hc : starts i) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9).1
    = k0_pay6 (rows (decayTab i x0 x1 x2 x3 x4 x5 x6 x9) (inputTab i x0 x1 x2 x3 x4 x5 x6 x7 x8 x9) (k0_pay7 (F := Ideal)) 256) := by
  unfold runA
  dsimp only
  unfold runA.sl.H12_1
  rw [read_whole3]
  exact congrArg (k0_pay6 (F := Ideal)) (left_A c i arg2 harg2 arg3 harg3 arg4 harg4 arg5 harg5 arg6 harg6 arg7 harg7 arg8 harg8 arg9 harg9 arg10 harg10 arg11 harg11 arg13 arg14 arg15 harg15 arg16 x0 x1 x2 x3 x4 x5 x6 x7 x8 x9)

theorem next_A (hc : starts i) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9).2.1
    = k0_pay5 (carry (decayTab i x0 x1 x2 x3 x4 x5 x6 x9) (inputTab i x0 x1 x2 x3 x4 x5 x6 x7 x8 x9) (k0_pay7 (F := Ideal)) 256) := by
  unfold runA
  dsimp only
  rw [read_whole2]
  rw [decayTab_A, inputTab_A, show Scf.trips (0#32) (Scalar.addi 0#32 256#32) 1#32 = 256 from trips_lit]
  unfold runA.sl.v454 View.readCov runA.sl.H16_1; rw [entry_zero]

theorem decayTab_B (f : arg14.view.ty.Contents (Elt Ideal)) :
    arg14.view.read (Elt Ideal) (arg14.view.writes (Elt Ideal) f (runB.sl.H14_8 c i arg2 harg2 arg3 harg3 arg4 harg4 arg5 harg5 arg6 harg6 arg7 harg7 arg8 harg8 arg11 harg11 arg13 x0 x1 x2 x3 x4 x5 x6 x9)) = decayTab i x0 x1 x2 x3 x4 x5 x6 x9 := by
  funext y
  rw [ix2_col y]
  refine (decays_B c i arg2 harg2 arg3 harg3 arg4 harg4 arg5 harg5 arg6 harg6 arg7 harg7 arg8 harg8 arg11 harg11 arg13 arg14 x0 x1 x2 x3 x4 x5 x6 x9 f (headOf (y 1)) (y 0) (placeOf (y 1))).trans ?_
  rw [← ix2_col y]
  rfl

theorem inputTab_B (f : arg15.view.ty.Contents (Elt Ideal)) :
    arg15.view.read (Elt Ideal) (arg15.view.writes (Elt Ideal) f (runB.sl.H15_8 c i arg2 harg2 arg3 harg3 arg4 harg4 arg5 harg5 arg6 harg6 arg7 harg7 arg8 harg8 arg9 harg9 arg10 harg10 arg11 harg11 arg13 x0 x1 x2 x3 x4 x5 x6 x7 x8 x9)) = inputTab i x0 x1 x2 x3 x4 x5 x6 x7 x8 x9 := by
  funext y
  rw [ix2_col y]
  refine (inputs_B c i arg2 harg2 arg3 harg3 arg4 harg4 arg5 harg5 arg6 harg6 arg7 harg7 arg8 harg8 arg9 harg9 arg10 harg10 arg11 harg11 arg13 arg15 x0 x1 x2 x3 x4 x5 x6 x7 x8 x9 f (headOf (y 1)) (y 0) (placeOf (y 1))).trans ?_
  rw [← ix2_col y]
  rfl

theorem left_B (h : Vec Ideal S1x2048 .f32) : runB.sl.v460 c i arg2 harg2 arg3 harg3 arg4 harg4 arg5 harg5 arg6 harg6 arg7 harg7 arg8 harg8 arg9 harg9 arg10 harg10 arg11 harg11 arg13 arg14 arg15 harg15 arg16 harg16 x0 x1 x2 x3 x4 x5 x6 x7 x8 x9 h = rows (decayTab i x0 x1 x2 x3 x4 x5 x6 x9) (inputTab i x0 x1 x2 x3 x4 x5 x6 x7 x8 x9) h 256 := by
  unfold runB.sl.v460
  rw [load_rows]
  split
  · next h0 => exact absurd (trips_lit.symm.trans h0) (by decide)
  · next k hk =>
    have e : k + 1 = 256 := hk.symm.trans trips_lit
    refine (harg15.read_unread _).trans ?_
    rw [decayTab_B, inputTab_B, e]
    rw [entry_held harg16 h]

theorem out_B (hc : ¬starts i) (h : Vec Ideal S1x2048 .f32) : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 h).1
    = k0_pay6 (rows (decayTab i x0 x1 x2 x3 x4 x5 x6 x9) (inputTab i x0 x1 x2 x3 x4 x5 x6 x7 x8 x9) h 256) := by
  unfold runB
  dsimp only
  unfold runB.sl.H12_1
  rw [read_whole3]
  exact congrArg (k0_pay6 (F := Ideal)) (left_B c i arg2 harg2 arg3 harg3 arg4 harg4 arg5 harg5 arg6 harg6 arg7 harg7 arg8 harg8 arg9 harg9 arg10 harg10 arg11 harg11 arg13 arg14 arg15 harg15 arg16 harg16 x0 x1 x2 x3 x4 x5 x6 x7 x8 x9 h)

theorem next_B (hc : ¬starts i) (h : Vec Ideal S1x2048 .f32) : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 h).2.1
    = k0_pay5 (carry (decayTab i x0 x1 x2 x3 x4 x5 x6 x9) (inputTab i x0 x1 x2 x3 x4 x5 x6 x7 x8 x9) h 256) := by
  unfold runB
  dsimp only
  unfold runB.sl.H16_1
  rw [read_whole2]
  rw [decayTab_B, inputTab_B, show Scf.trips (0#32) (Scalar.addi 0#32 256#32) 1#32 = 256 from trips_lit]
  rw [entry_held harg16 h]

end

end Cert.KernelIdeal.Lru

end
-- ==== Proof.LruAlongIdeal.lean ====
/- The recurrence's call (`kernel`): along the points the state is the recurrence over all the rows, started anew at each
   batch, and the array it leaves holds that recurrence. -/
module

public import proofs.«01_k».proof.Proof.LruFrameIdeal
public import proofs.«01_k».proof.Proof.LruStepIdeal
public import Idealize.ShloMosaic.Lib.Pipeline.ValueKit
public import Idealize.ShloMosaic.Lib.Pipeline.ReadBack

@[expose] public section

set_option maxRecDepth 16384

noncomputable section

namespace Cert.KernelIdeal.Lru

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The decays of the rows of point `t`. -/
def decaysAt (c : Dev nD) (t : Fin cfg0.N) : Vec Ideal S256x2048 .f32 :=
  decayTab (grid0.coords t) (iblk m c 0 t) (iblk m c 1 t) (iblk m c 2 t) (iblk m c 3 t) (iblk m c 4 t) (iblk m c 5 t) (iblk m c 6 t) (iblk m c 9 t)

/-- The inputs of the rows of point `t`. -/
def inputsAt (c : Dev nD) (t : Fin cfg0.N) : Vec Ideal S256x2048 .f32 :=
  inputTab (grid0.coords t) (iblk m c 0 t) (iblk m c 1 t) (iblk m c 2 t) (iblk m c 3 t) (iblk m c 4 t) (iblk m c 5 t) (iblk m c 6 t) (iblk m c 7 t) (iblk m c 8 t) (iblk m c 9 t)

/-- The state a point starts from: nothing at a batch's first point, otherwise what it finds. -/
def startAt (t : ℕ) (h : Vec Ideal S1x2048 .f32) : Vec Ideal S1x2048 .f32 := if t % 32 = 0 then k0_pay7 (F := Ideal) else h

/-- A point leaves the states of its rows, and the last of them for the next point. -/
theorem step_eq (c : Dev nD) (t : Fin cfg0.N) (h : Vec Ideal S1x2048 .f32) :
    step m c t h = (k0_pay6 (rows (decaysAt m c t) (inputsAt m c t) (startAt t.val h) 256),
      k0_pay5 (carry (decaysAt m c t) (inputsAt m c t) (startAt t.val h) 256)) := by
  by_cases hz : t.val % 32 = 0
  · have hc := (starts_iff t).mpr hz
    unfold decaysAt inputsAt startAt
    rw [if_pos hz]
    exact (step_starts m c t h hc).trans (congrArg₂ Prod.mk (out_A c (grid0.coords t) (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) buf0 (Memref.isWhole_whole _) buf1 (Memref.isWhole_whole _) buf2 (Memref.isWhole_whole _) buf3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) hc) (next_A c (grid0.coords t) (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) buf0 (Memref.isWhole_whole _) buf1 (Memref.isWhole_whole _) buf2 (Memref.isWhole_whole _) buf3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) hc))
  · have hc : ¬starts (grid0.coords t) := fun w => hz ((starts_iff t).mp w)
    unfold decaysAt inputsAt startAt
    rw [if_neg hz]
    exact (step_continues m c t h hc).trans (congrArg₂ Prod.mk (out_B c (grid0.coords t) (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) buf0 (Memref.isWhole_whole _) buf1 (Memref.isWhole_whole _) buf2 (Memref.isWhole_whole _) buf3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) hc h) (next_B c (grid0.coords t) (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) buf0 (Memref.isWhole_whole _) buf1 (Memref.isWhole_whole _) buf2 (Memref.isWhole_whole _) buf3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) hc h))

theorem point_lt {N : ℕ} (h : N < 16384) : N / 256 < cfg0.N := by rw [show cfg0.N = 64 from N_0]; omega

/-- The decay of row `N` of all the rows, at column `n`. -/
def rowDecay (c : Dev nD) (n : Fin 2048) (N : ℕ) : EReal :=
  if h : N < 16384 then decaysAt m c ⟨N / 256, point_lt h⟩ (ix2 (⟨N % 256, by omega⟩ : Fin 256) n) else 0

/-- The input of row `N` of all the rows, at column `n`. -/
def rowInput (c : Dev nD) (n : Fin 2048) (N : ℕ) : EReal :=
  if h : N < 16384 then inputsAt m c ⟨N / 256, point_lt h⟩ (ix2 (⟨N % 256, by omega⟩ : Fin 256) n) else 0

/-- The state after the first `N` rows, at column `n`: the recurrence, started anew at each batch's first row. -/
def hist (c : Dev nD) (n : Fin 2048) : ℕ → EReal
  | 0 => 0
  | N + 1 => rowDecay m c n N * (if N % 8192 = 0 then 0 else hist c n N) + rowInput m c n N

/-- The state row `N` starts from. -/
def held' (c : Dev nD) (n : Fin 2048) (N : ℕ) : EReal := if N % 8192 = 0 then 0 else hist m c n N

theorem zero_state (n : Fin 2048) : (k0_pay7 (F := Ideal) (ix2 0 n) : EReal) = 0 := by
  pointwise [k0_pay7]

theorem carry_one (a b : Vec Ideal S256x2048 .f32) (h : Vec Ideal S1x2048 .f32) (k : ℕ) (hk : k < 256) (n : Fin 2048) :
    (carry a b h (k + 1) (ix2 0 n) : EReal)
      = HMul.hMul (α := EReal) (a (ix2 (⟨k, hk⟩ : Fin 256) n)) (carry a b h k (ix2 0 n)) + b (ix2 (⟨k, hk⟩ : Fin 256) n) := by
  rw [carry_succ a b h ⟨k, by rw [trips_eq]; exact hk⟩]
  pointwise [k0_pay3]
  rw [row_apply, row_apply]
  rfl

/-- Over the rows of point `t` the state goes as over all the rows. -/
theorem carry_hist (c : Dev nD) (t : Fin cfg0.N) (n : Fin 2048) (h : Vec Ideal S1x2048 .f32)
    (h0 : (h (ix2 0 n) : EReal) = held' m c n (256 * t.val)) (k : ℕ) (hk : k < 256) :
    (carry (decaysAt m c t) (inputsAt m c t) h k (ix2 0 n) : EReal) = held' m c n (256 * t.val + k)
      ∧ (carry (decaysAt m c t) (inputsAt m c t) h (k + 1) (ix2 0 n) : EReal) = hist m c n (256 * t.val + k + 1) := by
  have ht : t.val < 64 := Nat.lt_of_lt_of_eq t.isLt N_0
  have first : (carry (decaysAt m c t) (inputsAt m c t) h k (ix2 0 n) : EReal) = held' m c n (256 * t.val + k) := by
    cases k with
    | zero => exact h0
    | succ k =>
      rw [(carry_hist c t n h h0 k (by omega)).2]
      unfold held'
      rw [if_neg (by omega)]
      rfl
  refine ⟨first, ?_⟩
  rw [carry_one _ _ _ _ hk, first]
  have hN : 256 * t.val + k < 16384 := by omega
  have e1 : (⟨(256 * t.val + k) / 256, point_lt hN⟩ : Fin cfg0.N) = t := Fin.ext (by show (256 * t.val + k) / 256 = t.val; omega)
  have e2 : (⟨(256 * t.val + k) % 256, by omega⟩ : Fin 256) = ⟨k, hk⟩ := Fin.ext (by show (256 * t.val + k) % 256 = k; omega)
  show _ = rowDecay m c n (256 * t.val + k) * held' m c n (256 * t.val + k) + rowInput m c n (256 * t.val + k)
  unfold rowDecay rowInput
  rw [dif_pos hN, dif_pos hN, e1, e2]

/-- The state before point `t` is the state after the rows before it. -/
theorem state_hist (c : Dev nD) (n : Fin 2048) (t : ℕ) (ht : t ≤ 64) : (state m c t (ix2 0 n) : EReal) = hist m c n (256 * t) := by
  induction t with
  | zero => exact zero_state n
  | succ t ih =>
    have hlt : t < cfg0.N := by rw [show cfg0.N = 64 from N_0]; omega
    rw [state_succ m c ⟨t, hlt⟩, step_eq]
    pointwise [k0_pay5]
    refine ((carry_hist m c ⟨t, hlt⟩ n _ ?_ 255 (by omega)).2).trans rfl
    unfold startAt held'
    by_cases hz : t % 32 = 0
    · rw [if_pos hz, if_pos (by show 256 * t % 8192 = 0; omega)]; exact zero_state n
    · rw [if_neg hz, if_neg (by show ¬256 * t % 8192 = 0; omega)]; exact ih (by omega)

theorem start_hist (c : Dev nD) (n : Fin 2048) (t : Fin cfg0.N) : (startAt t.val (state m c t.val) (ix2 0 n) : EReal) = held' m c n (256 * t.val) := by
  have ht : t.val < 64 := Nat.lt_of_lt_of_eq t.isLt N_0
  unfold startAt held'
  by_cases hz : t.val % 32 = 0
  · rw [if_pos hz, if_pos (by omega)]; exact zero_state n
  · rw [if_neg hz, if_neg (by omega)]; exact state_hist m c n t.val (by omega)

/-- What a point leaves in its block of the output. -/
theorem left_hist (c : Dev nD) (t : Fin cfg0.N) (y : S1x256x2048.Idx) :
    (left m c t y : EReal) = hist m c (y 2) (256 * t.val + (y 1).val + 1) := by
  unfold left
  rw [step_eq]
  pointwise [k0_pay6]
  have hy : (y 1).val < 256 := (y 1).isLt
  show (if (y 1).val < 256 then carry (decaysAt m c t) (inputsAt m c t) (startAt t.val (state m c t.val)) ((y 1).val + 1) (ix2 0 (y 2)) else _) = _
  rw [if_pos hy]
  exact (carry_hist m c t (y 2) _ (start_hist m c (y 2) t) (y 1).val hy).2

theorem idx10 : ∀ t : Fin cfg0.N, win0_10.index t = ![t.val / 32, t.val % 32, 0] :=
  (by decide +kernel : ∀ t : Fin grid0.N, _)

/-- The array the call leaves: at each batch, row and column the recurrence after that row. -/
theorem arr (c : Dev nD) : (dats m 0 c).arrAt 10 cfg0.N = (fun y : S2x8192x2048.Idx => hist m c (y 2) (8192 * (y 0).val + (y 1).val + 1)) := by
  refine (dats m 0 c).arrAt_eq_of_covers 10 _ (by decide +kernel) fun t hf y => ?_
  blk_simp
  rw [after_10, left_hist]
  have e := idx10 t
  have ht : t.val < 64 := Nat.lt_of_lt_of_eq t.isLt N_0
  have e2 : ((win0_10.blk t).view.emb y 2) = y 2 := by
    apply Fin.ext
    blk_simp
    rw [e]
    simp
  rw [e2, e]
  congr 1
  simp
  omega

end Cert.KernelIdeal.Lru

end
-- ==== Proof.LruBlocksIdeal.lean ====
/- The recurrence's call (`kernel`): what each window's block holds, from the call's arguments. -/
module

public import proofs.«01_k».proof.Proof.LruFrameIdeal
public import Idealize.ShloMosaic.Lib.Pipeline.ValueKit
public import Idealize.ShloMosaic.Lib.Pipeline.ReadBack

@[expose] public section

set_option maxRecDepth 16384

noncomputable section

namespace Cert.KernelIdeal.Lru

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block stands at point `t`: the batch is `t / 32`, the block of rows `t % 32`; the rows before and after
    it come sixteen at a time, held to the sequence. -/
theorem idx : ∀ t : Fin cfg0.N, win0_0.index t = ![t.val / 32, t.val % 32, 1] ∧ win0_1.index t = ![t.val / 32, t.val % 32 * 16 - 1, 1]
    ∧ win0_2.index t = ![t.val / 32, min (t.val % 32 * 16 + 16) 511, 1] ∧ win0_3.index t = ![0, 0] ∧ win0_4.index t = ![0, 0]
    ∧ win0_5.index t = ![0, 0, 0, 0] ∧ win0_6.index t = ![0, 0, 0] ∧ win0_7.index t = ![0, 0, 0, 0] ∧ win0_8.index t = ![0, 0, 0] ∧ win0_9.index t = ![0, 0, 0] :=
  (by decide +kernel : ∀ t : Fin grid0.N, _)

theorem coord1 (t : Fin cfg0.N) : (grid0.coords t 1).val = t.val % 32 := by
  have e1 : (grid0.coords t 1).val = t.val / 1 % 32 := Pipeline.Grid.coords_val t 1 (by decide) rfl
  rw [e1, Nat.div_one]

theorem lt64 (t : Fin cfg0.N) : t.val < 64 := Nat.lt_of_lt_of_eq t.isLt N_0

/-- The batch of a point. -/
def batch (t : Fin cfg0.N) : Fin 2 := ⟨t.val / 32, by have := lt64 t; omega⟩

/-- The rows of the point's own block. -/
theorem blk0 (c : Dev nD) (t : Fin cfg0.N) (r : Fin 256) (n : Fin 2048) :
    iblk m c 0 t (ix3 (0 : Fin 1) r n) = m ((c.tc : Thread nD τ).loc main_arg0) (ix3 (batch t) (⟨t.val % 32 * 256 + r.val, by omega⟩ : Fin 8192) (⟨2048 + n.val, by omega⟩ : Fin 14336)) := by
  obtain ⟨e0, -⟩ := idx t
  unfold batch
  blk_ext [iblk, V, e0]

/-- The sixteen rows before it. -/
theorem blk1 (c : Dev nD) (t : Fin cfg0.N) (h : 0 < t.val % 32) (r : Fin 16) (n : Fin 2048) :
    iblk m c 1 t (ix3 (0 : Fin 1) r n) = m ((c.tc : Thread nD τ).loc main_arg0) (ix3 (batch t) (⟨t.val % 32 * 256 + r.val - 16, by omega⟩ : Fin 8192) (⟨2048 + n.val, by omega⟩ : Fin 14336)) := by
  obtain ⟨-, e1, -⟩ := idx t
  unfold batch
  blk_ext [iblk, V, e1]

/-- The sixteen rows after it. -/
theorem blk2 (c : Dev nD) (t : Fin cfg0.N) (h : t.val % 32 < 31) (r : Fin 16) (n : Fin 2048) :
    iblk m c 2 t (ix3 (0 : Fin 1) r n) = m ((c.tc : Thread nD τ).loc main_arg0) (ix3 (batch t) (⟨t.val % 32 * 256 + 256 + r.val, by omega⟩ : Fin 8192) (⟨2048 + n.val, by omega⟩ : Fin 14336)) := by
  obtain ⟨-, -, e2, -⟩ := idx t
  rw [Nat.min_eq_left (by omega)] at e2
  unfold batch
  blk_ext [iblk, V, e2]

/-- The taps. -/
theorem blk3 (c : Dev nD) (t : Fin cfg0.N) (k : Fin 4) (n : Fin 2048) :
    iblk m c 3 t (ix2 k n) = m ((c.tc : Thread nD τ).loc main_arg1) (ix3 (0 : Fin 1) k n) := by
  obtain ⟨-, -, -, e3, -⟩ := idx t
  show V m c main_v0 _ = _
  entry_read
  pointwise
  blk_ext [iblk, V, e3]

/-- The convolution's bias. -/
theorem blk4 (c : Dev nD) (t : Fin cfg0.N) (n : Fin 2048) :
    iblk m c 4 t (ix2 (0 : Fin 1) n) = m ((c.tc : Thread nD τ).loc main_arg2) (ix2 (0 : Fin 1) n) := by
  obtain ⟨-, -, -, -, e4, -⟩ := idx t
  show V m c main_v9 _ = _
  entry_read
  pointwise
  blk_ext [iblk, V, e4]

/-- The gates' weights. -/
theorem blk5 (c : Dev nD) (t : Fin cfg0.N) (j : Fin 8) (k q : Fin 256) :
    iblk m c 5 t (ix4 (0 : Fin 1) j k q) = m ((c.tc : Thread nD τ).loc main_arg3) (ix5 (0 : Fin 1) (0 : Fin 2) j k q) := by
  obtain ⟨-, -, -, -, -, e5, -⟩ := idx t
  show V m c main_v3 _ = _
  entry_read
  pointwise
  blk_ext [iblk, V, e5]

theorem blk7 (c : Dev nD) (t : Fin cfg0.N) (j : Fin 8) (k q : Fin 256) :
    iblk m c 7 t (ix4 (0 : Fin 1) j k q) = m ((c.tc : Thread nD τ).loc main_arg5) (ix5 (0 : Fin 1) (0 : Fin 2) j k q) := by
  obtain ⟨-, -, -, -, -, -, -, e7, -⟩ := idx t
  show V m c main_v6 _ = _
  entry_read
  pointwise
  blk_ext [iblk, V, e7]

/-- The gates' biases and the decay's parameter. -/
theorem blk6 (c : Dev nD) (t : Fin cfg0.N) (n : Fin 2048) :
    iblk m c 6 t (ix3 (0 : Fin 1) (0 : Fin 1) n) = m ((c.tc : Thread nD τ).loc main_arg4) (ix3 (0 : Fin 1) (0 : Fin 2) n) := by
  obtain ⟨-, -, -, -, -, -, e6, -⟩ := idx t
  show V m c main_v10 _ = _
  entry_read
  pointwise
  blk_ext [iblk, V, e6]

theorem blk8 (c : Dev nD) (t : Fin cfg0.N) (n : Fin 2048) :
    iblk m c 8 t (ix3 (0 : Fin 1) (0 : Fin 1) n) = m ((c.tc : Thread nD τ).loc main_arg6) (ix3 (0 : Fin 1) (0 : Fin 2) n) := by
  obtain ⟨-, -, -, -, -, -, -, -, e8, -⟩ := idx t
  show V m c main_v11 _ = _
  entry_read
  pointwise
  blk_ext [iblk, V, e8]

theorem blk9 (c : Dev nD) (t : Fin cfg0.N) (n : Fin 2048) :
    iblk m c 9 t (ix3 (0 : Fin 1) (0 : Fin 1) n) = m ((c.tc : Thread nD τ).loc main_arg7) (ix3 (0 : Fin 1) (0 : Fin 2) n) := by
  obtain ⟨-, -, -, -, -, -, -, -, -, e9⟩ := idx t
  show V m c main_v12 _ = _
  entry_read
  pointwise
  blk_ext [iblk, V, e9]

end Cert.KernelIdeal.Lru

end
-- ==== Proof.LruEntryIdeal.lean ====
/- The recurrence's reference (`reference`): what its loop starts from, entry by entry. -/
module

public import proofs.«01_k».proof.Proof.Gen.ReferenceIdeal.Run
public import Idealize.ShloMosaic.Lib.Claim
public import Idealize.ShloMosaic.Lib.Pointwise
public import Idealize.ShloMosaic.Lib.WordCmp

@[expose] public section

set_option maxRecDepth 100000
set_option maxHeartbeats 2000000

noncomputable section

namespace Cert.ReferenceIdeal.Lru

open Cert.ReferenceIdeal Cert.ReferenceIdeal.Gen Cert.ReferenceIdeal.Value
open Idealize.ShloMosaic Idealize.ShloMosaic.TcCoe Idealize.ShloMosaic.StableHlo

/-- The product of two extended reals. -/
abbrev mul (a b : EReal) : EReal := a * b

/-- The convolution at a place: four taps and the bias. -/
def convOf (p : Vec Ideal S2x8195x2048 .f32) (w : Vec Ideal S4x2048 .f32) (cb : Vec Ideal S2048 .f32) (b : Fin 2) (s : Fin 8192) (n : Fin 2048) : EReal :=
  ((((p (ix3 b (⟨s.val, by omega⟩ : Fin 8195) n) : EReal) * (w (ix2 (0 : Fin 4) n) : EReal) + (p (ix3 b (⟨1 + s.val, by omega⟩ : Fin 8195) n) : EReal) * (w (ix2 (1 : Fin 4) n) : EReal) : EReal)
    + (p (ix3 b (⟨2 + s.val, by omega⟩ : Fin 8195) n) : EReal) * (w (ix2 (2 : Fin 4) n) : EReal) : EReal)
    + (p (ix3 b (⟨3 + s.val, by omega⟩ : Fin 8195) n) : EReal) * (w (ix2 (3 : Fin 4) n) : EReal) : EReal) + (cb (ix1 n) : EReal)

/-- A gate at a place: the logistic function of the head's row and the bias. -/
def gateOf (X : Fin 2 → Fin 8192 → Fin 2048 → EReal) (w : Vec Ideal S1x2x8x256x256 .f32) (ba : Vec Ideal S1x2x2048 .f32) (b : Fin 2) (s : Fin 8192) (n : Fin 2048) : EReal :=
  Ideal.div 1 (1 + Ideal.exp (-((∑ k : Fin 256, (w (ix5 (0 : Fin 1) (0 : Fin 2) (⟨n.val / 256, by omega⟩ : Fin 8) k (⟨n.val % 256, by omega⟩ : Fin 256)) : EReal) * X b s ⟨n.val / 256 * 256 + k.val, by omega⟩)
    + (ba (ix3 (0 : Fin 1) (0 : Fin 2) n) : EReal))))

theorem conv_read (V : Valuation τ sig (Elt Ideal)) (b : Fin 2) (s : Fin 8192) (n : Fin 2048) :
    after hostOps0_2 V (Proc.devRef .tc main_v34) (ix3 b s n) = convOf (V (Proc.devRef .tc main_v4)) (V (Proc.devRef .tc main_v2)) (V (Proc.devRef .tc main_v3)) b s n := by
  simp only [hostOps0_2]
  after_results
  pointwise
  rfl

theorem rate_read (V : Valuation τ sig (Elt Ideal)) (b : Fin 2) (s : Fin 8192) (n : Fin 2048) :
    after hostOps0_2 V (Proc.devRef .tc main_v72) (ix3 b s n)
      = mul (FloatOps.ofBits (F := Ideal) FTy.f32 0xC1000000#32) (gateOf (convOf (V (Proc.devRef .tc main_v4)) (V (Proc.devRef .tc main_v2)) (V (Proc.devRef .tc main_v3)))
          (V (Proc.devRef .tc main_arg3)) (V (Proc.devRef .tc main_arg4)) b s n) := by
  simp only [hostOps0_2]
  after_results
  pointwise
  rfl

theorem inGate_read (V : Valuation τ sig (Elt Ideal)) (b : Fin 2) (s : Fin 8192) (n : Fin 2048) :
    after hostOps0_2 V (Proc.devRef .tc main_v70) (ix3 b s n)
      = gateOf (convOf (V (Proc.devRef .tc main_v4)) (V (Proc.devRef .tc main_v2)) (V (Proc.devRef .tc main_v3)))
          (V (Proc.devRef .tc main_arg5)) (V (Proc.devRef .tc main_arg6)) b s n := by
  simp only [hostOps0_2]
  after_results
  pointwise
  rfl

theorem neg_read (V : Valuation τ sig (Elt Ideal)) (n : Fin 2048) :
    after hostOps0_2 V (Proc.devRef .tc main_v73) (ix1 n) = Neg.neg (α := EReal) (V (Proc.devRef .tc main_arg7) (ix3 (0 : Fin 1) (0 : Fin 2) n)) := by
  simp only [hostOps0_2]
  after_results
  pointwise

/-- The reference's softplus, as it computes it. -/
def soft (x : FVec Ideal S2048 .f32) : FVec Ideal S2048 .f32 :=
  select (cmpf .une (subf x (broadcastInDim S2048 ![] bcast_S_S2048 (constant S_ .f32 0x00000000#32))) (subf x (broadcastInDim S2048 ![] bcast_S_S2048 (constant S_ .f32 0x00000000#32))))
    (addf x (broadcastInDim S2048 ![] bcast_S_S2048 (constant S_ .f32 0x00000000#32)))
    (addf (maximumf x (broadcastInDim S2048 ![] bcast_S_S2048 (constant S_ .f32 0x00000000#32))) (Host.log1p (Host.exp (Host.negf (Host.absf (subf x (broadcastInDim S2048 ![] bcast_S_S2048 (constant S_ .f32 0x00000000#32))))))))

/-- Softplus at a place. -/
def softOf (x : EReal) : EReal := max x 0 + Ideal.log1p (Ideal.exp (-(FloatOps.absf (F := Ideal) (φ := .f32) x : EReal)))

theorem soft_read (V : Valuation τ sig (Elt Ideal)) (n : Fin 2048) :
    after hostOps0_3 V (Proc.devRef .tc main_v74) (ix1 n) = softOf (V (Proc.devRef .tc main_v73) (ix1 n)) := by
  simp only [hostOps0_3]
  after_results
  change soft (V (Proc.devRef .tc main_v73)) (ix1 n) = _
  unfold soft
  pointwise
  exact (if_neg fun h => h rfl).trans rfl

theorem decay_read (V : Valuation τ sig (Elt Ideal)) (b : Fin 2) (s : Fin 8192) (n : Fin 2048) :
    after hostOps0_4 V (Proc.devRef .tc main_v90_0) (ix3 s b n) = Ideal.exp (mul (V (Proc.devRef .tc main_v72) (ix3 b s n)) (V (Proc.devRef .tc main_v74) (ix1 n))) := by
  simp only [hostOps0_4]
  after_results
  simp only [id]
  pointwise

theorem input_read (V : Valuation τ sig (Elt Ideal)) (b : Fin 2) (s : Fin 8192) (n : Fin 2048) :
    after hostOps0_4 V (Proc.devRef .tc main_v90_1) (ix3 s b n)
      = mul (Ideal.sqrt (-(Ideal.expm1 (mul (FloatOps.ofBits (F := Ideal) FTy.f32 0x40000000#32) (mul (V (Proc.devRef .tc main_v72) (ix3 b s n)) (V (Proc.devRef .tc main_v74) (ix1 n)))))))
          (mul (V (Proc.devRef .tc main_v70) (ix3 b s n)) (V (Proc.devRef .tc main_v34) (ix3 b s n))) := by
  simp only [hostOps0_4]
  after_results
  simp only [id]
  pointwise
  rfl

theorem zero_read (V : Valuation τ sig (Elt Ideal)) (b : Fin 2) (n : Fin 2048) :
    after hostOps0_4 V (Proc.devRef .tc main_v90_3) (ix2 b n) = (0 : EReal) := by
  simp only [hostOps0_4]
  after_results
  simp only [id]
  pointwise

theorem pad_read (V : Valuation τ sig (Elt Ideal)) (b : Fin 2) (p : Fin 8195) (n : Fin 2048) :
    after hostOps0_1 (after hostOps0 V) (Proc.devRef .tc main_v4) (ix3 b p n)
      = if h : 2 ≤ p.val ∧ p.val - 2 < 8192 then (V (Proc.devRef .tc main_arg0) (ix3 b (⟨p.val - 2, by omega⟩ : Fin 8192) (⟨2048 + n.val, by omega⟩ : Fin 14336)) : EReal) else (0 : EReal) := by
  simp only [hostOps0, hostOps0_1]
  after_results
  change pad S2x8195x2048 ![0, 2, 0] ![0, 1, 0] ![0, 0, 0] (extf .f32 (extractStridedSlice S2x8192x2048 ![0, 0, 2048] (V (Proc.devRef .tc main_arg0)) slices_S2x8192x14336_S2x8192x2048_0_0_2048) bitsLt_bf16_f32)
    (sitofp (F := Ideal) .f32 (constantI S_ 32 0#32)) pads_S2x8192x2048_S2x8195x2048_000_210_000 h_S_ (ix3 b p n) = _
  pointwise
  rw [show FloatOps.sitofp (F := Ideal) FTy.f32 (0#32 : BitVec 32) = (0 : EReal) by simp [FloatOps.sitofp]]

theorem taps_read (V : Valuation τ sig (Elt Ideal)) (k : Fin 4) (n : Fin 2048) :
    after hostOps0_1 (after hostOps0 V) (Proc.devRef .tc main_v2) (ix2 k n) = V (Proc.devRef .tc main_arg1) (ix3 (0 : Fin 1) k n) := by
  simp only [hostOps0, hostOps0_1]
  after_results
  pointwise

theorem bias_read (V : Valuation τ sig (Elt Ideal)) (n : Fin 2048) :
    after hostOps0_1 (after hostOps0 V) (Proc.devRef .tc main_v3) (ix1 n) = V (Proc.devRef .tc main_arg2) (ix2 (0 : Fin 1) n) := by
  simp only [hostOps0, hostOps0_1]
  after_results
  pointwise

/-! ## The loop -/

theorem start_eq (V : Valuation τ sig (Elt Ideal)) (k : Fin 8192) (h : V (Proc.devRef .tc main_v90_2) = fun _ => BitVec.ofNat 32 k.val) (a : Fin 3) :
    ((![V (Proc.devRef .tc main_v90_2), constantI S_ 32 0#32, constantI S_ 32 0#32] : Fin 3 → (⟨S_, .i32⟩ : BufTy).Contents (Elt Ideal)) a (Shape.Idx.first h_S_)).toInt = ((![k.val, 0, 0] : Fin 3 → ℕ) a : Int) := by
  match a with
  | ⟨0, _⟩ =>
    show (V (Proc.devRef .tc main_v90_2) (Shape.Idx.first h_S_)).toInt = (k.val : Int)
    rw [h]
    show (BitVec.ofNat 32 k.val).toInt = _
    have := k.isLt
    rw [BitVec.toInt_eq_toNat_of_lt (by rw [BitVec.toNat_ofNat]; omega), BitVec.toNat_ofNat]
    omega
  | ⟨1, _⟩ => rfl
  | ⟨2, _⟩ => rfl

theorem slices_at (k : Fin 8192) : S8192x2x2048.Slices ![k.val, 0, 0] S1x2x2048 := ⟨rfl, fun a => by
  match a with
  | ⟨0, _⟩ => show k.val + 1 ≤ 8192; omega
  | ⟨1, _⟩ => show 0 + 2 ≤ 2; omega
  | ⟨2, _⟩ => show 0 + 2048 ≤ 2048; omega⟩

/-- One trip's state: the trip's decay times the state, plus the trip's input. -/
theorem next_apply (V : Valuation τ sig (Elt Ideal)) (k : Fin 8192) (h : V (Proc.devRef .tc main_v90_2) = fun _ => BitVec.ofNat 32 k.val) (b : Fin 2) (n : Fin 2048) :
    res_main_while0b_v95 V (ix2 b n) = mul (V (Proc.devRef .tc main_v90_0) (ix3 k b n)) (V (Proc.devRef .tc main_v90_3) (ix2 b n)) + (V (Proc.devRef .tc main_v90_1) (ix3 k b n) : EReal) := by
  unfold res_main_while0b_v95
  rw [WordCmp.dynamicSlice_eq_extract S1x2x2048 _ _ _ ![k.val, 0, 0] (slices_at k) (start_eq V k h), WordCmp.dynamicSlice_eq_extract S1x2x2048 _ _ _ ![k.val, 0, 0] (slices_at k) (start_eq V k h)]
  pointwise

/-- One trip's rows: row `k` is the new state, the others stay. -/
theorem rows_apply (V : Valuation τ sig (Elt Ideal)) (k : Fin 8192) (h : V (Proc.devRef .tc main_v90_2) = fun _ => BitVec.ofNat 32 k.val) (s : Fin 8192) (b : Fin 2) (n : Fin 2048) :
    step_main_v90_4 V (ix3 s b n) = if s.val = k.val then res_main_while0b_v95 V (ix2 b n) else V (Proc.devRef .tc main_v90_4) (ix3 s b n) := by
  unfold step_main_v90_4
  rw [id, WordCmp.dynamicUpdateSlice_eq_update _ _ _ _ ![k.val, 0, 0] (slices_at k) (start_eq V k h)]
  pointwise
  by_cases e : s.val = k.val
  · rw [dif_pos, if_pos e]
    intro a
    match a with
    | ⟨0, _⟩ => exact ⟨e.symm.le, by show s.val < k.val + 1; omega⟩
    | ⟨1, _⟩ => exact ⟨Nat.zero_le _, by show b.val < 0 + 2; omega⟩
    | ⟨2, _⟩ => exact ⟨Nat.zero_le _, by show n.val < 0 + 2048; omega⟩
  · rw [dif_neg, if_neg e]
    intro ha
    have h0 := ha ⟨0, by decide⟩
    have h1 : k.val ≤ s.val := h0.1
    have h2 : s.val < k.val + 1 := h0.2
    omega

end Cert.ReferenceIdeal.Lru

end
-- ==== Proof.LruLoopIdeal.lean ====
/- The recurrence's reference (`reference`): its loop entry by entry, and the array it returns, from the arguments. -/
module

public import proofs.«01_k».proof.Proof.LruEntryIdeal

@[expose] public section

set_option maxRecDepth 100000

noncomputable section

namespace Cert.ReferenceIdeal.Lru

open Cert.ReferenceIdeal Cert.ReferenceIdeal.Gen Cert.ReferenceIdeal.Value
open Idealize.ShloMosaic Idealize.ShloMosaic.TcCoe Idealize.ShloMosaic.StableHlo

/-- The state after `k` rows of a batch, from the rows' decays and inputs. -/
def chain (a b : Fin 8192 → EReal) : ℕ → EReal
  | 0 => 0
  | k + 1 => if h : k < 8192 then a ⟨k, h⟩ * chain a b k + b ⟨k, h⟩ else chain a b k

theorem chain_succ (a b : Fin 8192 → EReal) (k : Fin 8192) : chain a b (k.val + 1) = a k * chain a b k.val + b k := dif_pos k.isLt

/-- The decays a valuation holds, along the rows. -/
abbrev decaysIn (V : Valuation τ sig (Elt Ideal)) (b : Fin 2) (n : Fin 2048) : Fin 8192 → EReal := fun s => V (Proc.devRef .tc main_v90_0) (ix3 s b n)
/-- The inputs a valuation holds, along the rows. -/
abbrev inputsIn (V : Valuation τ sig (Elt Ideal)) (b : Fin 2) (n : Fin 2048) : Fin 8192 → EReal := fun s => V (Proc.devRef .tc main_v90_1) (ix3 s b n)

/-- What the carried buffers hold after `k` trips. -/
structure Holds (V W : Valuation τ sig (Elt Ideal)) (k : ℕ) : Prop where
  decays : W (Proc.devRef .tc main_v90_0) = V (Proc.devRef .tc main_v90_0)
  inputs : W (Proc.devRef .tc main_v90_1) = V (Proc.devRef .tc main_v90_1)
  count : W (Proc.devRef .tc main_v90_2) = fun _ => BitVec.ofNat 32 k
  now : ∀ (b : Fin 2) (n : Fin 2048), W (Proc.devRef .tc main_v90_3) (ix2 b n) = chain (decaysIn V b n) (inputsIn V b n) k
  past : ∀ (s : Fin 8192) (b : Fin 2) (n : Fin 2048), s.val < k → W (Proc.devRef .tc main_v90_4) (ix3 s b n) = chain (decaysIn V b n) (inputsIn V b n) (s.val + 1)

theorem holds_step (V W : Valuation τ sig (Elt Ideal)) (k : Fin 8192) (h : Holds V W k.val) : Holds V (STEP W) (k.val + 1) := by
  have nxt : ∀ (b : Fin 2) (n : Fin 2048), res_main_while0b_v95 W (ix2 b n) = chain (decaysIn V b n) (inputsIn V b n) (k.val + 1) := fun b n => by
    rw [next_apply W k h.count b n, chain_succ, h.now b n, h.decays, h.inputs]
  refine ⟨?_, ?_, ?_, ?_, ?_⟩
  · rw [STEP_main_v90_0, h.decays]
  · rw [STEP_main_v90_1, h.inputs]
  · rw [STEP_main_v90_2]
    unfold step_main_v90_2
    rw [id, h.count]
    funext _
    show BitVec.ofNat 32 k.val + 1#32 = BitVec.ofNat 32 (k.val + 1)
    rw [BitVec.ofNat_add]
  · intro b n
    rw [STEP_main_v90_3]
    exact nxt b n
  · intro s b n hs
    rw [STEP_main_v90_4, rows_apply W k h.count s b n]
    by_cases e : s.val = k.val
    · rw [if_pos e, nxt b n, e]
    · rw [if_neg e, h.past s b n (by omega)]

theorem holds_all (V : Valuation τ sig (Elt Ideal)) (h : Holds V V 0) : ∀ k : ℕ, k ≤ 8192 → Holds V (STEP^[k] V) k
  | 0, _ => h
  | k + 1, hk => by
    rw [Function.iterate_succ_apply']
    exact holds_step V _ ⟨k, by omega⟩ (holds_all V h k (by omega))

/-! ## The arguments' part -/

/-- The mixer's column of the projected stream with two rows of nothing before and one after. -/
def padOf (x : Vec Ideal S2x8192x14336 .bf16) (b : Fin 2) (p : ℕ) (n : Fin 2048) : EReal :=
  if h : 2 ≤ p ∧ p - 2 < 8192 then x (ix3 b (⟨p - 2, h.2⟩ : Fin 8192) (⟨2048 + n.val, by omega⟩ : Fin 14336)) else 0

/-- The short convolution at a place. -/
def xOf (x : Vec Ideal S2x8192x14336 .bf16) (cw : Vec Ideal S1x4x2048 .f32) (cb : Vec Ideal S1x2048 .f32) (b : Fin 2) (s : Fin 8192) (n : Fin 2048) : EReal :=
  (((mul (padOf x b s.val n) (cw (ix3 (0 : Fin 1) (0 : Fin 4) n)) + mul (padOf x b (1 + s.val) n) (cw (ix3 (0 : Fin 1) (1 : Fin 4) n)))
    + mul (padOf x b (2 + s.val) n) (cw (ix3 (0 : Fin 1) (2 : Fin 4) n))) + mul (padOf x b (3 + s.val) n) (cw (ix3 (0 : Fin 1) (3 : Fin 4) n))) + (cb (ix2 (0 : Fin 1) n) : EReal)

/-- The logarithm of a row's decay. -/
def logOf (x : Vec Ideal S2x8192x14336 .bf16) (cw : Vec Ideal S1x4x2048 .f32) (cb : Vec Ideal S1x2048 .f32) (wa : Vec Ideal S1x2x8x256x256 .f32) (ba lam : Vec Ideal S1x2x2048 .f32) (b : Fin 2) (s : Fin 8192) (n : Fin 2048) : EReal :=
  mul (mul (FloatOps.ofBits (F := Ideal) FTy.f32 0xC1000000#32) (gateOf (xOf x cw cb) wa ba b s n)) (softOf (Neg.neg (α := EReal) (lam (ix3 (0 : Fin 1) (0 : Fin 2) n))))

/-- A row's input. -/
def inOf (x : Vec Ideal S2x8192x14336 .bf16) (cw : Vec Ideal S1x4x2048 .f32) (cb : Vec Ideal S1x2048 .f32) (wa : Vec Ideal S1x2x8x256x256 .f32) (ba : Vec Ideal S1x2x2048 .f32) (wx : Vec Ideal S1x2x8x256x256 .f32) (bx lam : Vec Ideal S1x2x2048 .f32) (b : Fin 2) (s : Fin 8192) (n : Fin 2048) : EReal :=
  mul (Ideal.sqrt (-(Ideal.expm1 (mul (FloatOps.ofBits (F := Ideal) FTy.f32 0x40000000#32) (logOf x cw cb wa ba lam b s n)))))
    (mul (gateOf (xOf x cw cb) wx bx b s n) (xOf x cw cb b s n))

section

variable (V : Valuation τ sig (Elt Ideal))

theorem conv_args : convOf (after hostOps0_1 (after hostOps0 V) (Proc.devRef .tc main_v4)) (after hostOps0_1 (after hostOps0 V) (Proc.devRef .tc main_v2)) (after hostOps0_1 (after hostOps0 V) (Proc.devRef .tc main_v3))
    = xOf (V (Proc.devRef .tc main_arg0)) (V (Proc.devRef .tc main_arg1)) (V (Proc.devRef .tc main_arg2)) := by
  funext b s n
  unfold convOf
  rw [pad_read, pad_read, pad_read, pad_read, taps_read, taps_read, taps_read, taps_read, bias_read]
  rfl

/-- What the loop is entered with. -/
abbrev entered : Valuation τ sig (Elt Ideal) := after hostOps0_4 (after hostOps0_3 (after hostOps0_2 (after hostOps0_1 (after hostOps0 V))))

theorem keep_v72 (W : Valuation τ sig (Elt Ideal)) : after hostOps0_3 W (Proc.devRef .tc main_v72) = W (Proc.devRef .tc main_v72) :=
  after_of_writes_sub hostOps0_3 W hostOps0_3_writes (by decide +kernel)
theorem keep_v70 (W : Valuation τ sig (Elt Ideal)) : after hostOps0_3 W (Proc.devRef .tc main_v70) = W (Proc.devRef .tc main_v70) :=
  after_of_writes_sub hostOps0_3 W hostOps0_3_writes (by decide +kernel)
theorem keep_v34 (W : Valuation τ sig (Elt Ideal)) : after hostOps0_3 W (Proc.devRef .tc main_v34) = W (Proc.devRef .tc main_v34) :=
  after_of_writes_sub hostOps0_3 W hostOps0_3_writes (by decide +kernel)

theorem entered_decay (b : Fin 2) (s : Fin 8192) (n : Fin 2048) : entered V (Proc.devRef .tc main_v90_0) (ix3 s b n)
    = Ideal.exp (logOf (V (Proc.devRef .tc main_arg0)) (V (Proc.devRef .tc main_arg1)) (V (Proc.devRef .tc main_arg2)) (V (Proc.devRef .tc main_arg3)) (V (Proc.devRef .tc main_arg4)) (V (Proc.devRef .tc main_arg7)) b s n) := by
  unfold entered
  rw [decay_read, keep_v72, rate_read, soft_read, neg_read, conv_args, keep_main_arg3_hostOps0_1, keep_main_arg3_hostOps0, keep_main_arg4_hostOps0_1, keep_main_arg4_hostOps0, keep_main_arg7_hostOps0_1, keep_main_arg7_hostOps0]
  rfl

theorem entered_input (b : Fin 2) (s : Fin 8192) (n : Fin 2048) : entered V (Proc.devRef .tc main_v90_1) (ix3 s b n)
    = inOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) b s n := by
  unfold entered
  rw [input_read, keep_v72, keep_v70, keep_v34, rate_read, inGate_read, conv_read, soft_read, neg_read, conv_args, keep_main_arg3_hostOps0_1, keep_main_arg3_hostOps0, keep_main_arg4_hostOps0_1, keep_main_arg4_hostOps0, keep_main_arg5_hostOps0_1, keep_main_arg5_hostOps0, keep_main_arg6_hostOps0_1, keep_main_arg6_hostOps0, keep_main_arg7_hostOps0_1, keep_main_arg7_hostOps0]
  rfl

end

/-- The array the reference returns, from the arguments. -/
def result (x : Vec Ideal S2x8192x14336 .bf16) (cw : Vec Ideal S1x4x2048 .f32) (cb : Vec Ideal S1x2048 .f32) (wa : Vec Ideal S1x2x8x256x256 .f32) (ba : Vec Ideal S1x2x2048 .f32) (wx : Vec Ideal S1x2x8x256x256 .f32) (bx lam : Vec Ideal S1x2x2048 .f32) : Vec Ideal S2x8192x2048 .f32 :=
  fun y => chain (fun s => Ideal.exp (logOf x cw cb wa ba lam (y 0) s (y 2))) (fun s => inOf x cw cb wa ba wx bx lam (y 0) s (y 2)) ((y 1).val + 1)

theorem out_eq (m : (ℓ : Loc nD τ sig) → Buf (Elt Ideal) ℓ) (c : Dev nD) :
    out_main_v91 (STEP^[8192] (entryContents preI m c))
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have e : entryContents preI m c = entered (launchContents m c) := by
    simp only [entryContents, afterL_cons, afterL_nil]
  have h0 : Holds (entryContents preI m c) (entryContents preI m c) 0 :=
    ⟨rfl, rfl, ctr_entry m c, fun b n => by rw [e]; exact zero_read _ b n, fun s b n hs => absurd hs (Nat.not_lt_zero _)⟩
  have h := (holds_all _ h0 8192 (le_refl _)).past
  funext y
  unfold out_main_v91 result
  pointwise
  refine (h (y 1) (y 0) (y 2) (y 1).isLt).trans ?_
  rw [e]
  exact congrArg₂ (fun a b => chain a b ((y 1).val + 1)) (funext fun s => entered_decay (launchContents m c) (y 0) s (y 2))
    (funext fun s => entered_input (launchContents m c) (y 0) s (y 2))

end Cert.ReferenceIdeal.Lru

end
-- ==== Proof.LruScalars.lean ====
/- Facts about the functions on the extended reals that the recurrence's two ways of writing its decay and its input need. -/
module

public import Idealize.ShloMosaic.Lib.IdealHost
public import Idealize.ShloMosaic.Lib.Pipeline.ValueKit

@[expose] public section

noncomputable section

namespace Cert.LruScalars

open Idealize.ShloMosaic

/-- The bits of two. -/
theorem two : (FloatOps.ofBits (F := Ideal) FTy.f32 0x40000000#32 : EReal) = 2 := by
  show Ideal.ofBits .f32 0x40000000#32 = 2
  rw [show (2 : EReal) = ((2 : ℝ) : EReal) from rfl]
  simp [Ideal.ofBits, Ideal.ieee, -EReal.coe_mul]; norm_num

/-- An exponential's square is the exponential of twice the argument. -/
theorem exp_mul_exp (x : EReal) : Ideal.exp x * Ideal.exp x = Ideal.exp (2 * x) := by
  induction x with
  | bot => rw [EReal.mul_bot_of_pos (by norm_num)]; simp
  | top => rw [EReal.mul_top_of_pos (by norm_num)]; simp
  | coe r =>
    rw [show (2 : EReal) = ((2 : ℝ) : EReal) from rfl, ← EReal.coe_mul, Ideal.exp_coe, Ideal.exp_coe, ← EReal.coe_mul, ← Real.exp_add, two_mul]

/-- One minus the square of an exponential, written with the exponential of twice the argument. -/
theorem one_sub_exp_sq (x : EReal) : 1 - Ideal.exp x * Ideal.exp x = -(Ideal.expm1 (2 * x)) := by
  rw [exp_mul_exp]
  show 1 - Ideal.exp (2 * x) = -(Ideal.exp (2 * x) - 1)
  rw [EReal.neg_sub (Or.inr (by decide)) (Or.inr (by decide)), add_comm, sub_eq_add_neg]

end Cert.LruScalars

end
-- ==== Proof.LruMatchIdeal.lean ====
/- The recurrence's call (`kernel`): its decays and inputs, row by row, are the reference's, so the arrays are the same. -/
module

public import proofs.«01_k».proof.Proof.LruAlongIdeal
public import proofs.«01_k».proof.Proof.LruBlocksIdeal
public import proofs.«01_k».proof.Proof.LruLoopIdeal
public import proofs.«01_k».proof.Proof.LruScalars

@[expose] public section

set_option maxRecDepth 16384

noncomputable section

namespace Cert.KernelIdeal.Lru

open Cert.KernelIdeal Cert.KernelIdeal.Gen Idealize.ShloMosaic Idealize.ShloMosaic.TcCoe Idealize.SL.Sem
open Cert.ReferenceIdeal.Lru (padOf xOf gateOf softOf logOf inOf chain chain_succ mul)

variable (m : (ℓ : Loc nD τ sig) → Buf (Elt Ideal) ℓ)

/-- The place in the sequence of row `r` of point `t`'s block. -/
def place (t : Fin cfg0.N) (r : Fin 256) : Fin 8192 := ⟨t.val % 32 * 256 + r.val, by omega⟩

/-- The convolution's buffer holds the sequence's rows, nothing outside it. -/
theorem padded_eq (c : Dev nD) (t : Fin cfg0.N) (k : Fin 288) (h1 : 14 ≤ k.val) (h2 : k.val < 273) (n : Fin 2048) :
    padded (grid0.coords t) (iblk m c 0 t) (iblk m c 1 t) (iblk m c 2 t) k n
      = padOf (m ((c.tc : Thread nD τ).loc main_arg0)) (batch t) (t.val % 32 * 256 + k.val - 14) n := by
  unfold padded padOf
  rw [coord1]
  by_cases ha : k.val < 16
  · rw [dif_pos ha]
    by_cases hz : 0 < t.val % 32
    · rw [if_pos hz, dif_pos (by omega)]
      exact blk1 m c t hz ⟨k.val, ha⟩ n
    · rw [if_neg hz, dif_neg (by omega)]
  · rw [dif_neg ha]
    by_cases hb : k.val < 272
    · rw [dif_pos hb, dif_pos (by omega)]
      refine (blk0 m c t ⟨k.val - 16, by omega⟩ n).trans ?_
      congr 2
      apply Fin.ext
      show t.val % 32 * 256 + (k.val - 16) = t.val % 32 * 256 + k.val - 14 - 2
      omega
    · rw [dif_neg hb]
      by_cases hz : t.val % 32 < 31
      · rw [if_pos hz, dif_pos (by omega)]
        refine (blk2 m c t hz ⟨k.val - 272, by omega⟩ n).trans ?_
        congr 2
        apply Fin.ext
        show t.val % 32 * 256 + 256 + (k.val - 272) = t.val % 32 * 256 + k.val - 14 - 2
        omega
      · rw [if_neg hz, dif_neg (by omega)]

/-- The arguments' names. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)

/-- Four products after a fifth term, and before it, in the other order of the factors. -/
theorem sum_four (b p0 p1 p2 p3 w0 w1 w2 w3 : EReal) :
    b + w0 * p0 + w1 * p1 + w2 * p2 + w3 * p3 = p0 * w0 + p1 * w1 + p2 * w2 + p3 * w3 + b := by
  rw [mul_comm w0, mul_comm w1, mul_comm w2, mul_comm w3, add_comm _ b]
  simp only [add_assoc]

/-- The point's convolution is the sequence's. -/
theorem conv_at (c : Dev nD) (t : Fin cfg0.N) (r : Fin 256) (n : Fin 2048) :
    (conv (grid0.coords t) (iblk m c 0 t) (iblk m c 1 t) (iblk m c 2 t) (iblk m c 3 t) (iblk m c 4 t) (ix2 r n) : EReal)
      = xOf (a0 m c) (a1 m c) (a2 m c) (batch t) (place t r) n := by
  have p : ∀ (j : ℕ) (hj : j < 4) (hk : r.val + (14 + j) < 288), padded (grid0.coords t) (iblk m c 0 t) (iblk m c 1 t) (iblk m c 2 t) ⟨r.val + (14 + j), hk⟩ n
      = padOf (a0 m c) (batch t) (j + (place t r).val) n := fun j hj hk => by
    rw [padded_eq m c t _ (by show 14 ≤ r.val + (14 + j); omega) (by show r.val + (14 + j) < 273; omega) n]
    congr 1
    show t.val % 32 * 256 + (r.val + (14 + j)) - 14 = j + (t.val % 32 * 256 + r.val)
    omega
  have q0 := p 0 (by omega) (by omega)
  have q1 := p 1 (by omega) (by omega)
  have q2 := p 2 (by omega) (by omega)
  have q3 := p 3 (by omega) (by omega)
  rw [Nat.zero_add] at q0
  unfold conv xOf
  rw [← q0, ← q1, ← q2, ← q3]
  refine Eq.trans ?_ (sum_four _ _ _ _ _ _ _ _ _)
  refine congrArg₂ (fun a b : EReal => a + b) (congrArg₂ (fun a b : EReal => a + b) (congrArg₂ (fun a b : EReal => a + b) (congrArg₂ (fun a b : EReal => a + b) (blk4 m c t n) ?_) ?_) ?_) ?_
  · exact congrArg (fun a : EReal => a * _) (blk3 m c t 0 n)
  · exact congrArg (fun a : EReal => a * _) (blk3 m c t 1 n)
  · exact congrArg (fun a : EReal => a * _) (blk3 m c t 2 n)
  · exact congrArg (fun a : EReal => a * _) (blk3 m c t 3 n)

/-- A gate of a point is the sequence's gate, given its weights and its bias. -/
theorem gate_at (c : Dev nD) (t : Fin cfg0.N) (r : Fin 256) (n : Fin 2048) (w : Vec Ideal S1x1x256x256 .bf16) (bw : Vec Ideal S1x1x2048 .f32)
    (W : Vec Ideal Cert.ReferenceIdeal.S1x2x8x256x256 .f32) (B : Vec Ideal Cert.ReferenceIdeal.S1x2x2048 .f32)
    (hw : ∀ k q : Fin 256, (w (ix4 (0 : Fin 1) (0 : Fin 1) k q) : EReal) = W (ix5 (0 : Fin 1) (0 : Fin 2) (headOf n) k q))
    (hb : (bw (ix3 (0 : Fin 1) (0 : Fin 1) n) : EReal) = B (ix3 (0 : Fin 1) (0 : Fin 2) n)) :
    gate (conv (grid0.coords t) (iblk m c 0 t) (iblk m c 1 t) (iblk m c 2 t) (iblk m c 3 t) (iblk m c 4 t)) w bw (headOf n) r (placeOf n)
      = gateOf (xOf (a0 m c) (a1 m c) (a2 m c)) W B (batch t) (place t r) n := by
  unfold gate gateOf
  rw [zero_sub, col_of, hb]
  congr 5
  refine Finset.sum_congr rfl fun k _ => ?_
  rw [conv_at, hw, mul_comm]
  have e : col (headOf n) k = (⟨n.val / 256 * 256 + k.val, by omega⟩ : Fin 2048) := Fin.ext (by show 256 * (n.val / 256) + k.val = n.val / 256 * 256 + k.val; omega)
  rw [e]
  rfl

/-- The rate of a column. -/
theorem rate_at (c : Dev nD) (t : Fin cfg0.N) (n : Fin 2048) :
    (k0_pay14 (F := Ideal) (k0_pay13 (iblk m c 9 t)) (ix2 (0 : Fin 1) n) : EReal)
      = mul (FloatOps.ofBits (F := Ideal) FTy.f32 0xC1000000#32) (softOf (Neg.neg (α := EReal) (a7 m c (ix3 (0 : Fin 1) (0 : Fin 2) n)))) := by
  rw [show a7 m c (ix3 (0 : Fin 1) (0 : Fin 2) n) = _ from (blk9 m c t n).symm]
  unfold softOf
  pointwise [k0_pay14, k0_pay13]
  simp only [zero_sub]
  rfl

/-- The decays. -/
theorem decay_at (c : Dev nD) (t : Fin cfg0.N) (r : Fin 256) (n : Fin 2048) :
    (decaysAt m c t (ix2 r n) : EReal) = Ideal.exp (logOf (a0 m c) (a1 m c) (a2 m c) (a3 m c) (a4 m c) (a7 m c) (batch t) (place t r) n) := by
  unfold decaysAt decayTab
  show decay _ _ _ _ (headOf n) r (placeOf n) = _
  unfold decay
  rw [gate_at m c t r n _ _ (a3 m c) (a4 m c) (fun k q => blk5 m c t (headOf n) k q) (blk6 m c t n), col_of, rate_at]
  unfold logOf
  congr 1
  exact mul_right_comm _ _ _

/-- The inputs. -/
theorem input_at (c : Dev nD) (t : Fin cfg0.N) (r : Fin 256) (n : Fin 2048) :
    (inputsAt m c t (ix2 r n) : EReal) = inOf (a0 m c) (a1 m c) (a2 m c) (a3 m c) (a4 m c) (a5 m c) (a6 m c) (a7 m c) (batch t) (place t r) n := by
  have d := decay_at m c t r n
  unfold decaysAt decayTab at d
  unfold inputsAt inputTab
  show input _ _ _ _ _ _ (headOf n) r (placeOf n) = _
  unfold input inOf
  rw [gate_at m c t r n _ _ (a5 m c) (a6 m c) (fun k q => blk7 m c t (headOf n) k q) (blk8 m c t n), col_of, conv_at]
  refine congrArg₂ (fun a b : EReal => a * b) (congrArg Ideal.sqrt ?_) rfl
  refine (congrArg (fun a : EReal => 1 - a * a) d).trans ?_
  rw [Cert.LruScalars.two]
  exact Cert.LruScalars.one_sub_exp_sq _

/-- Over a batch the call's state goes as the reference's. -/
theorem hist_chain (c : Dev nD) (b : Fin 2) (n : Fin 2048) (s : ℕ) (hs : s < 8192) :
    hist m c n (8192 * b.val + s + 1)
      = chain (fun s => Ideal.exp (logOf (a0 m c) (a1 m c) (a2 m c) (a3 m c) (a4 m c) (a7 m c) b s n)) (fun s => inOf (a0 m c) (a1 m c) (a2 m c) (a3 m c) (a4 m c) (a5 m c) (a6 m c) (a7 m c) b s n) (s + 1) := by
  have hN : 8192 * b.val + s < 16384 := by omega
  have eb : batch ⟨(8192 * b.val + s) / 256, point_lt hN⟩ = b := Fin.ext (by show (8192 * b.val + s) / 256 / 32 = b.val; omega)
  have es : place ⟨(8192 * b.val + s) / 256, point_lt hN⟩ (⟨(8192 * b.val + s) % 256, by omega⟩ : Fin 256) = ⟨s, hs⟩ := Fin.ext (by
    show (8192 * b.val + s) / 256 % 32 * 256 + (8192 * b.val + s) % 256 = s; omega)
  show rowDecay m c n (8192 * b.val + s) * (if (8192 * b.val + s) % 8192 = 0 then 0 else hist m c n (8192 * b.val + s)) + rowInput m c n (8192 * b.val + s) = _
  rw [chain_succ _ _ ⟨s, hs⟩]
  unfold rowDecay rowInput
  rw [dif_pos hN, dif_pos hN, decay_at, input_at, eb, es]
  refine congrArg₂ (fun a b : EReal => a + b) (congrArg₂ (fun a b : EReal => a * b) rfl ?_) rfl
  cases s with
  | zero => rw [if_pos (by omega)]; rfl
  | succ s =>
    rw [if_neg (by omega)]
    exact hist_chain c b n s (by omega)

/-- The call's array is the reference's, of the same arguments. -/
theorem arr_result (c : Dev nD) : (dats m 0 c).arrAt 10 cfg0.N
    = Cert.ReferenceIdeal.Lru.result (a0 m c) (a1 m c) (a2 m c) (a3 m c) (a4 m c) (a5 m c) (a6 m c) (a7 m c) := by
  rw [arr]
  funext y
  exact hist_chain m c (y 0) (y 2) (y 1).val (y 1).isLt

end Cert.KernelIdeal.Lru

end
-- ==== Proof.Lru.lean ====
/- The claims about the recurrence's call (`kernel`): frames of the three programs, and the equality of the arrays. -/
module

public import proofs.«01_k».proof.Proof.LruFrame
public import proofs.«01_k».proof.Proof.LruMatchIdeal
public import proofs.«01_k».proof.Defs
public import Idealize.ShloMosaic.Lib.Claim

@[expose] public section

noncomputable section

namespace Cert.Lru

open Idealize.ShloMosaic Idealize.ShloMosaic.TcCoe Idealize.SL.Sem

/-- The kernel runs, leaves its arguments as they were, and every counter ends at zero. -/
theorem frame_k : Cert.quiescent_Kernel := fun m ρ _ => Cert.Kernel.Lru.quiet m ρ

/-- The idealized kernel runs, leaves its arguments as they were, and every counter ends at zero. -/
theorem frame_ki : Cert.quiescent_KernelIdeal := fun m ρ _ => Cert.KernelIdeal.Lru.quiet m ρ

/-- The reference runs, leaves its arguments as they were, and every counter ends at zero. -/
theorem frame_r : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

open Cert.KernelIdeal Cert.KernelIdeal.Lru in
/-- From memories agreeing on the arguments, the kernel and the reference both run and end with equal results. -/
theorem algebraic : Cert.algebraic_KernelIdeal_ReferenceIdeal := fun m ρ m' ρ' _ hag =>
  ⟨fun c => Cert.ReferenceIdeal.Lru.result (a0 m c) (a1 m c) (a2 m c) (a3 m c) (a4 m c) (a5 m c) (a6 m c) (a7 m c),
    (θ_run _ _ _).mono (fun _ h c => ⟨(h c).1.trans (arr_result m c), (h c).2⟩) (Cert.KernelIdeal.Lru.run_blocks (F := Ideal) m ρ),
    (θ_run _ _ _).mono (fun _ h c => ⟨(h c).1.trans ((Cert.ReferenceIdeal.Lru.out_eq m' c).trans (by
      rw [(hag c).1, (hag c).2.1, (hag c).2.2.1, (hag c).2.2.2.1, (hag c).2.2.2.2.1, (hag c).2.2.2.2.2.1, (hag c).2.2.2.2.2.2.1, (hag c).2.2.2.2.2.2.2])), (h c).2⟩)
      (Cert.ReferenceIdeal.Value.run (F := Ideal) m' ρ')⟩

end Cert.Lru

end
-- ==== Proof.InProj.lean ====
/- The values of the even layers' input projection (`kernel2`): what every block of the product holds, and the whole array. -/
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import proofs.«01_k».proof.Defs
public import Idealize.ShloMosaic.Lib.Claim

@[expose] public section

set_option maxRecDepth 16384

noncomputable section

namespace Cert.InProj

open Cert.Kernel2Ideal Cert.Kernel2Ideal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Where each window's block stands at point `t`, decided over the grid: the rows move with `t / 14`, the columns with `t % 14`. -/
theorem idx : ∀ t : Fin cfg0.N, win0_0.index t = ![t.val / 14, 0] ∧ win0_1.index t = ![0, t.val % 14] ∧ win0_2.index t = ![t.val / 14, t.val % 14] :=
  (by decide +kernel : ∀ t : Fin grid0.N, _)

/-- The product the reference states, as a function of the two argument arrays. -/
abbrev G (c : Dev nD) : S16384x14336.Idx → Elt Ideal .bf16 :=
  Cert.Reference2Ideal.Read.val_main_v3 (F := Ideal) (m ((c.tc : Thread nD τ).loc main_arg0)) (m ((c.tc : Thread nD τ).loc main_arg1))

/-- The array the run leaves is the product, index by index. -/
theorem arr (c : Dev nD) : (dats m 0 c).arrAt 2 cfg0.N = G m c := by
  refine (dats m 0 c).arrAt_eq_of_covers 2 _ (by decide +kernel) fun t hf y => ?_
  obtain ⟨e0, e1, e2⟩ := idx t
  blk_simp
  rw [after0_2]
  frame_out
  pointwise [k0_pay1]
  show _ = Cert.Reference2Ideal.Read.val_main_v2 (F := Ideal) _ _ _
  rw [Cert.Reference2Ideal.Read.val_main_v2_apply]
  refine Finset.sum_congr rfl fun k _ => ?_
  rw [Cert.Reference2Ideal.Read.val_main_v1_apply]
  refine congrArg₂ (fun a b : EReal => a * b) ?_ ?_
  · rw [Cert.Reference2Ideal.Read.val_main_v0_apply]
    blk_ext [iblk, V, e0, e2]
  · show V m c main_v1 _ = _
    entry_read
    pointwise
    blk_ext [iblk, V, e1, e2]

/-- The reference runs, leaves its arguments as they were, and every counter ends at zero. -/
theorem frame_r : Cert.quiescent_Reference2Ideal := fun m ρ _ =>
  (θ_run _ _ _).mono (fun r h => ⟨fun c => (h c).2, sem_eq_zero_of_no_sems (by decide) r.2⟩)
    (Cert.Reference2Ideal.Value.run (F := Ideal) m ρ)

/-- From memories agreeing on the arguments, the kernel and the reference both run and end with equal results. -/
theorem algebraic : Cert.algebraic_Kernel2Ideal_Reference2Ideal := fun m ρ m' ρ' _ hag =>
  ⟨fun c => G m c,
    (θ_run _ _ _).mono (fun _ h c => ⟨(h c).1.trans (arr m c), (h c).2⟩) (Cert.Kernel2Ideal.Value.run_blocks (F := Ideal) m ρ),
    (θ_run _ _ _).mono (fun _ h c => ⟨(h c).1.trans (by
      rw [Cert.Reference2Ideal.Read.val_main_v3_eq]
      show _ = G m c
      unfold G
      rw [← (hag c).1, ← (hag c).2]), (h c).2⟩)
      (Cert.Reference2Ideal.Value.run (F := Ideal) m' ρ')⟩

end Cert.InProj

end
-- ==== Proof.Scalars.lean ====
/- Facts about the functions on the extended reals that the programs' sigmoids and quotients need. -/
module

public import Idealize.ShloMosaic.Lib.IdealHost
public import Idealize.ShloMosaic.Lib.Pipeline.ValueKit

@[expose] public section

noncomputable section

namespace Cert.Scalars

open Idealize.ShloMosaic

/-- The exponential is never negative. -/
theorem exp_nonneg (x : EReal) : 0 ≤ Ideal.exp x := by
  induction x with
  | bot => simp
  | top => simp
  | coe r => rw [Ideal.exp_coe]; exact EReal.coe_nonneg.mpr (Real.exp_pos r).le

/-- One plus an exponential is not zero. -/
theorem one_add_exp_ne_zero (x : EReal) : 1 + Ideal.exp x ≠ 0 := by
  intro e
  have h : (1 : EReal) ≤ 1 + Ideal.exp x := le_add_of_nonneg_right (exp_nonneg x)
  rw [e] at h
  exact absurd h (by simp)

/-- A quotient by one plus an exponential is the product with its reciprocal: the two ways of writing `x` times a sigmoid. -/
theorem div_one_add_exp (x y : EReal) : Ideal.div x (1 + Ideal.exp (0 - y)) = x * Ideal.div 1 (1 + Ideal.exp (-y)) := by
  rw [zero_sub, Ideal.mul_one_div (one_add_exp_ne_zero _)]

end Cert.Scalars

end
-- ==== Proof.GluUp.lean ====
/- The values of the gated unit's first half (`kernel3`): `silu (h W_gate) * (h W_up)`, block by block and as a whole array. -/
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import proofs.«01_k».proof.Proof.Scalars
public import proofs.«01_k».proof.Defs
public import Idealize.ShloMosaic.Lib.Claim

@[expose] public section

set_option maxRecDepth 16384

noncomputable section

namespace Cert.GluUp

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- Where each window's block stands at point `t`, decided over the grid: the rows move with `t / 16`, the columns with `t % 16`. -/
theorem idx : ∀ t : Fin cfg0.N, win0_0.index t = ![t.val / 16, 0] ∧ win0_1.index t = ![0, 0, t.val % 16] ∧ win0_2.index t = ![0, 0, t.val % 16]
    ∧ win0_3.index t = ![t.val / 16, t.val % 16] :=
  (by decide +kernel : ∀ t : Fin grid0.N, _)

/-- What the reference states, as a function of the three argument arrays. -/
abbrev G (c : Dev nD) : S16384x8192.Idx → Elt Ideal .bf16 :=
  Cert.Reference3Ideal.Read.val_main_v7 (F := Ideal) (m ((c.tc : Thread nD τ).loc main_arg0)) (m ((c.tc : Thread nD τ).loc main_arg1)) (m ((c.tc : Thread nD τ).loc main_arg2))

/-- The block product with the gate's weights is the reference's first product at the block's place. -/
theorem gate_sum (c : Dev nD) (t : Fin cfg0.N) (y : S1024x512.Idx) :
    (∑ k : Fin 4096, HMul.hMul (α := EReal) (β := EReal) (γ := EReal) (iblk m c 0 t (ix2 (y 0) k)) (iblk m c 1 t (ix3 0 k (y 1))))
      = Cert.Reference3Ideal.Read.val_main_v2 (F := Ideal) (m ((c.tc : Thread nD τ).loc main_arg0)) (m ((c.tc : Thread nD τ).loc main_arg1))
          (((cfg0.win 3).blk t).view.emb y) := by
  obtain ⟨e0, e1, e2, e3⟩ := idx t
  rw [Cert.Reference3Ideal.Read.val_main_v2_apply]
  refine Finset.sum_congr rfl fun k _ => ?_
  rw [Cert.Reference3Ideal.Read.val_main_v1_apply]
  refine congrArg₂ (fun a b : EReal => a * b) ?_ ?_
  · rw [Cert.Reference3Ideal.Read.val_main_v0_apply]
    blk_ext [iblk, V, e0, e3]
  · show V m c main_v0 _ = _
    entry_read
    pointwise
    blk_ext [iblk, V, e1, e3]

/-- The block product with the second weights is the reference's second product at the block's place. -/
theorem up_sum (c : Dev nD) (t : Fin cfg0.N) (y : S1024x512.Idx) :
    (∑ k : Fin 4096, HMul.hMul (α := EReal) (β := EReal) (γ := EReal) (iblk m c 0 t (ix2 (y 0) k)) (iblk m c 2 t (ix3 0 k (y 1))))
      = Cert.Reference3Ideal.Read.val_main_v4 (F := Ideal) (m ((c.tc : Thread nD τ).loc main_arg0)) (m ((c.tc : Thread nD τ).loc main_arg2))
          (((cfg0.win 3).blk t).view.emb y) := by
  obtain ⟨e0, e1, e2, e3⟩ := idx t
  rw [Cert.Reference3Ideal.Read.val_main_v4_apply]
  refine Finset.sum_congr rfl fun k _ => ?_
  rw [Cert.Reference3Ideal.Read.val_main_v3_apply]
  refine congrArg₂ (fun a b : EReal => a * b) ?_ ?_
  · rw [Cert.Reference3Ideal.Read.val_main_v0_apply]
    blk_ext [iblk, V, e0, e3]
  · show V m c main_v1 _ = _
    entry_read
    pointwise
    blk_ext [iblk, V, e2, e3]

/-- The array the run leaves is what the reference states, index by index. -/
theorem arr (c : Dev nD) : (dats m 0 c).arrAt 3 cfg0.N = G m c := by
  refine (dats m 0 c).arrAt_eq_of_covers 3 _ (by decide +kernel) fun t hf y => ?_
  obtain ⟨e0, e1, e2, e3⟩ := idx t
  blk_simp
  rw [after0_3]
  frame_out
  pointwise [k0_pay1]
  rw [gate_sum m c t y, up_sum m c t y, Scalars.div_one_add_exp]
  refine (congrArg (fun a => _ * Ideal.div a (a + _) * _) Ideal.ofBits_one_f32.symm).trans ?_
  rfl

/-- The reference runs, leaves its arguments as they were, and every counter ends at zero. -/
theorem frame_r : Cert.quiescent_Reference3Ideal := fun m ρ _ =>
  (θ_run _ _ _).mono (fun r h => ⟨fun c => (h c).2, sem_eq_zero_of_no_sems (by decide) r.2⟩)
    (Cert.Reference3Ideal.Value.run (F := Ideal) m ρ)

/-- From memories agreeing on the arguments, the kernel and the reference both run and end with equal results. -/
theorem algebraic : Cert.algebraic_Kernel3Ideal_Reference3Ideal := fun m ρ m' ρ' _ hag =>
  ⟨fun c => G m c,
    (θ_run _ _ _).mono (fun _ h c => ⟨(h c).1.trans (arr m c), (h c).2⟩) (Cert.Kernel3Ideal.Value.run_blocks (F := Ideal) m ρ),
    (θ_run _ _ _).mono (fun _ h c => ⟨(h c).1.trans (by
      rw [Cert.Reference3Ideal.Read.val_main_v7_eq]
      show _ = G m c
      unfold G
      rw [← (hag c).1, ← (hag c).2.1, ← (hag c).2.2]), (h c).2⟩)
      (Cert.Reference3Ideal.Value.run (F := Ideal) m' ρ')⟩

end Cert.GluUp

end
-- ==== Proof.FfnDown.lean ====
/- The values of the gated unit's second half (`kernel4`): the residual stream plus the gated product with the down weights,
   block by block and as a whole array. -/
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ReadBack
public import proofs.«01_k».proof.Defs
public import Idealize.ShloMosaic.Lib.Claim

@[expose] public section

set_option maxRecDepth 16384

noncomputable section

namespace Cert.FfnDown

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- Where each window's block stands at point `t`, decided over the grid: the rows move with `t / 16`, the columns with
    `t / 4 % 4`, the stretch of the contracted axis with `t % 4`; the gate's row is the batch `t / 128`. -/
theorem idx : ∀ t : Fin cfg0.N, win0_0.index t = ![t.val / 16, t.val % 4] ∧ win0_1.index t = ![t.val % 4, t.val / 4 % 4]
    ∧ win0_2.index t = ![t.val / 16, t.val / 4 % 4] ∧ win0_3.index t = ![t.val / 128, 0, t.val / 4 % 4]
    ∧ win0_4.index t = ![t.val / 16, t.val / 4 % 4] :=
  (by decide +kernel : ∀ t : Fin grid0.N, _)

/-- What the reference states, as a function of the four argument arrays. -/
abbrev G (c : Dev nD) : S16384x4096.Idx → Elt Ideal .f32 :=
  Cert.Reference4Ideal.Read.val_main_v8 (F := Ideal) (m ((c.tc : Thread nD τ).loc main_arg0)) (m ((c.tc : Thread nD τ).loc main_arg1))
    (m ((c.tc : Thread nD τ).loc main_arg2)) (m ((c.tc : Thread nD τ).loc main_arg3))

/-- The product of the blocks point `t` reads, one stretch of 2048 of the contracted axis. -/
def term (c : Dev nD) (t : Fin cfg0.N) (y : S1024x1024.Idx) : EReal :=
  ∑ k : Fin 2048, HMul.hMul (α := EReal) (β := EReal) (γ := EReal) (iblk m c 0 t (ix2 (y 0) k)) (iblk m c 1 t (ix2 k (y 1)))

/-- The first point of a block stores the product of its stretch. -/
theorem acc_first (c : Dev nD) (t : Fin cfg0.N) (h : t.val % 4 = 0) (y : S1024x1024.Idx) :
    (outsAt0 m c t.val t.isLt).2 y = 0 + term m c t y := by
  rw [outsAt0_A m c t h (by omega) (by omega)]
  frame_out
  pointwise [k0_pay1]
  rfl

/-- Every later point adds the product of its stretch to what the point before left. -/
theorem acc_next (c : Dev nD) (t : Fin cfg0.N) (h : ¬t.val % 4 = 0) (y : S1024x1024.Idx) :
    (outsAt0 m c t.val t.isLt).2 y
      = (outsAt0 m c (t.val - 1) (Nat.lt_of_le_of_lt (Nat.sub_le _ _) t.isLt)).2 y + term m c t y := by
  by_cases h3 : t.val % 4 = 3
  · rw [outsAt0_C m c t h (by omega) h3]
    frame_out
    simp only [read_unread_whole]
    pointwise [k0_pay2]
    rfl
  · rw [outsAt0_B m c t h (by omega) h3]
    frame_out
    simp only [read_unread_whole]
    pointwise [k0_pay2]
    rfl

/-- At a block's last point the accumulator holds the four products' sum. -/
theorem acc_last (c : Dev nD) (t : Fin cfg0.N) (h : t.val % 4 = 3) (y : S1024x1024.Idx) :
    (outsAt0 m c t.val t.isLt).2 y
      = 0 + ∑ s : Fin 4, term m c ⟨4 * (t.val / 4) + s.val, Pipeline.run_point_lt_of_flush t h s⟩ y :=
  Pipeline.eq_sum_fin_of_reset_step_apply_of_flush (fun n hn => (outsAt0 m c n hn).2) 4 (fun _ => (0 : EReal)) (term m c)
    (acc_first m c) (acc_next m c) t h y

/-- The four products' sum is the reference's product at the block's place. -/
theorem term_sum (c : Dev nD) (t : Fin cfg0.N) (h : t.val % 4 = 3) (y : S1024x1024.Idx) :
    (∑ s : Fin 4, term m c ⟨4 * (t.val / 4) + s.val, Pipeline.run_point_lt_of_flush t h s⟩ y)
      = Cert.Reference4Ideal.Read.val_main_v2 (F := Ideal) (m ((c.tc : Thread nD τ).loc main_arg0)) (m ((c.tc : Thread nD τ).loc main_arg1))
          (((cfg0.win 4).blk t).view.emb y) := by
  rw [Cert.Reference4Ideal.Read.val_main_v2_apply]
  unfold term
  refine Fin.sum_mul_add_congr fun s k hl => ?_
  have ht := t.isLt
  obtain ⟨e0, e1, -, -, -⟩ := idx ⟨4 * (t.val / 4) + s.val, Pipeline.run_point_lt_of_flush t h s⟩
  obtain ⟨-, -, -, -, e4⟩ := idx t
  have hs := s.isLt
  have q0 : (4 * (t.val / 4) + s.val) / 16 = t.val / 16 := by omega
  have q1 : (4 * (t.val / 4) + s.val) % 4 = s.val := by omega
  have q2 : (4 * (t.val / 4) + s.val) / 4 % 4 = t.val / 4 % 4 := by omega
  rw [q0, q1] at e0
  rw [q1, q2] at e1
  refine congrArg₂ (fun a b : EReal => a * b) ?_ ?_
  · rw [Cert.Reference4Ideal.Read.val_main_v0_apply]
    blk_ext [iblk, V, e0, e4]
  · rw [Cert.Reference4Ideal.Read.val_main_v1_apply]
    show V m c main_v1 _ = _
    entry_read
    pointwise
    blk_ext [iblk, V, e1, e4]
    have hr : t.val / 4 % 4 * 1024 + (y 1).val < 4096 := by omega
    generalize t.val / 4 % 4 * 1024 + (y 1).val = r at hr
    omega

/-- The array the run leaves is what the reference states, index by index. -/
theorem arr (c : Dev nD) : (dats m 0 c).arrAt 4 cfg0.N = G m c := by
  refine (dats m 0 c).arrAt_eq_of_covers 4 _ (by decide +kernel) fun t hf y => ?_
  have h3 : t.val % 4 = 3 := (flush0_4 t).mp hf
  obtain ⟨-, -, e2, e3, e4⟩ := idx t
  have hacc := acc_last m c t h3 y
  rw [zero_add, term_sum m c t h3 y] at hacc
  blk_simp
  rw [after0_4]
  rw [outsAt0_C m c t (by omega) (by omega) h3] at hacc ⊢
  frame_out
  frame_out at hacc
  pointwise [k0_pay3]
  rw [hacc]
  unfold G
  rw [Cert.Reference4Ideal.Read.val_main_v8_apply, Cert.Reference4Ideal.Read.val_main_v7_apply,
    Cert.Reference4Ideal.Read.val_main_v6_apply, Cert.Reference4Ideal.Read.val_main_v3_apply,
    Cert.Reference4Ideal.Read.val_main_v4_apply, Cert.Reference4Ideal.Read.val_main_v5_apply]
  refine congrArg₂ (fun a b : EReal => a + b) ?_ (congrArg₂ (fun a b : EReal => a * b) ?_ ?_)
  · blk_ext [iblk, V, e2, e4]
  · blk_ext [iblk, V, e3, e4]
  · refine congrArg (Cert.Reference4Ideal.Read.val_main_v2 (F := Ideal) _ _) ?_
    blk_ext [e4]

/-- The reference runs, leaves its arguments as they were, and every counter ends at zero. -/
theorem frame_r : Cert.quiescent_Reference4Ideal := fun m ρ _ =>
  (θ_run _ _ _).mono (fun r h => ⟨fun c => (h c).2, sem_eq_zero_of_no_sems (by decide) r.2⟩)
    (Cert.Reference4Ideal.Value.run (F := Ideal) m ρ)

/-- From memories agreeing on the arguments, the kernel and the reference both run and end with equal results. -/
theorem algebraic : Cert.algebraic_Kernel4Ideal_Reference4Ideal := fun m ρ m' ρ' _ hag =>
  ⟨fun c => G m c,
    (θ_run _ _ _).mono (fun _ h c => ⟨(h c).1.trans (arr m c), (h c).2⟩) (Cert.Kernel4Ideal.Value.run_blocks (F := Ideal) m ρ),
    (θ_run _ _ _).mono (fun _ h c => ⟨(h c).1.trans (by
      rw [Cert.Reference4Ideal.Read.val_main_v8_eq]
      show _ = G m c
      unfold G
      rw [← (hag c).1, ← (hag c).2.1, ← (hag c).2.2.1, ← (hag c).2.2.2]), (h c).2⟩)
      (Cert.Reference4Ideal.Value.run (F := Ideal) m' ρ')⟩

end Cert.FfnDown

end
-- ==== Proof.OutProj.lean ====
/- The values of the even layers' output projection (`kernel5`): the residual stream plus the gated product of the two mixers'
   outputs, side by side, with the projection's weights, block by block and as a whole array. -/
module

public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pipeline.ReadBack
public import proofs.«01_k».proof.Defs
public import Idealize.ShloMosaic.Lib.Claim

@[expose] public section

set_option maxRecDepth 16384

noncomputable section

namespace Cert.OutProj

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- Where each window's block stands at point `t`, decided over the grid: the rows move with `t / 12`, the columns with
    `t / 3 % 4`, the stretch of the contracted axis with `t % 3`: the first stretch is the first operand, the other two are the
    second operand's; the gate's row is the batch `t / 96`. -/
theorem idx : ∀ t : Fin cfg0.N, win0_0.index t = ![t.val / 12, 0] ∧ win0_1.index t = ![t.val / 12, t.val % 3 - 1]
    ∧ win0_2.index t = ![t.val % 3, t.val / 3 % 4] ∧ win0_3.index t = ![t.val / 12, t.val / 3 % 4]
    ∧ win0_4.index t = ![t.val / 96, 0, t.val / 3 % 4] ∧ win0_5.index t = ![t.val / 12, t.val / 3 % 4] :=
  (by decide +kernel : ∀ t : Fin grid0.N, _)

/-- What the reference states, as a function of the five argument arrays. -/
abbrev G (c : Dev nD) : S16384x4096.Idx → Elt Ideal .f32 :=
  Cert.Reference5Ideal.Read.val_main_v10 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- The product of the blocks point `t` reads, one stretch of 2048 of the contracted axis. -/
def term (c : Dev nD) (t : Fin cfg0.N) (y : S1024x1024.Idx) : EReal :=
  if t.val % 3 = 0 then
    ∑ k : Fin 2048, HMul.hMul (α := EReal) (β := EReal) (γ := EReal) (iblk m c 0 t (ix2 (y 0) k)) (iblk m c 2 t (ix2 k (y 1)))
  else
    ∑ k : Fin 2048, HMul.hMul (α := EReal) (β := EReal) (γ := EReal) (iblk m c 1 t (ix2 (y 0) k)) (iblk m c 2 t (ix2 k (y 1)))

/-- The first point of a block stores the product of its stretch. -/
theorem acc_first (c : Dev nD) (t : Fin cfg0.N) (h : t.val % 3 = 0) (y : S1024x1024.Idx) :
    (outsAt0 m c t.val t.isLt).2 y = 0 + term m c t y := by
  rw [outsAt0_A m c t h (by omega) (by omega), zero_add]
  unfold term
  rw [if_pos h]
  frame_out
  pointwise [k0_pay1]

/-- Every later point adds the product of its stretch to what the point before left. -/
theorem acc_next (c : Dev nD) (t : Fin cfg0.N) (h : ¬t.val % 3 = 0) (y : S1024x1024.Idx) :
    (outsAt0 m c t.val t.isLt).2 y
      = (outsAt0 m c (t.val - 1) (Nat.lt_of_le_of_lt (Nat.sub_le _ _) t.isLt)).2 y + term m c t y := by
  unfold term
  rw [if_neg h]
  by_cases h3 : t.val % 3 = 2
  · rw [outsAt0_C m c t h (by omega) h3]
    frame_out
    simp only [read_unread_whole]
    pointwise [k0_pay2]
  · rw [outsAt0_B m c t h (by omega) h3]
    frame_out
    simp only [read_unread_whole]
    pointwise [k0_pay2]

/-- At a block's last point the accumulator holds the three products' sum. -/
theorem acc_last (c : Dev nD) (t : Fin cfg0.N) (h : t.val % 3 = 2) (y : S1024x1024.Idx) :
    (outsAt0 m c t.val t.isLt).2 y
      = 0 + ∑ s : Fin 3, term m c ⟨3 * (t.val / 3) + s.val, Pipeline.run_point_lt_of_flush t h s⟩ y :=
  Pipeline.eq_sum_fin_of_reset_step_apply_of_flush (fun n hn => (outsAt0 m c n hn).2) 3 (fun _ => (0 : EReal)) (term m c)
    (acc_first m c) (acc_next m c) t h y

/-- The first operand's block, read inside the concatenated operand. -/
theorem left_fst (c : Dev nD) (t u : Fin cfg0.N) (hu : u.val / 12 = t.val / 12) (h0 : u.val % 3 = 0) (y : S1024x1024.Idx) (k : Fin 2048)
    (hl : u.val % 3 * 2048 + k.val < 6144) :
    iblk m c 0 u (ix2 (y 0) k) = Cert.Reference5Ideal.Read.val_main_v2 (F := Ideal) (m ((c.tc : Thread nD τ).loc main_arg0)) (m ((c.tc : Thread nD τ).loc main_arg1))
      (Cert.Reference5Ideal.Read.lidx_main_v4 (((cfg0.win 5).blk t).view.emb y) ⟨u.val % 3 * 2048 + k.val, hl⟩) := by
  obtain ⟨e0, -, -, -, -, -⟩ := idx u
  obtain ⟨-, -, -, -, -, e5⟩ := idx t
  rw [hu] at e0
  unfold Cert.Reference5Ideal.Read.val_main_v2
  pointwise
  rw [dif_pos (by omega), Cert.Reference5Ideal.Read.val_main_v0_apply]
  blk_ext [iblk, V, e0, e5]

/-- The second operand's block, read inside the concatenated operand. -/
theorem left_snd (c : Dev nD) (t u : Fin cfg0.N) (hu : u.val / 12 = t.val / 12) (h0 : ¬u.val % 3 = 0) (y : S1024x1024.Idx) (k : Fin 2048)
    (hl : u.val % 3 * 2048 + k.val < 6144) :
    iblk m c 1 u (ix2 (y 0) k) = Cert.Reference5Ideal.Read.val_main_v2 (F := Ideal) (m ((c.tc : Thread nD τ).loc main_arg0)) (m ((c.tc : Thread nD τ).loc main_arg1))
      (Cert.Reference5Ideal.Read.lidx_main_v4 (((cfg0.win 5).blk t).view.emb y) ⟨u.val % 3 * 2048 + k.val, hl⟩) := by
  obtain ⟨-, e1, -, -, -, -⟩ := idx u
  obtain ⟨-, -, -, -, -, e5⟩ := idx t
  rw [hu] at e1
  unfold Cert.Reference5Ideal.Read.val_main_v2
  pointwise
  rw [dif_neg (by omega), Cert.Reference5Ideal.Read.val_main_v1_apply]
  blk_ext [iblk, V, e1, e5]

/-- The weights' block, read inside the whole weights. -/
theorem right (c : Dev nD) (t u : Fin cfg0.N) (hu : u.val / 3 = t.val / 3) (y : S1024x1024.Idx) (k : Fin 2048)
    (hl : u.val % 3 * 2048 + k.val < 6144) :
    iblk m c 2 u (ix2 k (y 1)) = Cert.Reference5Ideal.Read.val_main_v3 (F := Ideal) (m ((c.tc : Thread nD τ).loc main_arg2))
      (Cert.Reference5Ideal.Read.ridx_main_v4 (((cfg0.win 5).blk t).view.emb y) ⟨u.val % 3 * 2048 + k.val, hl⟩) := by
  obtain ⟨-, -, e2, -, -, -⟩ := idx u
  obtain ⟨-, -, -, -, -, e5⟩ := idx t
  rw [hu] at e2
  rw [Cert.Reference5Ideal.Read.val_main_v3_apply]
  show V m c main_v1 _ = _
  entry_read
  pointwise
  blk_ext [iblk, V, e2, e5]
  have hr : t.val / 3 % 4 * 1024 + (y 1).val < 4096 := by omega
  generalize t.val / 3 % 4 * 1024 + (y 1).val = r at hr
  omega

/-- The three products' sum is the reference's product at the block's place. -/
theorem term_sum (c : Dev nD) (t : Fin cfg0.N) (h : t.val % 3 = 2) (y : S1024x1024.Idx) :
    (∑ s : Fin 3, term m c ⟨3 * (t.val / 3) + s.val, Pipeline.run_point_lt_of_flush t h s⟩ y)
      = Cert.Reference5Ideal.Read.val_main_v4 (F := Ideal) (m ((c.tc : Thread nD τ).loc main_arg0)) (m ((c.tc : Thread nD τ).loc main_arg1))
          (m ((c.tc : Thread nD τ).loc main_arg2)) (((cfg0.win 5).blk t).view.emb y) := by
  rw [Cert.Reference5Ideal.Read.val_main_v4_apply]
  have split : ∀ s : Fin 3, term m c ⟨3 * (t.val / 3) + s.val, Pipeline.run_point_lt_of_flush t h s⟩ y
      = ∑ k : Fin 2048, HMul.hMul (α := EReal) (β := EReal) (γ := EReal)
        (Cert.Reference5Ideal.Read.val_main_v2 (F := Ideal) (m ((c.tc : Thread nD τ).loc main_arg0)) (m ((c.tc : Thread nD τ).loc main_arg1))
          (Cert.Reference5Ideal.Read.lidx_main_v4 (((cfg0.win 5).blk t).view.emb y) ⟨s.val * 2048 + k.val, by omega⟩))
        (Cert.Reference5Ideal.Read.val_main_v3 (F := Ideal) (m ((c.tc : Thread nD τ).loc main_arg2))
          (Cert.Reference5Ideal.Read.ridx_main_v4 (((cfg0.win 5).blk t).view.emb y) ⟨s.val * 2048 + k.val, by omega⟩)) := by
    intro s
    have hs := s.isLt
    have q : s.val = (3 * (t.val / 3) + s.val) % 3 := by omega
    have qd : (3 * (t.val / 3) + s.val) / 12 = t.val / 12 := by omega
    have q3 : (3 * (t.val / 3) + s.val) / 3 = t.val / 3 := by omega
    generalize hu : (⟨3 * (t.val / 3) + s.val, Pipeline.run_point_lt_of_flush t h s⟩ : Fin cfg0.N) = u
    have hv : u.val = 3 * (t.val / 3) + s.val := by rw [← hu]
    rw [← hv] at q qd q3
    unfold term
    simp only [q]
    by_cases h0 : u.val % 3 = 0
    · rw [if_pos h0]
      exact Finset.sum_congr rfl fun k _ =>
        congrArg₂ (fun a b : EReal => a * b) (left_fst m c t u qd h0 y k _) (right m c t u q3 y k _)
    · rw [if_neg h0]
      exact Finset.sum_congr rfl fun k _ =>
        congrArg₂ (fun a b : EReal => a * b) (left_snd m c t u qd h0 y k _) (right m c t u q3 y k _)
  exact (Finset.sum_congr rfl fun s _ => split s).trans (Fin.sum_mul_add_congr fun s k hl => rfl)

/-- The array the run leaves is what the reference states, index by index. -/
theorem arr (c : Dev nD) : (dats m 0 c).arrAt 5 cfg0.N = G m c := by
  refine (dats m 0 c).arrAt_eq_of_covers 5 _ (by decide +kernel) fun t hf y => ?_
  have h3 : t.val % 3 = 2 := (flush0_5 t).mp hf
  obtain ⟨-, -, -, e3, e4, e5⟩ := idx t
  have hacc := acc_last m c t h3 y
  rw [zero_add, term_sum m c t h3 y] at hacc
  blk_simp
  rw [after0_5]
  rw [outsAt0_C m c t (by omega) (by omega) h3] at hacc ⊢
  frame_out
  frame_out at hacc
  pointwise [k0_pay3]
  rw [hacc]
  unfold G
  rw [Cert.Reference5Ideal.Read.val_main_v10_apply, Cert.Reference5Ideal.Read.val_main_v9_apply,
    Cert.Reference5Ideal.Read.val_main_v8_apply, Cert.Reference5Ideal.Read.val_main_v5_apply,
    Cert.Reference5Ideal.Read.val_main_v6_apply, Cert.Reference5Ideal.Read.val_main_v7_apply]
  refine congrArg₂ (fun a b : EReal => a + b) ?_ (congrArg₂ (fun a b : EReal => a * b) ?_ ?_)
  · blk_ext [iblk, V, e3, e5]
  · blk_ext [iblk, V, e4, e5]
  · refine congrArg (Cert.Reference5Ideal.Read.val_main_v4 (F := Ideal) _ _ _) ?_
    blk_ext [e5]

/-- The reference runs, leaves its arguments as they were, and every counter ends at zero. -/
theorem frame_r : Cert.quiescent_Reference5Ideal := fun m ρ _ =>
  (θ_run _ _ _).mono (fun r h => ⟨fun c => (h c).2, sem_eq_zero_of_no_sems (by decide) r.2⟩)
    (Cert.Reference5Ideal.Value.run (F := Ideal) m ρ)

/-- From memories agreeing on the arguments, the kernel and the reference both run and end with equal results. -/
theorem algebraic : Cert.algebraic_Kernel5Ideal_Reference5Ideal := fun m ρ m' ρ' _ hag =>
  ⟨fun c => G m c,
    (θ_run _ _ _).mono (fun _ h c => ⟨(h c).1.trans (arr m c), (h c).2⟩) (Cert.Kernel5Ideal.Value.run_blocks (F := Ideal) m ρ),
    (θ_run _ _ _).mono (fun _ h c => ⟨(h c).1.trans (by
      rw [Cert.Reference5Ideal.Read.val_main_v10_eq]
      show _ = G m c
      unfold G
      rw [← (hag c).1, ← (hag c).2.1, ← (hag c).2.2.1, ← (hag c).2.2.2.1, ← (hag c).2.2.2.2]), (h c).2⟩)
      (Cert.Reference5Ideal.Value.run (F := Ideal) m' ρ')⟩

end Cert.OutProj

end
-- ==== Proof.InProjOdd.lean ====
/- The values of the odd layers' input projection (`kernel6`): what every block of the product holds, and the whole array. -/
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import proofs.«01_k».proof.Defs
public import Idealize.ShloMosaic.Lib.Claim

@[expose] public section

set_option maxRecDepth 16384

noncomputable section

namespace Cert.InProjOdd

open Cert.Kernel6Ideal Cert.Kernel6Ideal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Where each window's block stands at point `t`, decided over the grid: the rows move with `t / 14`, the columns with `t % 14`. -/
theorem idx : ∀ t : Fin cfg0.N, win0_0.index t = ![t.val / 14, 0] ∧ win0_1.index t = ![0, t.val % 14] ∧ win0_2.index t = ![t.val / 14, t.val % 14] :=
  (by decide +kernel : ∀ t : Fin grid0.N, _)

/-- The product the reference states, as a function of the two argument arrays. -/
abbrev G (c : Dev nD) : S16384x14336.Idx → Elt Ideal .bf16 :=
  Cert.Reference6Ideal.Read.val_main_v4 (F := Ideal) (m ((c.tc : Thread nD τ).loc main_arg0)) (m ((c.tc : Thread nD τ).loc main_arg1))

/-- The array the run leaves is the product, index by index. -/
theorem arr (c : Dev nD) : (dats m 0 c).arrAt 2 cfg0.N = G m c := by
  refine (dats m 0 c).arrAt_eq_of_covers 2 _ (by decide +kernel) fun t hf y => ?_
  obtain ⟨e0, e1, e2⟩ := idx t
  blk_simp
  rw [after0_2]
  frame_out
  pointwise [k0_pay1]
  show _ = Cert.Reference6Ideal.Read.val_main_v3 (F := Ideal) _ _ _
  rw [Cert.Reference6Ideal.Read.val_main_v3_apply]
  refine Finset.sum_congr rfl fun k _ => ?_
  rw [Cert.Reference6Ideal.Read.val_main_v2_apply, Cert.Reference6Ideal.Read.val_main_v1_apply]
  refine congrArg₂ (fun a b : EReal => a * b) ?_ ?_
  · rw [Cert.Reference6Ideal.Read.val_main_v0_apply]
    blk_ext [iblk, V, e0, e2]
  · show V m c main_v2 _ = _
    entry_read
    pointwise
    blk_ext [iblk, V, e1, e2]

/-- The reference runs, leaves its arguments as they were, and every counter ends at zero. -/
theorem frame_r : Cert.quiescent_Reference6Ideal := fun m ρ _ =>
  (θ_run _ _ _).mono (fun r h => ⟨fun c => (h c).2, sem_eq_zero_of_no_sems (by decide) r.2⟩)
    (Cert.Reference6Ideal.Value.run (F := Ideal) m ρ)

/-- From memories agreeing on the arguments, the kernel and the reference both run and end with equal results. -/
theorem algebraic : Cert.algebraic_Kernel6Ideal_Reference6Ideal := fun m ρ m' ρ' _ hag =>
  ⟨fun c => G m c,
    (θ_run _ _ _).mono (fun _ h c => ⟨(h c).1.trans (arr m c), (h c).2⟩) (Cert.Kernel6Ideal.Value.run_blocks (F := Ideal) m ρ),
    (θ_run _ _ _).mono (fun _ h c => ⟨(h c).1.trans (by
      rw [Cert.Reference6Ideal.Read.val_main_v4_eq]
      show _ = G m c
      unfold G
      rw [← (hag c).1, ← (hag c).2]), (h c).2⟩)
      (Cert.Reference6Ideal.Value.run (F := Ideal) m' ρ')⟩

end Cert.InProjOdd

end
-- ==== Proof.OutProjOdd.lean ====
/- The values of the odd layers' output projection (`kernel7`): the residual stream plus the gated product of the two mixers'
   outputs, side by side, with the projection's weights, block by block and as a whole array. -/
module

public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.ReadBack
public import proofs.«01_k».proof.Defs
public import Idealize.ShloMosaic.Lib.Claim

@[expose] public section

set_option maxRecDepth 16384

noncomputable section

namespace Cert.OutProjOdd

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- Where each window's block stands at point `t`, decided over the grid: the rows move with `t / 12`, the columns with
    `t / 3 % 4`, the stretch of the contracted axis with `t % 3`: the first stretch is the first operand, the other two are the
    second operand's; the gate's row is the batch `t / 96`. -/
theorem idx : ∀ t : Fin cfg0.N, win0_0.index t = ![t.val / 12, 0] ∧ win0_1.index t = ![t.val / 12, t.val % 3 - 1]
    ∧ win0_2.index t = ![t.val % 3, t.val / 3 % 4] ∧ win0_3.index t = ![t.val / 12, t.val / 3 % 4]
    ∧ win0_4.index t = ![t.val / 96, 0, t.val / 3 % 4] ∧ win0_5.index t = ![t.val / 12, t.val / 3 % 4] :=
  (by decide +kernel : ∀ t : Fin grid0.N, _)

/-- What the reference states, as a function of the five argument arrays. -/
abbrev G (c : Dev nD) : S16384x4096.Idx → Elt Ideal .f32 :=
  Cert.Reference7Ideal.Read.val_main_v10 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- The product of the blocks point `t` reads, one stretch of 2048 of the contracted axis. -/
def term (c : Dev nD) (t : Fin cfg0.N) (y : S1024x1024.Idx) : EReal :=
  if t.val % 3 = 0 then
    ∑ k : Fin 2048, HMul.hMul (α := EReal) (β := EReal) (γ := EReal) (iblk m c 0 t (ix2 (y 0) k)) (iblk m c 2 t (ix2 k (y 1)))
  else
    ∑ k : Fin 2048, HMul.hMul (α := EReal) (β := EReal) (γ := EReal) (iblk m c 1 t (ix2 (y 0) k)) (iblk m c 2 t (ix2 k (y 1)))

/-- The first point of a block stores the product of its stretch. -/
theorem acc_first (c : Dev nD) (t : Fin cfg0.N) (h : t.val % 3 = 0) (y : S1024x1024.Idx) :
    (outsAt0 m c t.val t.isLt).2 y = 0 + term m c t y := by
  rw [outsAt0_A m c t h (by omega) (by omega), zero_add]
  unfold term
  rw [if_pos h]
  frame_out
  pointwise [k0_pay1]

/-- Every later point adds the product of its stretch to what the point before left. -/
theorem acc_next (c : Dev nD) (t : Fin cfg0.N) (h : ¬t.val % 3 = 0) (y : S1024x1024.Idx) :
    (outsAt0 m c t.val t.isLt).2 y
      = (outsAt0 m c (t.val - 1) (Nat.lt_of_le_of_lt (Nat.sub_le _ _) t.isLt)).2 y + term m c t y := by
  unfold term
  rw [if_neg h]
  by_cases h3 : t.val % 3 = 2
  · rw [outsAt0_C m c t h (by omega) h3]
    frame_out
    simp only [read_unread_whole]
    pointwise [k0_pay2]
  · rw [outsAt0_B m c t h (by omega) h3]
    frame_out
    simp only [read_unread_whole]
    pointwise [k0_pay2]

/-- At a block's last point the accumulator holds the three products' sum. -/
theorem acc_last (c : Dev nD) (t : Fin cfg0.N) (h : t.val % 3 = 2) (y : S1024x1024.Idx) :
    (outsAt0 m c t.val t.isLt).2 y
      = 0 + ∑ s : Fin 3, term m c ⟨3 * (t.val / 3) + s.val, Pipeline.run_point_lt_of_flush t h s⟩ y :=
  Pipeline.eq_sum_fin_of_reset_step_apply_of_flush (fun n hn => (outsAt0 m c n hn).2) 3 (fun _ => (0 : EReal)) (term m c)
    (acc_first m c) (acc_next m c) t h y

/-- The first operand's block, read inside the concatenated operand. -/
theorem left_fst (c : Dev nD) (t u : Fin cfg0.N) (hu : u.val / 12 = t.val / 12) (h0 : u.val % 3 = 0) (y : S1024x1024.Idx) (k : Fin 2048)
    (hl : u.val % 3 * 2048 + k.val < 6144) :
    iblk m c 0 u (ix2 (y 0) k) = Cert.Reference7Ideal.Read.val_main_v2 (F := Ideal) (m ((c.tc : Thread nD τ).loc main_arg0)) (m ((c.tc : Thread nD τ).loc main_arg1))
      (Cert.Reference7Ideal.Read.lidx_main_v4 (((cfg0.win 5).blk t).view.emb y) ⟨u.val % 3 * 2048 + k.val, hl⟩) := by
  obtain ⟨e0, -, -, -, -, -⟩ := idx u
  obtain ⟨-, -, -, -, -, e5⟩ := idx t
  rw [hu] at e0
  unfold Cert.Reference7Ideal.Read.val_main_v2
  pointwise
  rw [dif_pos (by omega), Cert.Reference7Ideal.Read.val_main_v0_apply]
  blk_ext [iblk, V, e0, e5]

/-- The second operand's block, read inside the concatenated operand. -/
theorem left_snd (c : Dev nD) (t u : Fin cfg0.N) (hu : u.val / 12 = t.val / 12) (h0 : ¬u.val % 3 = 0) (y : S1024x1024.Idx) (k : Fin 2048)
    (hl : u.val % 3 * 2048 + k.val < 6144) :
    iblk m c 1 u (ix2 (y 0) k) = Cert.Reference7Ideal.Read.val_main_v2 (F := Ideal) (m ((c.tc : Thread nD τ).loc main_arg0)) (m ((c.tc : Thread nD τ).loc main_arg1))
      (Cert.Reference7Ideal.Read.lidx_main_v4 (((cfg0.win 5).blk t).view.emb y) ⟨u.val % 3 * 2048 + k.val, hl⟩) := by
  obtain ⟨-, e1, -, -, -, -⟩ := idx u
  obtain ⟨-, -, -, -, -, e5⟩ := idx t
  rw [hu] at e1
  unfold Cert.Reference7Ideal.Read.val_main_v2
  pointwise
  rw [dif_neg (by omega), Cert.Reference7Ideal.Read.val_main_v1_apply]
  blk_ext [iblk, V, e1, e5]

/-- The weights' block, read inside the whole weights. -/
theorem right (c : Dev nD) (t u : Fin cfg0.N) (hu : u.val / 3 = t.val / 3) (y : S1024x1024.Idx) (k : Fin 2048)
    (hl : u.val % 3 * 2048 + k.val < 6144) :
    iblk m c 2 u (ix2 k (y 1)) = Cert.Reference7Ideal.Read.val_main_v3 (F := Ideal) (m ((c.tc : Thread nD τ).loc main_arg2))
      (Cert.Reference7Ideal.Read.ridx_main_v4 (((cfg0.win 5).blk t).view.emb y) ⟨u.val % 3 * 2048 + k.val, hl⟩) := by
  obtain ⟨-, -, e2, -, -, -⟩ := idx u
  obtain ⟨-, -, -, -, -, e5⟩ := idx t
  rw [hu] at e2
  rw [Cert.Reference7Ideal.Read.val_main_v3_apply]
  show V m c main_v1 _ = _
  entry_read
  pointwise
  blk_ext [iblk, V, e2, e5]
  have hr : t.val / 3 % 4 * 1024 + (y 1).val < 4096 := by omega
  generalize t.val / 3 % 4 * 1024 + (y 1).val = r at hr
  omega

/-- The three products' sum is the reference's product at the block's place. -/
theorem term_sum (c : Dev nD) (t : Fin cfg0.N) (h : t.val % 3 = 2) (y : S1024x1024.Idx) :
    (∑ s : Fin 3, term m c ⟨3 * (t.val / 3) + s.val, Pipeline.run_point_lt_of_flush t h s⟩ y)
      = Cert.Reference7Ideal.Read.val_main_v4 (F := Ideal) (m ((c.tc : Thread nD τ).loc main_arg0)) (m ((c.tc : Thread nD τ).loc main_arg1))
          (m ((c.tc : Thread nD τ).loc main_arg2)) (((cfg0.win 5).blk t).view.emb y) := by
  rw [Cert.Reference7Ideal.Read.val_main_v4_apply]
  have split : ∀ s : Fin 3, term m c ⟨3 * (t.val / 3) + s.val, Pipeline.run_point_lt_of_flush t h s⟩ y
      = ∑ k : Fin 2048, HMul.hMul (α := EReal) (β := EReal) (γ := EReal)
        (Cert.Reference7Ideal.Read.val_main_v2 (F := Ideal) (m ((c.tc : Thread nD τ).loc main_arg0)) (m ((c.tc : Thread nD τ).loc main_arg1))
          (Cert.Reference7Ideal.Read.lidx_main_v4 (((cfg0.win 5).blk t).view.emb y) ⟨s.val * 2048 + k.val, by omega⟩))
        (Cert.Reference7Ideal.Read.val_main_v3 (F := Ideal) (m ((c.tc : Thread nD τ).loc main_arg2))
          (Cert.Reference7Ideal.Read.ridx_main_v4 (((cfg0.win 5).blk t).view.emb y) ⟨s.val * 2048 + k.val, by omega⟩)) := by
    intro s
    have hs := s.isLt
    have q : s.val = (3 * (t.val / 3) + s.val) % 3 := by omega
    have qd : (3 * (t.val / 3) + s.val) / 12 = t.val / 12 := by omega
    have q3 : (3 * (t.val / 3) + s.val) / 3 = t.val / 3 := by omega
    generalize hu : (⟨3 * (t.val / 3) + s.val, Pipeline.run_point_lt_of_flush t h s⟩ : Fin cfg0.N) = u
    have hv : u.val = 3 * (t.val / 3) + s.val := by rw [← hu]
    rw [← hv] at q qd q3
    unfold term
    simp only [q]
    by_cases h0 : u.val % 3 = 0
    · rw [if_pos h0]
      exact Finset.sum_congr rfl fun k _ =>
        congrArg₂ (fun a b : EReal => a * b) (left_fst m c t u qd h0 y k _) (right m c t u q3 y k _)
    · rw [if_neg h0]
      exact Finset.sum_congr rfl fun k _ =>
        congrArg₂ (fun a b : EReal => a * b) (left_snd m c t u qd h0 y k _) (right m c t u q3 y k _)
  exact (Finset.sum_congr rfl fun s _ => split s).trans (Fin.sum_mul_add_congr fun s k hl => rfl)

/-- The array the run leaves is what the reference states, index by index. -/
theorem arr (c : Dev nD) : (dats m 0 c).arrAt 5 cfg0.N = G m c := by
  refine (dats m 0 c).arrAt_eq_of_covers 5 _ (by decide +kernel) fun t hf y => ?_
  have h3 : t.val % 3 = 2 := (flush0_5 t).mp hf
  obtain ⟨-, -, -, e3, e4, e5⟩ := idx t
  have hacc := acc_last m c t h3 y
  rw [zero_add, term_sum m c t h3 y] at hacc
  blk_simp
  rw [after0_5]
  rw [outsAt0_C m c t (by omega) (by omega) h3] at hacc ⊢
  frame_out
  frame_out at hacc
  pointwise [k0_pay3]
  rw [hacc]
  unfold G
  rw [Cert.Reference7Ideal.Read.val_main_v10_apply, Cert.Reference7Ideal.Read.val_main_v9_apply,
    Cert.Reference7Ideal.Read.val_main_v8_apply, Cert.Reference7Ideal.Read.val_main_v5_apply,
    Cert.Reference7Ideal.Read.val_main_v6_apply, Cert.Reference7Ideal.Read.val_main_v7_apply]
  refine congrArg₂ (fun a b : EReal => a + b) ?_ (congrArg₂ (fun a b : EReal => a * b) ?_ ?_)
  · blk_ext [iblk, V, e3, e5]
  · blk_ext [iblk, V, e4, e5]
  · refine congrArg (Cert.Reference7Ideal.Read.val_main_v4 (F := Ideal) _ _ _) ?_
    blk_ext [e5]

/-- The reference runs, leaves its arguments as they were, and every counter ends at zero. -/
theorem frame_r : Cert.quiescent_Reference7Ideal := fun m ρ _ =>
  (θ_run _ _ _).mono (fun r h => ⟨fun c => (h c).2, sem_eq_zero_of_no_sems (by decide) r.2⟩)
    (Cert.Reference7Ideal.Value.run (F := Ideal) m ρ)

/-- From memories agreeing on the arguments, the kernel and the reference both run and end with equal results. -/
theorem algebraic : Cert.algebraic_Kernel7Ideal_Reference7Ideal := fun m ρ m' ρ' _ hag =>
  ⟨fun c => G m c,
    (θ_run _ _ _).mono (fun _ h c => ⟨(h c).1.trans (arr m c), (h c).2⟩) (Cert.Kernel7Ideal.Value.run_blocks (F := Ideal) m ρ),
    (θ_run _ _ _).mono (fun _ h c => ⟨(h c).1.trans (by
      rw [Cert.Reference7Ideal.Read.val_main_v10_eq]
      show _ = G m c
      unfold G
      rw [← (hag c).1, ← (hag c).2.1, ← (hag c).2.2.1, ← (hag c).2.2.2.1, ← (hag c).2.2.2.2]), (h c).2⟩)
      (Cert.Reference7Ideal.Value.run (F := Ideal) m' ρ')⟩

end Cert.OutProjOdd

end
-- ==== Proof.NormMod.lean ====
/- The values of the even layer's first normalisation (`kernel8`): every row over its root mean square, scaled and shifted. -/
module

public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import proofs.«01_k».proof.Proof.Scalars
public import proofs.«01_k».proof.Defs
public import Idealize.ShloMosaic.Lib.Claim

@[expose] public section

set_option maxRecDepth 16384

noncomputable section

namespace Cert.NormMod

open Cert.Kernel8Ideal Cert.Kernel8Ideal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Where each window's block stands at point `t`, decided over the grid: the rows move with `t`, thirty-two blocks to a sequence. -/
theorem idx : ∀ t : Fin cfg0.N, win0_0.index t = ![t.val / 32, t.val % 32, 0] ∧ win0_1.index t = ![0, 0] ∧ win0_2.index t = ![t.val / 32, 0, 0]
    ∧ win0_3.index t = ![t.val / 32, 0, 0] ∧ win0_4.index t = ![t.val / 32, t.val % 32, 0] :=
  (by decide +kernel : ∀ t : Fin grid0.N, _)

/-- What the reference states, as a function of the four argument arrays. -/
abbrev G (c : Dev nD) : S2x8192x4096.Idx → Elt Ideal .bf16 :=
  Cert.Reference8Ideal.Read.val_main_v20 (F := Ideal) (m ((c.tc : Thread nD τ).loc main_arg0)) (m ((c.tc : Thread nD τ).loc main_arg1)) (m ((c.tc : Thread nD τ).loc main_arg2)) (m ((c.tc : Thread nD τ).loc main_arg3))

/-- The array the run leaves is what the reference states, index by index. -/
theorem arr (c : Dev nD) : (dats m 0 c).arrAt 4 cfg0.N = G m c := by
  refine (dats m 0 c).arrAt_eq_of_covers 4 _ (by decide +kernel) fun t hf y => ?_
  obtain ⟨e0, e1, e2, e3, e4⟩ := idx t
  blk_simp
  rw [after0_4]
  frame_out
  pointwise [k0_pay1]
  show _ = Cert.Reference8Ideal.Read.val_main_v20 (F := Ideal) _ _ _ _ _
  rw [Cert.Reference8Ideal.Read.val_main_v20_apply, Cert.Reference8Ideal.Read.val_main_v19_apply, Cert.Reference8Ideal.Read.val_main_v17_apply,
    Cert.Reference8Ideal.Read.val_main_v13_apply, Cert.Reference8Ideal.Read.val_main_v10_apply]
  refine congrArg₂ (fun a b : EReal => a + b) (congrArg₂ (fun a b : EReal => a * b) (congrArg₂ (fun a b : EReal => a * b)
    (congrArg₂ (fun a b : EReal => a * b) ?_ ?_) ?_) ?_) ?_
  · blk_ext [iblk, V, e0, e4]
  · rw [Cert.Reference8Ideal.Read.val_main_v9_apply, Cert.Reference8Ideal.Read.val_main_v8_apply, Cert.Reference8Ideal.Read.val_main_v7_apply,
      Cert.Reference8Ideal.Read.val_main_v5_apply, Cert.Reference8Ideal.Read.val_main_v3_apply, Cert.Reference8Ideal.Read.val_main_v2_apply]
    refine congrArg (fun s : EReal => Ideal.rsqrt (Ideal.div s _ + _)) ?_
    refine Eq.trans ?_ (congrArg (fun z : EReal => z + _) Ideal.ofBits_zero_f32.symm)
    refine Eq.trans ?_ (zero_add _).symm
    refine Finset.sum_congr rfl fun k _ => ?_
    rw [Cert.Reference8Ideal.Read.val_main_v1_apply]
    refine congrArg (fun a : EReal => a * a) ?_
    blk_ext [iblk, V, e0, e4]
  · rw [Cert.Reference8Ideal.Read.val_main_v12_apply, Cert.Reference8Ideal.Read.val_main_v11_apply, Cert.Reference8Ideal.Read.val_main_v0_apply]
    show V m c main_v1 _ = _
    entry_read
    pointwise
    blk_ext [iblk, V, e1, e4]
  · rw [Cert.Reference8Ideal.Read.val_main_v16_apply, Cert.Reference8Ideal.Read.val_main_v15_apply]
    refine congrArg₂ (fun a b : EReal => a + b) Ideal.ofBits_one_f32.symm ?_
    blk_ext [iblk, V, e2, e4]
  · rw [Cert.Reference8Ideal.Read.val_main_v18_apply]
    blk_ext [iblk, V, e3, e4]

/-- The reference runs, leaves its arguments as they were, and every counter ends at zero. -/
theorem frame_r : Cert.quiescent_Reference8Ideal := fun m ρ _ =>
  (θ_run _ _ _).mono (fun r h => ⟨fun c => (h c).2, sem_eq_zero_of_no_sems (by decide) r.2⟩)
    (Cert.Reference8Ideal.Value.run (F := Ideal) m ρ)

/-- From memories agreeing on the arguments, the kernel and the reference both run and end with equal results. -/
theorem algebraic : Cert.algebraic_Kernel8Ideal_Reference8Ideal := fun m ρ m' ρ' _ hag =>
  ⟨fun c => G m c,
    (θ_run _ _ _).mono (fun _ h c => ⟨(h c).1.trans (arr m c), (h c).2⟩) (Cert.Kernel8Ideal.Value.run_blocks (F := Ideal) m ρ),
    (θ_run _ _ _).mono (fun _ h c => ⟨(h c).1.trans (by
      rw [Cert.Reference8Ideal.Read.val_main_v20_eq]
      show _ = G m c
      unfold G
      rw [← (hag c).1, ← (hag c).2.1, ← (hag c).2.2.1, ← (hag c).2.2.2]), (h c).2⟩)
      (Cert.Reference8Ideal.Value.run (F := Ideal) m' ρ')⟩

end Cert.NormMod

end
-- ==== Proof.ModVectors.lean ====
/- The values of the even layer's modulation vectors (`kernel9`): `silu c W + b`. -/
module

public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import proofs.«01_k».proof.Proof.Scalars
public import proofs.«01_k».proof.Defs
public import Idealize.ShloMosaic.Lib.Claim

@[expose] public section

set_option maxRecDepth 16384

noncomputable section

namespace Cert.ModVectors

open Cert.Kernel9Ideal Cert.Kernel9Ideal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Where each window's block stands at point `t`, decided over the grid: the columns move with `t`. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- What the reference states, as a function of the three argument arrays. -/
abbrev G (c : Dev nD) : S8x24576.Idx → Elt Ideal .f32 :=
  Cert.Reference9Ideal.Read.val_main_v6 (F := Ideal) (m ((c.tc : Thread nD τ).loc main_arg0)) (m ((c.tc : Thread nD τ).loc main_arg1)) (m ((c.tc : Thread nD τ).loc main_arg2))

/-- The array the run leaves is what the reference states, index by index. -/
theorem arr (c : Dev nD) : (dats m 0 c).arrAt 3 cfg0.N = G m c := by
  refine (dats m 0 c).arrAt_eq_of_covers 3 _ (by decide +kernel) fun t hf y => ?_
  obtain ⟨e0, e1, e2, e3⟩ := idx t
  blk_simp
  rw [after0_3]
  frame_out
  pointwise [k0_pay1]
  show _ = Cert.Reference9Ideal.Read.val_main_v6 (F := Ideal) _ _ _ _
  rw [Cert.Reference9Ideal.Read.val_main_v6_apply]
  refine congrArg₂ (fun a b : EReal => a + b) ?_ ?_
  · rw [Cert.Reference9Ideal.Read.val_main_v2_apply]
    refine Finset.sum_congr rfl fun k _ => ?_
    refine congrArg₂ (fun a b : EReal => a * b) ?_ ?_
    · rw [Scalars.div_one_add_exp]
      refine Eq.trans (congrArg (fun a : EReal => a * Ideal.div 1 (1 + Ideal.exp (-a))) ?_)
        (congrArg (fun a : EReal => _ * Ideal.div a (a + _)) Ideal.ofBits_one_f32.symm)
      blk_ext [iblk, V, e0, e3]
    · rw [Cert.Reference9Ideal.Read.val_main_v1_apply]
      show V m c main_v0 _ = _
      entry_read
      pointwise
      blk_ext [iblk, V, e1, e3]
  · rw [Cert.Reference9Ideal.Read.val_main_v5_apply, Cert.Reference9Ideal.Read.val_main_v4_apply, Cert.Reference9Ideal.Read.val_main_v3_apply]
    show V m c main_v2 _ = _
    entry_read
    pointwise
    blk_ext [iblk, V, e2, e3]

/-- The reference runs, leaves its arguments as they were, and every counter ends at zero. -/
theorem frame_r : Cert.quiescent_Reference9Ideal := fun m ρ _ =>
  (θ_run _ _ _).mono (fun r h => ⟨fun c => (h c).2, sem_eq_zero_of_no_sems (by decide) r.2⟩)
    (Cert.Reference9Ideal.Value.run (F := Ideal) m ρ)

/-- From memories agreeing on the arguments, the kernel and the reference both run and end with equal results. -/
theorem algebraic : Cert.algebraic_Kernel9Ideal_Reference9Ideal := fun m ρ m' ρ' _ hag =>
  ⟨fun c => G m c,
    (θ_run _ _ _).mono (fun _ h c => ⟨(h c).1.trans (arr m c), (h c).2⟩) (Cert.Kernel9Ideal.Value.run_blocks (F := Ideal) m ρ),
    (θ_run _ _ _).mono (fun _ h c => ⟨(h c).1.trans (by
      rw [Cert.Reference9Ideal.Read.val_main_v6_eq]
      show _ = G m c
      unfold G
      rw [← (hag c).1, ← (hag c).2.1, ← (hag c).2.2]), (h c).2⟩)
      (Cert.Reference9Ideal.Value.run (F := Ideal) m' ρ')⟩

end Cert.ModVectors

end
-- ==== Proof.FinalNorm.lean ====
/- The values of the last call (`kernel10`): the experts' two outputs joined to the residual, and every row over its root mean square. -/
module

public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import proofs.«01_k».proof.Proof.Scalars
public import proofs.«01_k».proof.Defs
public import Idealize.ShloMosaic.Lib.Claim

@[expose] public section

set_option maxRecDepth 16384

noncomputable section

namespace Cert.FinalNorm

open Cert.Kernel10Ideal Cert.Kernel10Ideal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Where each window's block stands at point `t`, decided over the grid: the rows move with `t`, the second output's 64 blocks further on. -/
theorem idx : ∀ t : Fin cfg0.N, win0_0.index t = ![t.val / 32, t.val % 32, 0] ∧ win0_1.index t = ![t.val, 0] ∧ win0_2.index t = ![64 + t.val, 0]
    ∧ win0_3.index t = ![t.val / 32, 0, 0] ∧ win0_4.index t = ![0, 0] ∧ win0_5.index t = ![t.val / 32, t.val % 32, 0] :=
  (by decide +kernel : ∀ t : Fin grid0.N, _)

/-- What the reference states, as a function of the four argument arrays. -/
abbrev G (c : Dev nD) : S2x8192x4096.Idx → Elt Ideal .f32 :=
  Cert.Reference10Ideal.Read.val_main_v19 (F := Ideal) (m ((c.tc : Thread nD τ).loc main_arg0)) (m ((c.tc : Thread nD τ).loc main_arg1)) (m ((c.tc : Thread nD τ).loc main_arg2)) (m ((c.tc : Thread nD τ).loc main_arg3))

/-- The array the run leaves is what the reference states, index by index. -/
theorem arr (c : Dev nD) : (dats m 0 c).arrAt 5 cfg0.N = G m c := by
  refine (dats m 0 c).arrAt_eq_of_covers 5 _ (by decide +kernel) fun t hf y => ?_
  obtain ⟨e0, e1, e2, e3, e4, e5⟩ := idx t
  blk_simp
  rw [after0_5]
  frame_out
  pointwise [k0_pay1]
  show _ = Cert.Reference10Ideal.Read.val_main_v19 (F := Ideal) _ _ _ _ _
  rw [Cert.Reference10Ideal.Read.val_main_v19_apply, Cert.Reference10Ideal.Read.val_main_v16_apply]
  refine congrArg₂ (fun a b : EReal => a * b) (congrArg₂ (fun a b : EReal => a * b) ?_ ?_) ?_
  · rw [Cert.Reference10Ideal.Read.val_main_v6_apply, Cert.Reference10Ideal.Read.val_main_v5_apply, Cert.Reference10Ideal.Read.val_main_v4_apply,
      Cert.Reference10Ideal.Read.val_main_v3_apply, Cert.Reference10Ideal.Read.val_main_v2_apply, Cert.Reference10Ideal.Read.val_main_v1_apply,
      Cert.Reference10Ideal.Read.val_main_v0_apply]
    refine congrArg₂ (fun a b : EReal => a + b) ?_ (congrArg₂ (fun a b : EReal => a * b) ?_ (congrArg₂ (fun a b : EReal => a + b) ?_ ?_))
    · blk_ext [iblk, V, e0, e5]
    · blk_ext [iblk, V, e3, e5]
    · blk_ext [iblk, V, e1, e5]
    · blk_ext [iblk, V, e2, e5]
  · rw [Cert.Reference10Ideal.Read.val_main_v15_apply, Cert.Reference10Ideal.Read.val_main_v14_apply, Cert.Reference10Ideal.Read.val_main_v13_apply,
      Cert.Reference10Ideal.Read.val_main_v11_apply, Cert.Reference10Ideal.Read.val_main_v9_apply, Cert.Reference10Ideal.Read.val_main_v8_apply]
    refine congrArg (fun s : EReal => Ideal.rsqrt (Ideal.div s _ + _)) ?_
    refine Eq.trans ?_ (congrArg (fun z : EReal => z + _) Ideal.ofBits_zero_f32.symm)
    refine Eq.trans ?_ (zero_add _).symm
    refine Finset.sum_congr rfl fun k _ => ?_
    rw [Cert.Reference10Ideal.Read.val_main_v7_apply]
    refine congrArg (fun a : EReal => a * a) ?_
    rw [Cert.Reference10Ideal.Read.val_main_v6_apply, Cert.Reference10Ideal.Read.val_main_v5_apply, Cert.Reference10Ideal.Read.val_main_v4_apply,
      Cert.Reference10Ideal.Read.val_main_v3_apply, Cert.Reference10Ideal.Read.val_main_v2_apply, Cert.Reference10Ideal.Read.val_main_v1_apply,
      Cert.Reference10Ideal.Read.val_main_v0_apply]
    refine congrArg₂ (fun a b : EReal => a + b) ?_ (congrArg₂ (fun a b : EReal => a * b) ?_ (congrArg₂ (fun a b : EReal => a + b) ?_ ?_))
    · blk_ext [iblk, V, e0, e5]
    · blk_ext [iblk, V, e3, e5]
    · blk_ext [iblk, V, e1, e5]
    · blk_ext [iblk, V, e2, e5]
  · rw [Cert.Reference10Ideal.Read.val_main_v18_apply, Cert.Reference10Ideal.Read.val_main_v17_apply]
    show V m c main_v0 _ = _
    entry_read
    pointwise
    blk_ext [iblk, V, e4, e5]

/-- The reference runs, leaves its arguments as they were, and every counter ends at zero. -/
theorem frame_r : Cert.quiescent_Reference10Ideal := fun m ρ _ =>
  (θ_run _ _ _).mono (fun r h => ⟨fun c => (h c).2, sem_eq_zero_of_no_sems (by decide) r.2⟩)
    (Cert.Reference10Ideal.Value.run (F := Ideal) m ρ)

/-- From memories agreeing on the arguments, the kernel and the reference both run and end with equal results. -/
theorem algebraic : Cert.algebraic_Kernel10Ideal_Reference10Ideal := fun m ρ m' ρ' _ hag =>
  ⟨fun c => G m c,
    (θ_run _ _ _).mono (fun _ h c => ⟨(h c).1.trans (arr m c), (h c).2⟩) (Cert.Kernel10Ideal.Value.run_blocks (F := Ideal) m ρ),
    (θ_run _ _ _).mono (fun _ h c => ⟨(h c).1.trans (by
      refine (Cert.Reference10Ideal.Read.val_main_v19_eq _ _ _ _).trans ?_
      show _ = G m c
      unfold G
      rw [← (hag c).1, ← (hag c).2.1, ← (hag c).2.2.1, ← (hag c).2.2.2]), (h c).2⟩)
      (Cert.Reference10Ideal.Value.run (F := Ideal) m' ρ')⟩

end Cert.FinalNorm

end
-- ==== Proof.ConvRead.lean ====
/- The state-space mixer's short convolution (`kernel11`): its buffer and its loads, entry by entry. -/
module

public import proofs.«01_k».proof.Proof.Gen.Kernel11Ideal.Value
public import Idealize.ShloMosaic.Lib.Pipeline.ValueKit
public import Idealize.ShloMosaic.Lib.WritesUnit
public import Idealize.ShloMosaic.Lib.WordCmp

@[expose] public section

set_option maxRecDepth 16384
set_option maxHeartbeats 1000000

noncomputable section

namespace Cert.ConvSilu

open Cert.Kernel11Ideal Cert.Kernel11Ideal.Gen Idealize.ShloMosaic Idealize.ShloMosaic.TcCoe Idealize.SL.Sem

/-- The convolution's buffer, row by row: sixteen rows of the block before, the block's, sixteen of the block after. -/
theorem read_padded {v : View sig .tc .vmem S544x1024 .f32} (f : v.ty.Contents (Elt Ideal)) (p10 : Vec Ideal S16x1024 .f32) (p9 : Vec Ideal S512x1024 .f32) (p8 : Vec Ideal S16x1024 .f32) (k : Fin 544) (n : Fin 1024) :
    v.read (Elt Ideal) (v.writes (Elt Ideal) f [⟨Rect.unit (s := S544x1024) ![528, 0] S16x1024.size inb_S544x1024_S16x1024_528_0, p10⟩,
        ⟨Rect.unit (s := S544x1024) ![16, 0] S512x1024.size inb_S544x1024_S512x1024_16_0, p9⟩,
        ⟨Rect.unit (s := S544x1024) ![0, 0] S16x1024.size inb_S544x1024_S16x1024_0_0, p8⟩]) (ix2 k n)
      = if h : k.val < 16 then p8 (ix2 (⟨k.val, h⟩ : Fin 16) n) else
        if h' : k.val < 528 then p9 (ix2 (⟨k.val - 16, by omega⟩ : Fin 512) n) else p10 (ix2 (⟨k.val - 528, by omega⟩ : Fin 16) n) := by
  by_cases h : k.val < 16
  · rw [dif_pos h]
    refine (View.read_writes_cons_rows_of_not_mem v f (o := 528) (W := 16) _ _ _ _ rfl rfl (Or.inl ?_)).trans ?_
    · show k.val < 528; omega
    refine (View.read_writes_cons_rows_of_not_mem v f (o := 16) (W := 512) _ _ _ _ rfl rfl (Or.inl h)).trans ?_
    exact View.read_writes_cons_rows_of_mem v f (o := 0) _ _ _ _ (ix2 (⟨k.val, h⟩ : Fin 16) n) rfl (Nat.zero_add _).symm rfl
  · rw [dif_neg h]
    by_cases h' : k.val < 528
    · rw [dif_pos h']
      refine (View.read_writes_cons_rows_of_not_mem v f (o := 528) (W := 16) _ _ _ _ rfl rfl (Or.inl h')).trans ?_
      refine View.read_writes_cons_rows_of_mem v f (o := 16) _ _ _ _ (ix2 (⟨k.val - 16, by omega⟩ : Fin 512) n) rfl ?_ rfl
      show k.val = 16 + (k.val - 16); omega
    · rw [dif_neg h']
      refine View.read_writes_cons_rows_of_mem v f (o := 528) _ _ _ _ (ix2 (⟨k.val - 528, by omega⟩ : Fin 16) n) rfl ?_ rfl
      show k.val = 528 + (k.val - 528); omega

/-- A load of one tap. -/
theorem load_tap (x : Vec Ideal S4x1024 .f32) (k : Fin 4) (inb : ∀ a, (![k.val, 0] : Fin 2 → ℕ) a + (![1, 1024] : Fin 2 → ℕ) a ≤ S4x1024.size a) :
    View.ld x (Rect.unit (s := S4x1024) ![k.val, 0] ![1, 1024] inb) = fun y => x (ix2 k (y 1)) := by
  funext y
  show x _ = x _
  congr 1
  funext a; apply Fin.ext
  match a with
  | ⟨0, _⟩ => show k.val + 1 * (y 0).val = k.val; have : (y 0).val < 1 := (y 0).isLt; omega
  | ⟨1, _⟩ => show 0 + 1 * (y 1).val = (y 1).val; omega

/-- The rows the convolution reads: outside the sequence they are zero. -/
def padded (i : grid0.Coords) (x0 : Vec Ideal S1x512x1024 .bf16) (x1 x2 : Vec Ideal S1x16x1024 .bf16) (k : Fin 544) (n : Fin 1024) : EReal :=
  if h : k.val < 16 then (if 0 < (i 1).val then x1 (ix3 (0 : Fin 1) (⟨k.val, h⟩ : Fin 16) n) else (0 : EReal)) else
  if h' : k.val < 528 then x0 (ix3 (0 : Fin 1) (⟨k.val - 16, by omega⟩ : Fin 512) n) else
  (if (i 1).val < 15 then x2 (ix3 (0 : Fin 1) (⟨k.val - 528, by omega⟩ : Fin 16) n) else (0 : EReal))

/-- The rows of the block before, zero for a sequence's first block. -/
theorem before_apply (i : grid0.Coords) (x : Vec Ideal S1x16x1024 .bf16) (k : Fin 16) (n : Fin 1024) :
    k0_pay2 (F := Ideal) i x (ix2 k n) = if 0 < (i 1).val then x (ix3 (0 : Fin 1) k n) else (0 : EReal) := by
  have hi : (i 1).val < 16 := (i 1).isLt
  by_cases h : 0 < (i 1).val
  · rw [if_pos h]
    have hc : Scalar.cmpi .sgt (BitVec.ofNat 32 (i 1).val) 0#32 = 1#1 := by word_cmp
    simp only [k0_pay2, hc]
    pointwise
  · rw [if_neg h]
    have hc : Scalar.cmpi .sgt (BitVec.ofNat 32 (i 1).val) 0#32 = 0#1 := by
      rw [show (i 1).val = 0 by omega]; rfl
    simp only [k0_pay2, hc]
    pointwise

/-- The rows of the block after, zero for a sequence's last block. -/
theorem after_apply (i : grid0.Coords) (x : Vec Ideal S1x16x1024 .bf16) (k : Fin 16) (n : Fin 1024) :
    k0_pay4 (F := Ideal) i x (ix2 k n) = if (i 1).val < 15 then x (ix3 (0 : Fin 1) k n) else (0 : EReal) := by
  have hi : (i 1).val < 16 := (i 1).isLt
  by_cases h : (i 1).val < 15
  · rw [if_pos h]
    have hc : Scalar.cmpi .slt (BitVec.ofNat 32 (i 1).val) 15#32 = 1#1 := by word_cmp
    simp only [k0_pay4, hc]
    pointwise
  · rw [if_neg h]
    have hc : Scalar.cmpi .slt (BitVec.ofNat 32 (i 1).val) 15#32 = 0#1 := by
      rw [show (i 1).val = 15 by omega]; rfl
    simp only [k0_pay4, hc]
    pointwise

/-- The block's own rows. -/
theorem own_apply (x : Vec Ideal S1x512x1024 .bf16) (k : Fin 512) (n : Fin 1024) :
    k0_pay3 (F := Ideal) x (ix2 k n) = x (ix3 (0 : Fin 1) k n) := by
  pointwise [k0_pay3]

/-- The convolution of row `r`, column `n`: the bias and the four taps' products. -/
def conv (i : grid0.Coords) (x0 : Vec Ideal S1x512x1024 .bf16) (x1 x2 : Vec Ideal S1x16x1024 .bf16) (x3 : Vec Ideal S4x1024 .f32) (x4 : Vec Ideal S1x1024 .f32) : Vec Ideal S512x1024 .f32 := fun y =>
  (((x4 (ix2 (0 : Fin 1) (y 1))
    + HMul.hMul (α := EReal) (β := EReal) (γ := EReal) (x3 (ix2 (0 : Fin 4) (y 1))) (padded i x0 x1 x2 ⟨(y 0).val + 14, by have : (y 0).val < 512 := (y 0).isLt; omega⟩ (y 1)) : EReal)
    + HMul.hMul (α := EReal) (β := EReal) (γ := EReal) (x3 (ix2 (1 : Fin 4) (y 1))) (padded i x0 x1 x2 ⟨(y 0).val + 15, by have : (y 0).val < 512 := (y 0).isLt; omega⟩ (y 1)) : EReal)
    + HMul.hMul (α := EReal) (β := EReal) (γ := EReal) (x3 (ix2 (2 : Fin 4) (y 1))) (padded i x0 x1 x2 ⟨(y 0).val + 16, by have : (y 0).val < 512 := (y 0).isLt; omega⟩ (y 1)) : EReal)
    + HMul.hMul (α := EReal) (β := EReal) (γ := EReal) (x3 (ix2 (3 : Fin 4) (y 1))) (padded i x0 x1 x2 ⟨(y 0).val + 17, by have : (y 0).val < 512 := (y 0).isLt; omega⟩ (y 1))

/-- A number over one plus the exponential of its negation. -/
def silu (u : EReal) : EReal := Ideal.div u (1 + Ideal.exp (0 - u))

/-- What the body computes from the loads of its buffers. -/
theorem point_eq (i : grid0.Coords) (x0 : Vec Ideal S1x512x1024 .bf16) (x1 x2 : Vec Ideal S1x16x1024 .bf16) (x3 : Vec Ideal S4x1024 .f32) (x4 : Vec Ideal S1x1024 .f32)
    (u0 u1 u2 u3 : Vec Ideal S512x1024 .f32)
    (h0 : ∀ y : S512x1024.Idx, u0 y = padded i x0 x1 x2 ⟨(y 0).val + 14, by have : (y 0).val < 512 := (y 0).isLt; omega⟩ (y 1)) (h1 : ∀ y : S512x1024.Idx, u1 y = padded i x0 x1 x2 ⟨(y 0).val + 15, by have : (y 0).val < 512 := (y 0).isLt; omega⟩ (y 1)) (h2 : ∀ y : S512x1024.Idx, u2 y = padded i x0 x1 x2 ⟨(y 0).val + 16, by have : (y 0).val < 512 := (y 0).isLt; omega⟩ (y 1)) (h3 : ∀ y : S512x1024.Idx, u3 y = padded i x0 x1 x2 ⟨(y 0).val + 17, by have : (y 0).val < 512 := (y 0).isLt; omega⟩ (y 1)) :
    k0_pay1 (F := Ideal) (k0_pay5 x4) (k0_pay6 fun y => x3 (ix2 (0 : Fin 4) (y 1))) u0 (fun y => x3 (ix2 (1 : Fin 4) (y 1))) u1 (fun y => x3 (ix2 (2 : Fin 4) (y 1))) u2 (fun y => x3 (ix2 (3 : Fin 4) (y 1))) u3
      = fun y : S1x512x1024.Idx => silu (conv i x0 x1 x2 x3 x4 (ix2 (y 1) (y 2))) := by
  funext y
  pointwise [k0_pay1, k0_pay5, k0_pay6]
  rw [h0, h1, h2, h3]
  rfl

/-- The convolution's buffer holds the padded rows. -/
theorem read_rows {v : View sig .tc .vmem S544x1024 .f32} (f : v.ty.Contents (Elt Ideal)) (i : grid0.Coords) (x0 : Vec Ideal S1x512x1024 .bf16) (x1 x2 : Vec Ideal S1x16x1024 .bf16) (k : Fin 544) (n : Fin 1024) :
    v.read (Elt Ideal) (v.writes (Elt Ideal) f [⟨Rect.unit (s := S544x1024) ![528, 0] S16x1024.size inb_S544x1024_S16x1024_528_0, k0_pay4 (F := Ideal) i x2⟩,
        ⟨Rect.unit (s := S544x1024) ![16, 0] S512x1024.size inb_S544x1024_S512x1024_16_0, k0_pay3 x0⟩,
        ⟨Rect.unit (s := S544x1024) ![0, 0] S16x1024.size inb_S544x1024_S16x1024_0_0, k0_pay2 i x1⟩]) (ix2 k n) = padded i x0 x1 x2 k n := by
  refine (read_padded f _ _ _ k n).trans ?_
  unfold padded
  simp only [before_apply, after_apply, own_apply]

/-- A load of 512 rows of the convolution's buffer from row `o`. -/
theorem load_rows_at {v : View sig .tc .vmem S544x1024 .f32} (i : grid0.Coords) (x0 : Vec Ideal S1x512x1024 .bf16) (x1 x2 : Vec Ideal S1x16x1024 .bf16)
    (o : ℕ) (inb : ∀ a, (![o, 0] : Fin 2 → ℕ) a + S512x1024.size a ≤ S544x1024.size a) (y : S512x1024.Idx) (hk : (y 0).val + o < 544) :
    View.readCov (Val := Elt Ideal) v [⟨Rect.unit (s := S544x1024) ![528, 0] S16x1024.size inb_S544x1024_S16x1024_528_0, k0_pay4 (F := Ideal) i x2⟩,
        ⟨Rect.unit (s := S544x1024) ![16, 0] S512x1024.size inb_S544x1024_S512x1024_16_0, k0_pay3 x0⟩,
        ⟨Rect.unit (s := S544x1024) ![0, 0] S16x1024.size inb_S544x1024_S16x1024_0_0, k0_pay2 i x1⟩] (Rect.unit (s := S544x1024) ![o, 0] S512x1024.size inb).toLoadRect y
      = padded i x0 x1 x2 ⟨(y 0).val + o, hk⟩ (y 1) := by
  have e : (Rect.unit (s := S544x1024) ![o, 0] S512x1024.size inb).toLoadRect.idx y = ix2 (⟨(y 0).val + o, hk⟩ : Fin 544) (y 1) := by
    funext a; apply Fin.ext
    match a with
    | ⟨0, _⟩ => show o + 1 * (y 0).val = (y 0).val + o; omega
    | ⟨1, _⟩ => show 0 + 1 * (y 1).val = (y 1).val; omega
  unfold View.readCov
  show v.read (Elt Ideal) (v.writes (Elt Ideal) _ _) ((Rect.unit (s := S544x1024) ![o, 0] S512x1024.size inb).toLoadRect.idx y) = _
  rw [e]
  exact read_rows _ i x0 x1 x2 (⟨(y 0).val + o, hk⟩ : Fin 544) (y 1)

section

variable (c : Dev nD) (i : grid0.Coords) (arg3 : Memref sig .tc .vmem S1x512x1024 .bf16) (harg3 : arg3.IsWhole) (arg4 : Memref sig .tc .vmem S1x16x1024 .bf16) (harg4 : arg4.IsWhole) (arg5 : Memref sig .tc .vmem S1x16x1024 .bf16) (harg5 : arg5.IsWhole) (arg6 : Memref sig .tc .vmem S4x1024 .f32) (harg6 : arg6.IsWhole) (arg7 : Memref sig .tc .vmem S1x1024 .f32) (harg7 : arg7.IsWhole) (arg8 : Memref sig .tc .vmem S1x512x1024 .bf16) (harg8 : arg8.IsWhole) (arg9 : Memref sig .tc .vmem S544x1024 .f32) (harg9 : arg9.IsWhole)
  (x0 : Vec Ideal S1x512x1024 .bf16) (x1 x2 : Vec Ideal S1x16x1024 .bf16) (x3 : Vec Ideal S4x1024 .f32) (x4 : Vec Ideal S1x1024 .f32)

/-- What a point leaves in its output block. -/
theorem out_eq : out0_A_5 (F := Ideal) c i arg3 harg3 arg4 harg4 arg5 harg5 arg6 harg6 arg7 harg7 arg8 harg8 arg9 harg9 x0 x1 x2 x3 x4
    = fun y : S1x512x1024.Idx => silu (conv i x0 x1 x2 x3 x4 (ix2 (y 1) (y 2))) := by
  frame_out
  rw [show View.ld x3 (Rect.unit ![0, 0] ![1, 1024] inb_S4x1024_S1x1024_0_0) = _ from load_tap x3 0 _, show View.ld x3 (Rect.unit ![1, 0] ![1, 1024] inb_S4x1024_S1x1024_1_0) = _ from load_tap x3 1 _,
    show View.ld x3 (Rect.unit ![2, 0] ![1, 1024] inb_S4x1024_S1x1024_2_0) = _ from load_tap x3 2 _, show View.ld x3 (Rect.unit ![3, 0] ![1, 1024] inb_S4x1024_S1x1024_3_0) = _ from load_tap x3 3 _]
  exact point_eq i x0 x1 x2 x3 x4 _ _ _ _ (fun y => load_rows_at i x0 x1 x2 14 _ y _) (fun y => load_rows_at i x0 x1 x2 15 _ y _)
    (fun y => load_rows_at i x0 x1 x2 16 _ y _) (fun y => load_rows_at i x0 x1 x2 17 _ y _)

end

end Cert.ConvSilu

end
-- ==== Proof.ConvSilu.lean ====
/- The values of the state-space mixer's short convolution (`kernel11`): four taps, a bias and a silu. -/
module

public import proofs.«01_k».proof.Proof.ConvRead
public import proofs.«01_k».proof.Proof.Gen.Reference11Ideal.Run
public import proofs.«01_k».proof.Proof.Gen.Reference11Ideal.Read
public import proofs.«01_k».proof.Proof.Scalars
public import proofs.«01_k».proof.Defs
public import Idealize.ShloMosaic.Lib.Claim

@[expose] public section

set_option maxRecDepth 16384

noncomputable section

namespace Cert.ConvSilu

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-! ## The blocks -/

/-- Where each window's block stands at point `t`: the batch is `t / 96`, the block of rows `t / 6 % 16`, the block of columns `t % 6`;
    the rows before and after it come sixteen at a time, held to the sequence. -/
theorem idx : ∀ t : Fin cfg0.N, win0_0.index t = ![t.val / 96, t.val / 6 % 16, 8 + t.val % 6] ∧ win0_1.index t = ![t.val / 96, t.val / 6 % 16 * 32 - 1, 8 + t.val % 6]
    ∧ win0_2.index t = ![t.val / 96, min (t.val / 6 % 16 * 32 + 32) 511, 8 + t.val % 6] ∧ win0_3.index t = ![0, t.val % 6] ∧ win0_4.index t = ![0, t.val % 6]
    ∧ win0_5.index t = ![t.val / 96, t.val / 6 % 16, t.val % 6] :=
  (by decide +kernel : ∀ t : Fin grid0.N, _)

theorem coord1 (t : Fin cfg0.N) : (grid0.coords t 1).val = t.val / 6 % 16 :=
  Pipeline.Grid.coords_val t 1 (by decide) rfl

theorem lt192 (t : Fin cfg0.N) : t.val < 192 := Nat.lt_of_lt_of_eq t.isLt N_0

/-- The batch of a point. -/
def batch (t : Fin cfg0.N) : Fin 2 := ⟨t.val / 96, by have := lt192 t; omega⟩

/-- The place in the sequence of row `r` of point `t`'s block. -/
def place (t : Fin cfg0.N) (r : Fin 512) : Fin 8192 := ⟨t.val / 6 % 16 * 512 + r.val, by omega⟩

/-- The column of the result that column `n` of point `t`'s block is. -/
def col (t : Fin cfg0.N) (n : Fin 1024) : Fin 6144 := ⟨t.val % 6 * 1024 + n.val, by omega⟩

/-- The rows of the point's own block. -/
theorem blk0 (c : Dev nD) (t : Fin cfg0.N) (r : Fin 512) (n : Fin 1024) :
    iblk m c 0 t (ix3 (0 : Fin 1) r n) = m ((c.tc : Thread nD τ).loc main_arg0) (ix3 (batch t) (⟨t.val / 6 % 16 * 512 + r.val, by omega⟩ : Fin 8192) (⟨8192 + (col t n).val, by omega⟩ : Fin 14336)) := by
  obtain ⟨e0, -⟩ := idx t
  unfold batch col
  blk_ext [iblk, V, e0]

/-- The sixteen rows before it. -/
theorem blk1 (c : Dev nD) (t : Fin cfg0.N) (h : 0 < t.val / 6 % 16) (r : Fin 16) (n : Fin 1024) :
    iblk m c 1 t (ix3 (0 : Fin 1) r n) = m ((c.tc : Thread nD τ).loc main_arg0) (ix3 (batch t) (⟨t.val / 6 % 16 * 512 + r.val - 16, by omega⟩ : Fin 8192) (⟨8192 + (col t n).val, by omega⟩ : Fin 14336)) := by
  obtain ⟨-, e1, -⟩ := idx t
  unfold batch col
  blk_ext [iblk, V, e1]

/-- The sixteen rows after it. -/
theorem blk2 (c : Dev nD) (t : Fin cfg0.N) (h : t.val / 6 % 16 < 15) (r : Fin 16) (n : Fin 1024) :
    iblk m c 2 t (ix3 (0 : Fin 1) r n) = m ((c.tc : Thread nD τ).loc main_arg0) (ix3 (batch t) (⟨t.val / 6 % 16 * 512 + 512 + r.val, by omega⟩ : Fin 8192) (⟨8192 + (col t n).val, by omega⟩ : Fin 14336)) := by
  obtain ⟨-, -, e2, -⟩ := idx t
  rw [Nat.min_eq_left (by omega)] at e2
  unfold batch col
  blk_ext [iblk, V, e2]

/-- The taps. -/
theorem blk3 (c : Dev nD) (t : Fin cfg0.N) (k : Fin 4) (n : Fin 1024) :
    iblk m c 3 t (ix2 k n) = m ((c.tc : Thread nD τ).loc main_arg1) (ix3 (0 : Fin 1) k (col t n)) := by
  obtain ⟨-, -, -, e3, -⟩ := idx t
  unfold col
  show V m c main_v0 _ = _
  entry_read
  pointwise
  blk_ext [iblk, V, e3]

/-- The bias. -/
theorem blk4 (c : Dev nD) (t : Fin cfg0.N) (n : Fin 1024) :
    iblk m c 4 t (ix2 (0 : Fin 1) n) = m ((c.tc : Thread nD τ).loc main_arg2) (ix2 (0 : Fin 1) (col t n)) := by
  obtain ⟨-, -, -, -, e4, -⟩ := idx t
  unfold col
  show V m c main_v2 _ = _
  entry_read
  pointwise
  blk_ext [iblk, V, e4]

/-! ## The reference -/

/-- A product of extended reals. -/
abbrev mul (a b : EReal) : EReal := a * b

/-- A row of the sequence with two rows of zeros before it and one after it. -/
def padOf (x : Vec Ideal S2x8192x14336 .bf16) (b : Fin 2) (p : ℕ) (n : Fin 6144) : EReal :=
  if h : 2 ≤ p ∧ p - 2 < 8192 then x (ix3 b (⟨p - 2, h.2⟩ : Fin 8192) (⟨8192 + n.val, by omega⟩ : Fin 14336)) else 0

/-- The short convolution at a place. -/
def convOf (x : Vec Ideal S2x8192x14336 .bf16) (cw : Vec Ideal S1x4x6144 .f32) (cb : Vec Ideal S1x6144 .f32) (b : Fin 2) (s : Fin 8192) (n : Fin 6144) : EReal :=
  (((mul (padOf x b s.val n) (cw (ix3 (0 : Fin 1) (0 : Fin 4) n)) + mul (padOf x b (1 + s.val) n) (cw (ix3 (0 : Fin 1) (1 : Fin 4) n)))
    + mul (padOf x b (2 + s.val) n) (cw (ix3 (0 : Fin 1) (2 : Fin 4) n))) + mul (padOf x b (3 + s.val) n) (cw (ix3 (0 : Fin 1) (3 : Fin 4) n))) + (cb (ix2 (0 : Fin 1) n) : EReal)

/-- The padded rows, entry by entry. -/
theorem pad_at (x : Vec Ideal S2x8192x14336 .bf16) (b : Fin 2) (p : Fin 8195) (n : Fin 6144) :
    Cert.Reference11Ideal.Read.val_main_v4 (F := Ideal) x (ix3 b p n) = padOf x b p.val n := by
  unfold Cert.Reference11Ideal.Read.val_main_v4 Cert.Reference11Ideal.Read.val_main_v1 Cert.Reference11Ideal.Read.val_main_v0 Cert.Reference11Ideal.Read.val_main_call0_v0 Cert.Reference11Ideal.Read.val_main_c padOf
  pointwise
  rw [show FloatOps.sitofp (F := Ideal) FTy.f32 (0#32 : BitVec 32) = (0 : EReal) by simp [FloatOps.sitofp]]

/-- The taps, entry by entry. -/
theorem tap_at (cw : Vec Ideal S1x4x6144 .f32) (k : Fin 4) (n : Fin 6144) :
    Cert.Reference11Ideal.Read.val_main_v2 (F := Ideal) cw (ix2 k n) = cw (ix3 (0 : Fin 1) k n) := by
  unfold Cert.Reference11Ideal.Read.val_main_v2
  pointwise

/-- The reference's convolution is the one above. -/
theorem conv_ref (x : Vec Ideal S2x8192x14336 .bf16) (cw : Vec Ideal S1x4x6144 .f32) (cb : Vec Ideal S1x6144 .f32) (b : Fin 2) (s : Fin 8192) (n : Fin 6144) :
    Cert.Reference11Ideal.Read.val_main_v34 (F := Ideal) x cw cb (ix3 b s n) = convOf x cw cb b s n := by
  unfold Cert.Reference11Ideal.Read.val_main_v34 Cert.Reference11Ideal.Read.val_main_v31 Cert.Reference11Ideal.Read.val_main_v24 Cert.Reference11Ideal.Read.val_main_v17
    Cert.Reference11Ideal.Read.val_main_v10 Cert.Reference11Ideal.Read.val_main_v16 Cert.Reference11Ideal.Read.val_main_v23 Cert.Reference11Ideal.Read.val_main_v30
    Cert.Reference11Ideal.Read.val_main_v5 Cert.Reference11Ideal.Read.val_main_v11 Cert.Reference11Ideal.Read.val_main_v18 Cert.Reference11Ideal.Read.val_main_v25
    Cert.Reference11Ideal.Read.val_main_v9 Cert.Reference11Ideal.Read.val_main_v15 Cert.Reference11Ideal.Read.val_main_v22 Cert.Reference11Ideal.Read.val_main_v29
    Cert.Reference11Ideal.Read.val_main_v8 Cert.Reference11Ideal.Read.val_main_v14 Cert.Reference11Ideal.Read.val_main_v21 Cert.Reference11Ideal.Read.val_main_v28
    Cert.Reference11Ideal.Read.val_main_v7 Cert.Reference11Ideal.Read.val_main_v13 Cert.Reference11Ideal.Read.val_main_v20 Cert.Reference11Ideal.Read.val_main_v27
    Cert.Reference11Ideal.Read.val_main_v6 Cert.Reference11Ideal.Read.val_main_v12 Cert.Reference11Ideal.Read.val_main_v19 Cert.Reference11Ideal.Read.val_main_v26
    Cert.Reference11Ideal.Read.val_main_v33 Cert.Reference11Ideal.Read.val_main_v32 Cert.Reference11Ideal.Read.val_main_v3
  generalize hp : Cert.Reference11Ideal.Read.val_main_v4 (F := Ideal) x = p
  generalize hw : Cert.Reference11Ideal.Read.val_main_v2 (F := Ideal) cw = w
  pointwise
  subst hp hw
  unfold convOf
  simp only [pad_at, tap_at]

/-- The reference's result at a place: the convolution times its sigmoid. -/
theorem silu_ref (x : Vec Ideal S2x8192x14336 .bf16) (cw : Vec Ideal S1x4x6144 .f32) (cb : Vec Ideal S1x6144 .f32) (b : Fin 2) (s : Fin 8192) (n : Fin 6144) :
    Cert.Reference11Ideal.Read.val_main_v36 (F := Ideal) x cw cb (ix3 b s n) = silu (convOf x cw cb b s n) := by
  unfold silu
  rw [Scalars.div_one_add_exp, ← conv_ref]
  refine Eq.symm ((congrArg (fun a => _ * Ideal.div a (a + _)) Ideal.ofBits_one_f32.symm).trans ?_)
  rfl

/-! ## The two together -/

/-- The convolution's buffer holds the sequence's rows, nothing outside it. -/
theorem padded_eq (c : Dev nD) (t : Fin cfg0.N) (k : Fin 544) (h1 : 14 ≤ k.val) (h2 : k.val < 529) (n : Fin 1024) :
    padded (grid0.coords t) (iblk m c 0 t) (iblk m c 1 t) (iblk m c 2 t) k n
      = padOf (m ((c.tc : Thread nD τ).loc main_arg0)) (batch t) (t.val / 6 % 16 * 512 + k.val - 14) (col t n) := by
  unfold padded padOf
  rw [coord1]
  by_cases ha : k.val < 16
  · rw [dif_pos ha]
    by_cases hz : 0 < t.val / 6 % 16
    · rw [if_pos hz, dif_pos (by omega)]
      exact blk1 m c t hz ⟨k.val, ha⟩ n
    · rw [if_neg hz, dif_neg (by omega)]
  · rw [dif_neg ha]
    by_cases hb : k.val < 528
    · rw [dif_pos hb, dif_pos (by omega)]
      refine (blk0 m c t ⟨k.val - 16, by omega⟩ n).trans ?_
      congr 2
      apply Fin.ext
      show t.val / 6 % 16 * 512 + (k.val - 16) = t.val / 6 % 16 * 512 + k.val - 14 - 2
      omega
    · rw [dif_neg hb]
      by_cases hz : t.val / 6 % 16 < 15
      · rw [if_pos hz, dif_pos (by omega)]
        refine (blk2 m c t hz ⟨k.val - 528, by omega⟩ n).trans ?_
        congr 2
        apply Fin.ext
        show t.val / 6 % 16 * 512 + 512 + (k.val - 528) = t.val / 6 % 16 * 512 + k.val - 14 - 2
        omega
      · rw [if_neg hz, dif_neg (by omega)]

/-- A fifth term before four products, or after them with the factors the other way round. -/
theorem sum_four (b p0 p1 p2 p3 w0 w1 w2 w3 : EReal) :
    b + w0 * p0 + w1 * p1 + w2 * p2 + w3 * p3 = p0 * w0 + p1 * w1 + p2 * w2 + p3 * w3 + b := by
  rw [mul_comm w0, mul_comm w1, mul_comm w2, mul_comm w3, add_comm _ b]
  simp only [add_assoc]

/-- The point's convolution is the sequence's. -/
theorem conv_at (c : Dev nD) (t : Fin cfg0.N) (r : Fin 512) (n : Fin 1024) :
    (conv (grid0.coords t) (iblk m c 0 t) (iblk m c 1 t) (iblk m c 2 t) (iblk m c 3 t) (iblk m c 4 t) (ix2 r n) : EReal)
      = convOf (m ((c.tc : Thread nD τ).loc main_arg0)) (m ((c.tc : Thread nD τ).loc main_arg1)) (m ((c.tc : Thread nD τ).loc main_arg2)) (batch t) (place t r) (col t n) := by
  have p : ∀ (j : ℕ) (hj : j < 4) (hk : r.val + (14 + j) < 544), padded (grid0.coords t) (iblk m c 0 t) (iblk m c 1 t) (iblk m c 2 t) ⟨r.val + (14 + j), hk⟩ n
      = padOf (m ((c.tc : Thread nD τ).loc main_arg0)) (batch t) (j + (place t r).val) (col t n) := fun j hj hk => by
    rw [padded_eq m c t _ (by show 14 ≤ r.val + (14 + j); omega) (by show r.val + (14 + j) < 529; omega) n]
    congr 1
    show t.val / 6 % 16 * 512 + (r.val + (14 + j)) - 14 = j + (t.val / 6 % 16 * 512 + r.val)
    omega
  have q0 := p 0 (by omega) (by omega)
  have q1 := p 1 (by omega) (by omega)
  have q2 := p 2 (by omega) (by omega)
  have q3 := p 3 (by omega) (by omega)
  rw [Nat.zero_add] at q0
  unfold conv convOf
  rw [← q0, ← q1, ← q2, ← q3]
  refine Eq.trans ?_ (sum_four _ _ _ _ _ _ _ _ _)
  refine congrArg₂ (fun a b : EReal => a + b) (congrArg₂ (fun a b : EReal => a + b) (congrArg₂ (fun a b : EReal => a + b) (congrArg₂ (fun a b : EReal => a + b) (blk4 m c t n) ?_) ?_) ?_) ?_
  · exact congrArg (fun a : EReal => a * _) (blk3 m c t 0 n)
  · exact congrArg (fun a : EReal => a * _) (blk3 m c t 1 n)
  · exact congrArg (fun a : EReal => a * _) (blk3 m c t 2 n)
  · exact congrArg (fun a : EReal => a * _) (blk3 m c t 3 n)

/-- What the reference states, as a function of the three argument arrays. -/
abbrev G (c : Dev nD) : S2x8192x6144.Idx → Elt Ideal .bf16 :=
  Cert.Reference11Ideal.Read.val_main_v36 (F := Ideal) (m ((c.tc : Thread nD τ).loc main_arg0)) (m ((c.tc : Thread nD τ).loc main_arg1)) (m ((c.tc : Thread nD τ).loc main_arg2))

/-- The array the run leaves is what the reference states, index by index. -/
theorem arr (c : Dev nD) : (dats m 0 c).arrAt 5 cfg0.N = G m c := by
  refine (dats m 0 c).arrAt_eq_of_covers 5 _ (by decide +kernel) fun t hf y => ?_
  obtain ⟨-, -, -, -, -, e5⟩ := idx t
  blk_simp
  rw [after0_5]
  unfold outsAt0
  rw [out_eq]
  refine (congrArg silu (conv_at m c t (y 1) (y 2))).trans ?_
  rw [← silu_ref]
  unfold G batch place col
  blk_ext [e5]

/-- The reference runs, leaves its arguments as they were, and every counter ends at zero. -/
theorem frame_r : Cert.quiescent_Reference11Ideal := fun m ρ _ =>
  (θ_run _ _ _).mono (fun r h => ⟨fun c => (h c).2, sem_eq_zero_of_no_sems (by decide) r.2⟩)
    (Cert.Reference11Ideal.Value.run (F := Ideal) m ρ)

/-- From memories agreeing on the arguments, the kernel and the reference both run and end with equal results. -/
theorem algebraic : Cert.algebraic_Kernel11Ideal_Reference11Ideal := fun m ρ m' ρ' _ hag =>
  ⟨fun c => G m c,
    (θ_run _ _ _).mono (fun _ h c => ⟨(h c).1.trans (arr m c), (h c).2⟩) (Cert.Kernel11Ideal.Value.run_blocks (F := Ideal) m ρ),
    (θ_run _ _ _).mono (fun _ h c => ⟨(h c).1.trans (by
      rw [Cert.Reference11Ideal.Read.val_main_v36_eq]
      show _ = G m c
      unfold G
      rw [← (hag c).1, ← (hag c).2.1, ← (hag c).2.2]), (h c).2⟩)
      (Cert.Reference11Ideal.Value.run (F := Ideal) m' ρ')⟩

end Cert.ConvSilu

end
-- ==== Proof.InProjSteps.lean ====
/- The values of the odd layer's time-step projection (`kernel12`): the padded weights column by column, the product, and the whole array. -/
module

public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import proofs.«01_k».proof.Defs
public import Idealize.ShloMosaic.Lib.Claim

@[expose] public section

set_option maxRecDepth 16384

noncomputable section

namespace Cert.InProjSteps

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

/-- Where each window's block stands at point `t`, decided over the grid: the rows move with `t`. -/
theorem idx : ∀ t : Fin cfg0.N, win0_0.index t = ![t.val, 0] ∧ win0_1.index t = ![0, 0] ∧ win0_2.index t = ![t.val, 0] :=
  (by decide +kernel : ∀ t : Fin grid0.N, _)

/-- The column of the projection's weights that column `n` of the padded ones is a copy of, if it is one: eight groups of 128, in each
    the group's eight forward steps, its eight backward ones, the same sixteen again, and zeros. -/
def wOf (w : Vec Ideal S1x4096x14464 .f32) (k : Fin 4096) (n : Fin 1024) : EReal :=
  if n.val % 128 < 32 then
    w (ix3 (0 : Fin 1) k (⟨14336 + (n.val % 16 / 8 * 64 + n.val / 128 * 8 + n.val % 8), by omega⟩ : Fin 14464))
  else 0

/-- The forward steps' columns of the weights, as the host cuts them out before it joins the groups. -/
theorem entry3 (c : Dev nD) : StableHlo.after ((hostOps0 (F := Ideal)).take 7) (fun b => m (c, b)) (Proc.devRef .tc main_v3)
    = (shapeCast S4096x8x8 (extractStridedSlice S4096x64 ![0, 14336]
        (shapeCast S4096x14464 (m ((c.tc : Thread nD τ).loc main_arg1) : Vec Ideal S1x4096x14464 .f32) shapeCasts_S1x4096x14464_S4096x14464)
        slices_S4096x14464_S4096x64_0_14336) shapeCasts_S4096x64_S4096x8x8 : Vec Ideal S4096x8x8 .f32) := by
  simp only [hostOps0, List.take_succ_cons, List.take_zero]
  after_results <;> rfl

/-- The backward steps' columns of the weights, cut out likewise. -/
theorem entry4 (c : Dev nD) : StableHlo.after ((hostOps0 (F := Ideal)).take 7) (fun b => m (c, b)) (Proc.devRef .tc main_v4)
    = (shapeCast S4096x8x8 (extractStridedSlice S4096x64 ![0, 14400]
        (shapeCast S4096x14464 (m ((c.tc : Thread nD τ).loc main_arg1) : Vec Ideal S1x4096x14464 .f32) shapeCasts_S1x4096x14464_S4096x14464)
        slices_S4096x14464_S4096x64_0_14400) shapeCasts_S4096x64_S4096x8x8 : Vec Ideal S4096x8x8 .f32) := by
  simp only [hostOps0, List.take_succ_cons, List.take_zero]
  after_results <;> rfl

/-- The zeros that fill each group up. -/
theorem entry5 (c : Dev nD) : StableHlo.after ((hostOps0 (F := Ideal)).take 7) (fun b => m (c, b)) (Proc.devRef .tc main_v5)
    = (broadcastInDim S4096x8x96 ![] bcast_S_S4096x8x96 (constant (F := Ideal) S_ .f32 0x00000000#32) : Vec Ideal S4096x8x96 .f32) := by
  simp only [hostOps0, List.take_succ_cons, List.take_zero]
  after_results <;> rfl

/-- The padded weights the call reads: the groups joined, in the narrower format. -/
theorem entry8 (c : Dev nD) : V m c main_v8
    = (truncf (F := Ideal) .bf16 (shapeCast S4096x1024 (concatenate S4096x8x128 2
        [⟨S4096x8x8, (StableHlo.after ((hostOps0 (F := Ideal)).take 7) (fun b => m (c, b)) (Proc.devRef .tc main_v3) : Vec Ideal S4096x8x8 .f32)⟩,
         ⟨S4096x8x8, (StableHlo.after ((hostOps0 (F := Ideal)).take 7) (fun b => m (c, b)) (Proc.devRef .tc main_v4) : Vec Ideal S4096x8x8 .f32)⟩,
         ⟨S4096x8x8, (StableHlo.after ((hostOps0 (F := Ideal)).take 7) (fun b => m (c, b)) (Proc.devRef .tc main_v3) : Vec Ideal S4096x8x8 .f32)⟩,
         ⟨S4096x8x8, (StableHlo.after ((hostOps0 (F := Ideal)).take 7) (fun b => m (c, b)) (Proc.devRef .tc main_v4) : Vec Ideal S4096x8x8 .f32)⟩,
         ⟨S4096x8x96, (StableHlo.after ((hostOps0 (F := Ideal)).take 7) (fun b => m (c, b)) (Proc.devRef .tc main_v5) : Vec Ideal S4096x8x96 .f32)⟩]
        concatenates_S4096x8x8_S4096x8x8_S4096x8x8_S4096x8x8_S4096x8x96_S4096x8x128_d2) shapeCasts_S4096x8x128_S4096x1024 : Vec Ideal S4096x1024 .f32)
        bitsLt_bf16_f32 : Vec Ideal S4096x1024 .bf16) := by
  show StableHlo.after (hostOps0 (F := Ideal)) (fun b => m (c, b)) (Proc.devRef .tc main_v8) = _
  simp only [hostOps0, StableHlo.after_cons, StableHlo.after_nil, List.take_succ_cons, List.take_zero]
  rw [StableHlo.unary_result, StableHlo.reshape_result, StableHlo.nary_result]
  rfl

/-- Groups of 8, 8, 8, 8 and 96 joined and laid in one row, read at a column: the piece the column falls in, at its group. -/
theorem joined {R : Nat} (f b : (⟨3, ![R, 8, 8]⟩ : Shape).Idx → EReal) (z : (⟨3, ![R, 8, 96]⟩ : Shape).Idx → EReal)
    (hc : Shape.Concatenates ((([⟨_, f⟩, ⟨_, b⟩, ⟨_, f⟩, ⟨_, b⟩, ⟨_, z⟩] : List ((s : Shape) × (s.Idx → EReal)))).map (·.1)) (⟨3, ![R, 8, 128]⟩ : Shape) 2)
    (hs : (⟨3, ![R, 8, 128]⟩ : Shape).ShapeCasts ⟨2, ![R, 1024]⟩) (k : Fin R) (n : Fin 1024) :
    shapeCast (⟨2, ![R, 1024]⟩ : Shape) (concatenate (⟨3, ![R, 8, 128]⟩ : Shape) 2 [⟨_, f⟩, ⟨_, b⟩, ⟨_, f⟩, ⟨_, b⟩, ⟨_, z⟩] hc) hs (ix2 k n)
      = if h : n.val % 128 < 32 then
          (if n.val % 16 < 8 then f else b) (ix3 k (⟨n.val / 128, by omega⟩ : Fin 8) (⟨n.val % 8, by omega⟩ : Fin 8))
        else z (ix3 k (⟨n.val / 128, by omega⟩ : Fin 8) (⟨n.val % 128 - 32, by omega⟩ : Fin 96)) := by
  have hn := n.isLt
  rw [shapeCast_apply _ _ _ (ix3 k (⟨n.val / 128, by omega⟩ : Fin 8) (⟨n.val % 128, by omega⟩ : Fin 128)) (by
    rw [Shape.rowMajor_val_three, Shape.rowMajor_val_two]
    show (k.val * 8 + n.val / 128) * 128 + n.val % 128 = k.val * 1024 + n.val
    omega)]
  have off : ∀ (N : Nat) (i : Fin N), ∀ a : Fin 3, a ≠ 2 →
      ((ix3 k (⟨n.val / 128, by omega⟩ : Fin 8) i) a).val
        = ((ix3 k (⟨n.val / 128, by omega⟩ : Fin 8) (⟨n.val % 128, by omega⟩ : Fin 128)) a).val := by
    intro N i a ha
    fin_cases a
    · rfl
    · rfl
    · exact absurd rfl ha
  split
  · rename_i h
    split
    · rename_i h8
      by_cases h16 : n.val % 128 < 16
      · exact concatenate_apply_piece (t := ⟨3, ![R, 8, 128]⟩) 2 _ hc (ix3 k (⟨n.val / 128, by omega⟩ : Fin 8) (⟨n.val % 128, by omega⟩ : Fin 128))
          0 (by show 0 < 5; omega) ⟨3, ![R, 8, 8]⟩ f rfl rfl 0 rfl (ix3 k (⟨n.val / 128, by omega⟩ : Fin 8) (⟨n.val % 8, by omega⟩ : Fin 8)) (off 8 _)
          (by show 0 + n.val % 8 = n.val % 128; omega)
      · exact concatenate_apply_piece (t := ⟨3, ![R, 8, 128]⟩) 2 _ hc (ix3 k (⟨n.val / 128, by omega⟩ : Fin 8) (⟨n.val % 128, by omega⟩ : Fin 128))
          2 (by show 2 < 5; omega) ⟨3, ![R, 8, 8]⟩ f rfl rfl 16 rfl (ix3 k (⟨n.val / 128, by omega⟩ : Fin 8) (⟨n.val % 8, by omega⟩ : Fin 8)) (off 8 _)
          (by show 16 + n.val % 8 = n.val % 128; omega)
    · rename_i h8
      by_cases h16 : n.val % 128 < 16
      · exact concatenate_apply_piece (t := ⟨3, ![R, 8, 128]⟩) 2 _ hc (ix3 k (⟨n.val / 128, by omega⟩ : Fin 8) (⟨n.val % 128, by omega⟩ : Fin 128))
          1 (by show 1 < 5; omega) ⟨3, ![R, 8, 8]⟩ b rfl rfl 8 rfl (ix3 k (⟨n.val / 128, by omega⟩ : Fin 8) (⟨n.val % 8, by omega⟩ : Fin 8)) (off 8 _)
          (by show 8 + n.val % 8 = n.val % 128; omega)
      · exact concatenate_apply_piece (t := ⟨3, ![R, 8, 128]⟩) 2 _ hc (ix3 k (⟨n.val / 128, by omega⟩ : Fin 8) (⟨n.val % 128, by omega⟩ : Fin 128))
          3 (by show 3 < 5; omega) ⟨3, ![R, 8, 8]⟩ b rfl rfl 24 rfl (ix3 k (⟨n.val / 128, by omega⟩ : Fin 8) (⟨n.val % 8, by omega⟩ : Fin 8)) (off 8 _)
          (by show 24 + n.val % 8 = n.val % 128; omega)
  · rename_i h
    exact concatenate_apply_piece (t := ⟨3, ![R, 8, 128]⟩) 2 _ hc (ix3 k (⟨n.val / 128, by omega⟩ : Fin 8) (⟨n.val % 128, by omega⟩ : Fin 128))
          4 (by show 4 < 5; omega) ⟨3, ![R, 8, 96]⟩ z rfl rfl 32 rfl (ix3 k (⟨n.val / 128, by omega⟩ : Fin 8) (⟨n.val % 128 - 32, by omega⟩ : Fin 96)) (off 96 _)
          (by show 32 + (n.val % 128 - 32) = n.val % 128; omega)

/-- Sixty-four columns seen as eight groups of eight, read at a group and a place in it. -/
theorem grouped {R : Nat} (x : (⟨2, ![R, 64]⟩ : Shape).Idx → EReal) (hs : (⟨2, ![R, 64]⟩ : Shape).ShapeCasts ⟨3, ![R, 8, 8]⟩)
    (k : Fin R) (g i : Fin 8) :
    shapeCast (⟨3, ![R, 8, 8]⟩ : Shape) x hs (ix3 k g i) = x (ix2 k (⟨g.val * 8 + i.val, by omega⟩ : Fin 64)) :=
  shapeCast_apply _ _ _ _ (by
    rw [Shape.rowMajor_val_three, Shape.rowMajor_val_two]
    show k.val * 64 + (g.val * 8 + i.val) = (k.val * 8 + g.val) * 8 + i.val
    omega)

/-- Sixty-four columns cut out of the weights with their leading axis dropped, read at a row and a column. -/
theorem cutOut (o : Nat) (w : Vec Ideal S1x4096x14464 .f32) (h : S4096x14464.Slices ![0, o] S4096x64) (k : Fin 4096) (i : Fin 64)
    (hi : o + i.val < 14464) :
    extractStridedSlice S4096x64 ![0, o] (shapeCast S4096x14464 w shapeCasts_S1x4096x14464_S4096x14464) h (ix2 k i)
      = w (ix3 (0 : Fin 1) k (⟨o + i.val, hi⟩ : Fin 14464)) := by
  rw [extractStridedSlice_apply _ _ h _ (ix2 k (⟨o + i.val, hi⟩ : Fin 14464)) (fun a => match a with
    | ⟨0, _⟩ => (Nat.zero_add _).symm
    | ⟨1, _⟩ => rfl)]
  exact shapeCast_apply _ _ _ _ (by
    rw [Shape.rowMajor_val_three, Shape.rowMajor_val_two]
    show (0 * 4096 + k.val) * 14464 + (o + i.val) = k.val * 14464 + (o + i.val)
    omega)

/-- The call's block of the padded weights is all of them, each column the one `wOf` names. -/
theorem blk1 (c : Dev nD) (t : Fin cfg0.N) (k : Fin 4096) (n : Fin 1024) :
    iblk m c 1 t (ix2 k n) = wOf (m ((c.tc : Thread nD τ).loc main_arg1)) k n := by
  obtain ⟨-, e1, -⟩ := idx t
  have hi : ((cfg0.win 1).blk t).view.emb (ix2 k n) = (ix2 k n : S4096x1024.Idx) := by
    blk_ext [e1]
  show V m c main_v8 (((cfg0.win 1).blk t).view.emb (ix2 k n)) = _
  rw [hi, entry8, entry3, entry4, entry5]
  have cut : ∀ x : Vec Ideal S4096x1024 .f32, truncf (F := Ideal) .bf16 x bitsLt_bf16_f32 (ix2 k n) = x (ix2 k n) := fun x => by pointwise
  rw [cut, joined]
  unfold wOf
  split
  · rename_i h
    split
    · rename_i h8
      rw [grouped, cutOut _ _ _ _ _ (by show 14336 + (n.val / 128 * 8 + n.val % 8) < 14464; omega)]
      refine congrArg _ (congrArg (ix3 (0 : Fin 1) k) (Fin.ext ?_))
      show 14336 + (n.val / 128 * 8 + n.val % 8) = 14336 + (n.val % 16 / 8 * 64 + n.val / 128 * 8 + n.val % 8)
      omega
    · rename_i h8
      rw [grouped, cutOut _ _ _ _ _ (by show 14400 + (n.val / 128 * 8 + n.val % 8) < 14464; omega)]
      refine congrArg _ (congrArg (ix3 (0 : Fin 1) k) (Fin.ext ?_))
      show 14400 + (n.val / 128 * 8 + n.val % 8) = 14336 + (n.val % 16 / 8 * 64 + n.val / 128 * 8 + n.val % 8)
      omega
  · pointwise

/-- The padded time steps: at a row and a column, the row's sum against the column `wOf` names. -/
def steps (x : Vec Ideal S16384x4096 .bf16) (w : Vec Ideal S1x4096x14464 .f32) (i : S16384x1024.Idx) : EReal :=
  ∑ k : Fin 4096, x (ix2 (i 0) k) * wOf w k (i 1)

/-- The array the run leaves is the padded time steps, index by index. -/
theorem arr (c : Dev nD) : (dats m 0 c).arrAt 2 cfg0.N
    = steps (m ((c.tc : Thread nD τ).loc main_arg0)) (m ((c.tc : Thread nD τ).loc main_arg1)) := by
  refine (dats m 0 c).arrAt_eq_of_covers 2 _ (by decide +kernel) fun t hf y => ?_
  obtain ⟨e0, e1, e2⟩ := idx t
  blk_simp
  rw [after0_2]
  frame_out
  pointwise [k0_pay1]
  unfold steps
  refine Finset.sum_congr (M := EReal) rfl fun k _ => ?_
  refine congrArg₂ (fun a b : EReal => a * b) ?_ ?_
  · blk_ext [iblk, V, e0, e2]
  · have hy : ((View.whole main_v9).slice (win0_2.rect t)).emb y = (ix2 ((((View.whole main_v9).slice (win0_2.rect t)).emb y) 0) (y 1) : S16384x1024.Idx) := by
      blk_ext [e2]
    exact (blk1 m c t k (y 1)).trans (congrArg (wOf _ k) (congrFun hy 1).symm)

/-- The reference's product of the time steps' columns: at a row and a column, the sum over the model's channels. -/
theorem product (x : Vec Ideal S16384x4096 .bf16) (w : Vec Ideal S1x4096x14464 .f32) (r : Fin 16384) (j : Fin 128) :
    Cert.Reference12Ideal.Read.val_main_v3 (F := Ideal) x w (ix2 r j)
      = ∑ k : Fin 4096, x (ix2 r k) * w (ix3 (0 : Fin 1) k (⟨14336 + j.val, by omega⟩ : Fin 14464)) := by
  rw [Cert.Reference12Ideal.Read.val_main_v3_apply]
  refine Finset.sum_congr rfl fun k _ => ?_
  rw [Cert.Reference12Ideal.Read.val_main_v2_apply, Cert.Reference12Ideal.Read.val_main_v1_apply, Cert.Reference12Ideal.Read.val_main_v0_apply]
  refine congrArg₂ (fun a b : EReal => a * b) ?_ ?_
  · show x _ = x _
    refine congrArg x (funext fun a => ?_)
    fin_cases a <;> rfl
  · refine congrArg w (funext fun a => Fin.ext ?_)
    have hj := j.isLt
    have hk := k.isLt
    fin_cases a
    · rfl
    · show (k.val * 128 + j.val) / 128 % 4096 = k.val
      omega
    · show 14336 + (k.val * 128 + j.val) % 128 = 14336 + j.val
      omega

/-- What the reference computes is the padded time steps. -/
theorem stated (x : Vec Ideal S16384x4096 .bf16) (w : Vec Ideal S1x4096x14464 .f32) :
    Cert.Reference12Ideal.Read.val_main_v10 (F := Ideal) x w = steps x w := by
  funext i
  obtain ⟨r, n, rfl⟩ : ∃ (r : Fin 16384) (n : Fin 1024), i = ix2 r n := ⟨i 0, i 1, by funext a; fin_cases a <;> rfl⟩
  unfold Cert.Reference12Ideal.Read.val_main_v10 Cert.Reference12Ideal.Read.val_main_v9
  rw [joined]
  show _ = ∑ k : Fin 4096, x (ix2 r k) * wOf w k n
  split
  · rename_i h
    split
    · rename_i h8
      unfold Cert.Reference12Ideal.Read.val_main_v5
      rw [grouped, Cert.Reference12Ideal.Read.val_main_v4_apply]
      refine ((congrArg _ ?_).trans (product x w r (⟨n.val / 128 * 8 + n.val % 8, by omega⟩ : Fin 128))).trans
        (Finset.sum_congr rfl fun k _ => congrArg _ ?_)
      · funext a; fin_cases a <;> rfl
      · unfold wOf
        rw [if_pos h]
        refine congrArg _ (congrArg (ix3 (0 : Fin 1) k) (Fin.ext ?_))
        show 14336 + (n.val / 128 * 8 + n.val % 8) = 14336 + (n.val % 16 / 8 * 64 + n.val / 128 * 8 + n.val % 8)
        omega
    · rename_i h8
      unfold Cert.Reference12Ideal.Read.val_main_v7
      rw [grouped, Cert.Reference12Ideal.Read.val_main_v6_apply]
      refine ((congrArg _ ?_).trans (product x w r (⟨64 + (n.val / 128 * 8 + n.val % 8), by omega⟩ : Fin 128))).trans
        (Finset.sum_congr rfl fun k _ => congrArg _ ?_)
      · funext a; fin_cases a <;> rfl
      · unfold wOf
        rw [if_pos h]
        refine congrArg _ (congrArg (ix3 (0 : Fin 1) k) (Fin.ext ?_))
        show 14336 + (64 + (n.val / 128 * 8 + n.val % 8)) = 14336 + (n.val % 16 / 8 * 64 + n.val / 128 * 8 + n.val % 8)
        omega
  · rename_i h
    refine Eq.trans ?_ (Finset.sum_eq_zero fun k _ => ?_).symm
    · unfold Cert.Reference12Ideal.Read.val_main_v8 Cert.Reference12Ideal.Read.val_main_cst
      pointwise
    · unfold wOf
      rw [if_neg h]
      exact mul_zero _

/-- The reference runs, leaves its arguments as they were, and every counter ends at zero. -/
theorem frame_r : Cert.quiescent_Reference12Ideal := fun m ρ _ =>
  (θ_run _ _ _).mono (fun r h => ⟨fun c => (h c).2, sem_eq_zero_of_no_sems (by decide) r.2⟩)
    (Cert.Reference12Ideal.Value.run (F := Ideal) m ρ)

/-- From memories agreeing on the arguments, the kernel and the reference both run and end with equal results. -/
theorem algebraic : Cert.algebraic_Kernel12Ideal_Reference12Ideal := fun m ρ m' ρ' _ hag =>
  ⟨fun c => steps (m ((c.tc : Thread nD τ).loc main_arg0)) (m ((c.tc : Thread nD τ).loc main_arg1)),
    (θ_run _ _ _).mono (fun _ h c => ⟨(h c).1.trans (arr m c), (h c).2⟩) (Cert.Kernel12Ideal.Value.run_blocks (F := Ideal) m ρ),
    (θ_run _ _ _).mono (fun _ h c => ⟨(h c).1.trans ((Cert.Reference12Ideal.Read.val_main_v10_eq _ _).trans (by
      rw [stated, (hag c).1, (hag c).2])), (h c).2⟩)
      (Cert.Reference12Ideal.Value.run (F := Ideal) m' ρ')⟩

end Cert.InProjSteps

end
-- ==== Proof.lean ====
/- The proof of the claims `proofs.«01_k».Defs` states: every program's side conditions, then the frames, then the two value
   claims of each program, each from its own module. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Lru
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.InProj
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Frame
public import proofs.«01_k».proof.Proof.GluUp
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Frame
public import proofs.«01_k».proof.Proof.FfnDown
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Kernel5Ideal.Frame
public import proofs.«01_k».proof.Proof.OutProj
public import proofs.«01_k».proof.Proof.Gen.Kernel6
public import proofs.«01_k».proof.Proof.Gen.Kernel6Ideal
public import proofs.«01_k».proof.Proof.Gen.Reference6Ideal
public import proofs.«01_k».proof.Proof.Gen.Kernel6.Frame
public import proofs.«01_k».proof.Proof.Gen.Kernel6Ideal.Frame
public import proofs.«01_k».proof.Proof.InProjOdd
public import proofs.«01_k».proof.Proof.Gen.Kernel7
public import proofs.«01_k».proof.Proof.Gen.Kernel7Ideal
public import proofs.«01_k».proof.Proof.Gen.Reference7Ideal
public import proofs.«01_k».proof.Proof.Gen.Kernel7.Frame
public import proofs.«01_k».proof.Proof.Gen.Kernel7Ideal.Frame
public import proofs.«01_k».proof.Proof.OutProjOdd
public import proofs.«01_k».proof.Proof.Gen.Kernel8
public import proofs.«01_k».proof.Proof.Gen.Kernel8Ideal
public import proofs.«01_k».proof.Proof.Gen.Reference8Ideal
public import proofs.«01_k».proof.Proof.Gen.Kernel8.Frame
public import proofs.«01_k».proof.Proof.Gen.Kernel8Ideal.Frame
public import proofs.«01_k».proof.Proof.NormMod
public import proofs.«01_k».proof.Proof.Gen.Kernel9
public import proofs.«01_k».proof.Proof.Gen.Kernel9Ideal
public import proofs.«01_k».proof.Proof.Gen.Reference9Ideal
public import proofs.«01_k».proof.Proof.Gen.Kernel9.Frame
public import proofs.«01_k».proof.Proof.Gen.Kernel9Ideal.Frame
public import proofs.«01_k».proof.Proof.ModVectors
public import proofs.«01_k».proof.Proof.Gen.Kernel10
public import proofs.«01_k».proof.Proof.Gen.Kernel10Ideal
public import proofs.«01_k».proof.Proof.Gen.Reference10Ideal
public import proofs.«01_k».proof.Proof.Gen.Kernel10.Frame
public import proofs.«01_k».proof.Proof.Gen.Kernel10Ideal.Frame
public import proofs.«01_k».proof.Proof.FinalNorm
public import proofs.«01_k».proof.Proof.Gen.Kernel11
public import proofs.«01_k».proof.Proof.Gen.Kernel11Ideal
public import proofs.«01_k».proof.Proof.Gen.Reference11Ideal
public import proofs.«01_k».proof.Proof.Gen.Kernel11.Frame
public import proofs.«01_k».proof.Proof.Gen.Kernel11Ideal.Frame
public import proofs.«01_k».proof.Proof.ConvSilu
public import proofs.«01_k».proof.Proof.Gen.Kernel12
public import proofs.«01_k».proof.Proof.Gen.Kernel12Ideal
public import proofs.«01_k».proof.Proof.Gen.Reference12Ideal
public import proofs.«01_k».proof.Proof.Gen.Kernel12.Frame
public import proofs.«01_k».proof.Proof.Gen.Kernel12Ideal.Frame
public import proofs.«01_k».proof.Proof.InProjSteps
public import Idealize.ShloMosaic.Adequacy
public import Idealize.ShloMosaic.Init

@[expose] public section

noncomputable section

namespace Cert.Proof

open Idealize.ShloMosaic Idealize.SL.Sem

/-- Every claim: the side conditions, then per program that it runs and leaves its arguments as they were, and per kernel that
    its idealization is its own text and that it computes what its reference states. -/
theorem claim : Cert.Claim := ⟨
  Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Lru.frame_k,
  Cert.Lru.frame_ki,
  Cert.Lru.frame_r,
  fun m ρ _ => Cert.Kernel2.Gen.frame m ρ,
  fun m ρ _ => Cert.Kernel2Ideal.Gen.frame m ρ,
  Cert.InProj.frame_r,
  fun m ρ _ => Cert.Kernel3.Gen.frame m ρ,
  fun m ρ _ => Cert.Kernel3Ideal.Gen.frame m ρ,
  Cert.GluUp.frame_r,
  fun m ρ _ => Cert.Kernel4.Gen.frame m ρ,
  fun m ρ _ => Cert.Kernel4Ideal.Gen.frame m ρ,
  Cert.FfnDown.frame_r,
  fun m ρ _ => Cert.Kernel5.Gen.frame m ρ,
  fun m ρ _ => Cert.Kernel5Ideal.Gen.frame m ρ,
  Cert.OutProj.frame_r,
  fun m ρ _ => Cert.Kernel6.Gen.frame m ρ,
  fun m ρ _ => Cert.Kernel6Ideal.Gen.frame m ρ,
  Cert.InProjOdd.frame_r,
  fun m ρ _ => Cert.Kernel7.Gen.frame m ρ,
  fun m ρ _ => Cert.Kernel7Ideal.Gen.frame m ρ,
  Cert.OutProjOdd.frame_r,
  fun m ρ _ => Cert.Kernel8.Gen.frame m ρ,
  fun m ρ _ => Cert.Kernel8Ideal.Gen.frame m ρ,
  Cert.NormMod.frame_r,
  fun m ρ _ => Cert.Kernel9.Gen.frame m ρ,
  fun m ρ _ => Cert.Kernel9Ideal.Gen.frame m ρ,
  Cert.ModVectors.frame_r,
  fun m ρ _ => Cert.Kernel10.Gen.frame m ρ,
  fun m ρ _ => Cert.Kernel10Ideal.Gen.frame m ρ,
  Cert.FinalNorm.frame_r,
  fun m ρ _ => Cert.Kernel11.Gen.frame m ρ,
  fun m ρ _ => Cert.Kernel11Ideal.Gen.frame m ρ,
  Cert.ConvSilu.frame_r,
  fun m ρ _ => Cert.Kernel12.Gen.frame m ρ,
  fun m ρ _ => Cert.Kernel12Ideal.Gen.frame m ρ,
  Cert.InProjSteps.frame_r,
  trivial,
  Cert.Lru.algebraic,
  trivial,
  Cert.InProj.algebraic,
  trivial,
  Cert.GluUp.algebraic,
  trivial,
  Cert.FfnDown.algebraic,
  trivial,
  Cert.OutProj.algebraic,
  trivial,
  Cert.InProjOdd.algebraic,
  trivial,
  Cert.OutProjOdd.algebraic,
  trivial,
  Cert.NormMod.algebraic,
  trivial,
  Cert.ModVectors.algebraic,
  trivial,
  Cert.FinalNorm.algebraic,
  trivial,
  Cert.ConvSilu.algebraic,
  trivial,
  Cert.InProjSteps.algebraic⟩

end Cert.Proof

end
